-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_tame [hPre_boxes_tame : Cert.Pre_boxes_tame.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_tame [hPre_boxes_tame : Cert.Pre_boxes_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_tame [hKernelIdeal : Cert.KernelIdeal.Facts] [hPre_boxes_tame : Cert.Pre_boxes_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_tame [hReferenceIdeal : Cert.ReferenceIdeal.Facts] [hPre_boxes_tame : Cert.Pre_boxes_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boxes_tame [hKernelIdeal : Cert.KernelIdeal.Facts] [hReferenceIdeal : Cert.ReferenceIdeal.Facts] [hPre_boxes_tame : Cert.Pre_boxes_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v304) = v1 c
          ∧ r.2.mem ((c.tc : Thread Cert.ReferenceIdeal.nD Cert.ReferenceIdeal.τ).loc Cert.ReferenceIdeal.main_v308) = v2 c
          ∧ r.2.mem ((c.tc : Thread Cert.ReferenceIdeal.nD Cert.ReferenceIdeal.τ).loc Cert.ReferenceIdeal.main_v298) = v3 c
          ∧ r.2.mem ((c.tc : Thread Cert.ReferenceIdeal.nD Cert.ReferenceIdeal.τ).loc Cert.ReferenceIdeal.main_v309) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_tame : Cert.Pre_boxes_tame.Facts),
    quiescent_Kernel (hKernel := hKernel)
    ∧ quiescent_KernelIdeal (hKernelIdeal := hKernelIdeal)
    ∧ quiescent_KernelIdeal_pre_boxes_tame (hKernelIdeal := hKernelIdeal) (hPre_boxes_tame := hPre_boxes_tame)
    ∧ quiescent_ReferenceIdeal (hReferenceIdeal := hReferenceIdeal)
    ∧ quiescent_ReferenceIdeal_pre_boxes_tame (hReferenceIdeal := hReferenceIdeal) (hPre_boxes_tame := hPre_boxes_tame)
    ∧ preserves_Kernel_KernelIdeal
    ∧ algebraic_KernelIdeal_ReferenceIdeal_pre_boxes_tame (hKernelIdeal := hKernelIdeal) (hReferenceIdeal := hReferenceIdeal) (hPre_boxes_tame := hPre_boxes_tame)
-- ==== Pre_boxes_tame.lean ====
abbrev S8x100 : Shape := ⟨2, ![8, 100]⟩
abbrev S8x100x5 : Shape := ⟨3, ![8, 100, 5]⟩
abbrev S8x5x2 : Shape := ⟨3, ![8, 5, 2]⟩
abbrev S8x100x1 : Shape := ⟨3, ![8, 100, 1]⟩
abbrev S_ : Shape := ⟨0, ![]⟩

class Facts : Prop where
  slices_S8x100x5_S8x100x1_0_0_2 : S8x100x5.Slices ![0, 0, 2] S8x100x1
  shapeCasts_S8x100x1_S8x100 : S8x100x1.ShapeCasts S8x100
  slices_S8x100x5_S8x100x1_0_0_0 : S8x100x5.Slices ![0, 0, 0] S8x100x1
  slices_S8x100x5_S8x100x1_0_0_3 : S8x100x5.Slices ![0, 0, 3] S8x100x1
  slices_S8x100x5_S8x100x1_0_0_1 : S8x100x5.Slices ![0, 0, 1] S8x100x1
  slices_S8x100x5_S8x100x1_0_0_4 : S8x100x5.Slices ![0, 0, 4] S8x100x1
  bcast_S_S8x100 : S_.BroadcastsInDim S8x100 (![] : Fin 0 → Fin S8x100.rank)
  reducesTo_S8x100_S_d0_1 : S8x100.ReducesTo [0, 1] S_
  h_S_ : 0 < S_.numel

variable [Facts]

def fn_part1 {F : FTy → Type} [FloatOps F] (main_v11 : FVec F S8x100 .f32) (main_v20 : IVec S8x100 1) : IVec S_ 1 :=
  let main_v21 : FVec F S8x100 .f32 := Host.floor main_v11
  let main_v22 : IVec S8x100 1 := cmpf .oeq main_v11 main_v21
  let main_v23 : IVec S8x100 1 := andi main_v20 main_v22
  let main_c : IVec S_ 1 := constantI S_ 1 1#1
  let main_v24 : IVec S_ 1 := (fun x v => Host.reduce IntOp.andi x v reducesTo_S8x100_S_d0_1 h_S_) main_v23 main_c
  main_v24

def fn {F : FTy → Type} [FloatOps F] (main_arg0 : IVec S8x100 32) (main_arg1 : FVec F S8x100x5 .f32) (main_arg2 : IVec S8x5x2 32) : IVec S_ 1 :=
  let main_v0 : FVec F S8x100x1 .f32 := (extractStridedSlice S8x100x1 ![0, 0, 2] · slices_S8x100x5_S8x100x1_0_0_2) main_arg1
  let main_v1 : FVec F S8x100 .f32 := shapeCast S8x100 main_v0 shapeCasts_S8x100x1_S8x100
  let main_v2 : FVec F S8x100x1 .f32 := (extractStridedSlice S8x100x1 ![0, 0, 0] · slices_S8x100x5_S8x100x1_0_0_0) main_arg1
  let main_v3 : FVec F S8x100 .f32 := shapeCast S8x100 main_v2 shapeCasts_S8x100x1_S8x100
  let main_v4 : FVec F S8x100 .f32 := subf main_v1 main_v3
  let main_v5 : FVec F S8x100x1 .f32 := (extractStridedSlice S8x100x1 ![0, 0, 3] · slices_S8x100x5_S8x100x1_0_0_3) main_arg1
  let main_v6 : FVec F S8x100 .f32 := shapeCast S8x100 main_v5 shapeCasts_S8x100x1_S8x100
  let main_v7 : FVec F S8x100x1 .f32 := (extractStridedSlice S8x100x1 ![0, 0, 1] · slices_S8x100x5_S8x100x1_0_0_1) main_arg1
  let main_v8 : FVec F S8x100 .f32 := shapeCast S8x100 main_v7 shapeCasts_S8x100x1_S8x100
  let main_v9 : FVec F S8x100 .f32 := subf main_v6 main_v8
  let main_v10 : FVec F S8x100x1 .f32 := (extractStridedSlice S8x100x1 ![0, 0, 4] · slices_S8x100x5_S8x100x1_0_0_4) main_arg1
  let main_v11 : FVec F S8x100 .f32 := shapeCast S8x100 main_v10 shapeCasts_S8x100x1_S8x100
  let main_cst : FVec F S_ .f32 := constant S_ .f32 0x00000000#32
  let main_v12 : FVec F S8x100 .f32 := broadcastInDim S8x100 ![] bcast_S_S8x100 main_cst
  let main_v13 : IVec S8x100 1 := cmpf .oge main_v4 main_v12
  let main_cst_0 : FVec F S_ .f32 := constant S_ .f32 0x00000000#32
  let main_v14 : FVec F S8x100 .f32 := broadcastInDim S8x100 ![] bcast_S_S8x100 main_cst_0
  let main_v15 : IVec S8x100 1 := cmpf .oge main_v9 main_v14
  let main_v16 : IVec S8x100 1 := andi main_v13 main_v15
  let main_v17 : FVec F S8x100 .f32 := mulf main_v4 main_v9
  let main_cst_1 : FVec F S_ .f32 := constant S_ .f32 0x4B189680#32
  let main_v18 : FVec F S8x100 .f32 := broadcastInDim S8x100 ![] bcast_S_S8x100 main_cst_1
  let main_v19 : IVec S8x100 1 := cmpf .olt main_v17 main_v18
  let main_v20 : IVec S8x100 1 := andi main_v16 main_v19
  fn_part1 (F := F) main_v11 main_v20
-- ==== Kernel.lean ====
abbrev S8x100 : Shape := ⟨2, ![8, 100]⟩
abbrev S8x100x5 : Shape := ⟨3, ![8, 100, 5]⟩
abbrev S8x5x2 : Shape := ⟨3, ![8, 5, 2]⟩
abbrev S25x14x64x4 : Shape := ⟨4, ![25, 14, 64, 4]⟩
abbrev S350 : Shape := ⟨1, ![350]⟩
abbrev S8x5x100 : Shape := ⟨3, ![8, 5, 100]⟩
abbrev S8x1x100 : Shape := ⟨3, ![8, 1, 100]⟩
abbrev S8x6x100 : Shape := ⟨3, ![8, 6, 100]⟩
abbrev S8x21824x80 : Shape := ⟨3, ![8, 21824, 80]⟩
abbrev S8x21824x8 : Shape := ⟨3, ![8, 21824, 8]⟩
abbrev S8x1x1 : Shape := ⟨3, ![8, 1, 1]⟩
abbrev S1x6x100 : Shape := ⟨3, ![1, 6, 100]⟩
abbrev S1x100x5 : Shape := ⟨3, ![1, 100, 5]⟩
abbrev S1x14x64x4 : Shape := ⟨4, ![1, 14, 64, 4]⟩
abbrev S1x896x80 : Shape := ⟨3, ![1, 896, 80]⟩
abbrev S1x896x8 : Shape := ⟨3, ![1, 896, 8]⟩
abbrev S1x1x1 : Shape := ⟨3, ![1, 1, 1]⟩
abbrev S48x100 : Shape := ⟨2, ![48, 100]⟩
abbrev S100x80 : Shape := ⟨2, ![100, 80]⟩
abbrev S6x100 : Shape := ⟨2, ![6, 100]⟩
abbrev S1x100 : Shape := ⟨2, ![1, 100]⟩
abbrev S100x5 : Shape := ⟨2, ![100, 5]⟩
abbrev S100x1 : Shape := ⟨2, ![100, 1]⟩
abbrev S100x100 : Shape := ⟨2, ![100, 100]⟩
abbrev S100 : Shape := ⟨1, ![100]⟩
abbrev S1x1x64x4 : Shape := ⟨4, ![1, 1, 64, 4]⟩
abbrev S64x4 : Shape := ⟨2, ![64, 4]⟩
abbrev S64x1 : Shape := ⟨2, ![64, 1]⟩
abbrev S1 : Shape := ⟨1, ![1]⟩
abbrev S4x100 : Shape := ⟨2, ![4, 100]⟩
abbrev S64x100 : Shape := ⟨2, ![64, 100]⟩
abbrev S64 : Shape := ⟨1, ![64]⟩
abbrev S100x4 : Shape := ⟨2, ![100, 4]⟩
abbrev S64x80 : Shape := ⟨2, ![64, 80]⟩
abbrev S1x64x80 : Shape := ⟨3, ![1, 64, 80]⟩
abbrev S64x2 : Shape := ⟨2, ![64, 2]⟩
abbrev S1x4 : Shape := ⟨2, ![1, 4]⟩
abbrev S64x8 : Shape := ⟨2, ![64, 8]⟩
abbrev S1x64x8 : Shape := ⟨3, ![1, 64, 8]⟩
abbrev S1x64x1 : Shape := ⟨3, ![1, 64, 1]⟩
abbrev S8x21824x1 : Shape := ⟨3, ![8, 21824, 1]⟩
abbrev S8x21824 : Shape := ⟨2, ![8, 21824]⟩
abbrev S_ : Shape := ⟨0, ![]⟩
abbrev S8 : Shape := ⟨1, ![8]⟩
abbrev S8x21824x4 : Shape := ⟨3, ![8, 21824, 4]⟩

abbrev nBuf : Space → Nat
  | .hbm => 23
  | .vmem => 14
  | .smem => 1
  | _ => 0

abbrev bufTy : (tb : Table) → Fin (tcTables nBuf tb) → BufTy
  | .hbm, ⟨0, _⟩ => ⟨S8x100, .i32⟩
  | .hbm, ⟨1, _⟩ => ⟨S8x100x5, .f32⟩
  | .hbm, ⟨2, _⟩ => ⟨S8x5x2, .i32⟩
  | .hbm, ⟨3, _⟩ => ⟨S25x14x64x4, .f32⟩
  | .hbm, ⟨4, _⟩ => ⟨S8x5x100, .f32⟩
  | .hbm, ⟨5, _⟩ => ⟨S8x1x100, .i32⟩
  | .hbm, ⟨6, _⟩ => ⟨S8x1x100, .f32⟩
  | .hbm, ⟨7, _⟩ => ⟨S8x6x100, .f32⟩
  | .hbm, ⟨8, _⟩ => ⟨S8x21824x80, .f32⟩
  | .hbm, ⟨9, _⟩ => ⟨S8x21824x8, .f32⟩
  | .hbm, ⟨10, _⟩ => ⟨S8x1x1, .f32⟩
  | .hbm, ⟨11, _⟩ => ⟨S8x21824x1, .f32⟩
  | .hbm, ⟨12, _⟩ => ⟨S8x21824, .f32⟩
  | .hbm, ⟨13, _⟩ => ⟨S_, .f32⟩
  | .hbm, ⟨14, _⟩ => ⟨S8x21824, .f32⟩
  | .hbm, ⟨15, _⟩ => ⟨S8x21824, .i1⟩
  | .hbm, ⟨16, _⟩ => ⟨S8, .f32⟩
  | .hbm, ⟨17, _⟩ => ⟨S8x21824x4, .f32⟩
  | .hbm, ⟨18, _⟩ => ⟨S8x21824x1, .f32⟩
  | .hbm, ⟨19, _⟩ => ⟨S8x21824, .f32⟩
  | .hbm, ⟨20, _⟩ => ⟨S_, .f32⟩
  | .hbm, ⟨21, _⟩ => ⟨S8x21824, .f32⟩
  | .hbm, ⟨22, _⟩ => ⟨S8x21824, .i1⟩
  | .local _ .vmem, ⟨0, _⟩ => ⟨S1x6x100, .f32⟩
  | .local _ .vmem, ⟨1, _⟩ => ⟨S1x6x100, .f32⟩
  | .local _ .vmem, ⟨2, _⟩ => ⟨S1x100x5, .f32⟩
  | .local _ .vmem, ⟨3, _⟩ => ⟨S1x100x5, .f32⟩
  | .local _ .vmem, ⟨4, _⟩ => ⟨S1x14x64x4, .f32⟩
  | .local _ .vmem, ⟨5, _⟩ => ⟨S1x14x64x4, .f32⟩
  | .local _ .vmem, ⟨6, _⟩ => ⟨S1x896x80, .f32⟩
  | .local _ .vmem, ⟨7, _⟩ => ⟨S1x896x80, .f32⟩
  | .local _ .vmem, ⟨8, _⟩ => ⟨S1x896x8, .f32⟩
  | .local _ .vmem, ⟨9, _⟩ => ⟨S1x896x8, .f32⟩
  | .local _ .vmem, ⟨10, _⟩ => ⟨S1x1x1, .f32⟩
  | .local _ .vmem, ⟨11, _⟩ => ⟨S1x1x1, .f32⟩
  | .local _ .vmem, ⟨12, _⟩ => ⟨S48x100, .f32⟩
  | .local _ .vmem, ⟨13, _⟩ => ⟨S100x80, .f32⟩
  | .local _ .smem, ⟨0, _⟩ => ⟨S350, .i32⟩
  | _, _ => ⟨S8x100, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 25], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c14_i32 : BitVec 32 := 14#32
  let v10 : BitVec 32 := Scalar.muli arg1 c14_i32
  let c0_i32_8 : BitVec 32 := 0#32
  let v11 : BitVec 32 := Scalar.addi v10 c0_i32_8
  let v12 : Index := Scalar.indexCast v11
  ![v12.toNat]
def k0_off2 (v13 : BitVec 32) : Fin 2 → Nat :=
  let c4_i32 : BitVec 32 := 4#32
  let v14 : BitVec 32 := Scalar.muli v13 c4_i32
  let v15 : Index := Scalar.indexCast v14
  let c0_9 : Index := 0#32
  ![v15.toNat, 0]

def k0_off3 (v13 : BitVec 32) : Fin 2 → Nat :=
  let c4_i32 : BitVec 32 := 4#32
  let v14 : BitVec 32 := Scalar.muli v13 c4_i32
  let c20_i32 : BitVec 32 := 20#32
  let v17 : BitVec 32 := Scalar.addi v14 c20_i32
  let v18 : Index := Scalar.indexCast v17
  let c0_10 : Index := 0#32
  ![v18.toNat, 0]

def k0_chk1 (v13 : BitVec 32) : Prop :=
  (∀ a, (k0_off2 v13) a + S4x100.size a ≤ S48x100.size a) ∧
  (∀ a, (k0_off3 v13) a + S4x100.size a ≤ S48x100.size a)
theorem k0_off2_inb : ∀ (v13 : BitVec 32) (k0_hw1 : k0_chk1 v13), ∀ a, (k0_off2 v13) a + S4x100.size a ≤ S48x100.size a := fun v13 k0_hw1 => k0_hw1.1
theorem k0_off3_inb : ∀ (v13 : BitVec 32) (k0_hw1 : k0_chk1 v13), ∀ a, (k0_off3 v13) a + S4x100.size a ≤ S48x100.size a := fun v13 k0_hw1 => k0_hw1.2

def k0_off4 (i : grid0.Coords) : Fin 1 → Nat :=
  let arg1 : BitVec 32 := BitVec.ofNat 32 (i 1).val
  let c14_i32_33 : BitVec 32 := 14#32
  let v115 : BitVec 32 := Scalar.muli arg1 c14_i32_33
  let c1_i32 : BitVec 32 := 1#32
  let v116 : BitVec 32 := Scalar.addi v115 c1_i32
  let v117 : Index := Scalar.indexCast v116
  ![v117.toNat]
def k0_off5 (v118 : BitVec 32) : Fin 2 → Nat :=
  let c4_i32_34 : BitVec 32 := 4#32
  let v119 : BitVec 32 := Scalar.muli v118 c4_i32_34
  let v120 : Index := Scalar.indexCast v119
  let c0_35 : Index := 0#32
  ![v120.toNat, 0]

def k0_off6 (v118 : BitVec 32) : Fin 2 → Nat :=
  let c4_i32_34 : BitVec 32 := 4#32
  let v119 : BitVec 32 := Scalar.muli v118 c4_i32_34
  let c20_i32_36 : BitVec 32 := 20#32
  let v122 : BitVec 32 := Scalar.addi v119 c20_i32_36
  let v123 : Index := Scalar.indexCast v122
  let c0_37 : Index := 0#32
  ![v123.toNat, 0]

def k0_chk2 (v118 : BitVec 32) : Prop :=
  (∀ a, (k0_off5 v118) a + S4x100.size a ≤ S48x100.size a) ∧
  (∀ a, (k0_off6 v118) a + S4x100.size a ≤ S48x100.size a)
theorem k0_off5_inb : ∀ (v118 : BitVec 32) (k0_hw2 : k0_chk2 v118), ∀ a, (k0_off5 v118) a + S4x100.size a ≤ S48x100.size a := fun v118 k0_hw2 => k0_hw2.1
theorem k0_off6_inb : ∀ (v118 : BitVec 32) (k0_hw2 : k0_chk2 v118), ∀ a, (k0_off6 v118) a + S4x100.size a ≤ S48x100.size a := fun v118 k0_hw2 => k0_hw2.2

def k0_off7 (i : grid0.Coords) : Fin 1 → Nat :=
  let arg1 : BitVec 32 := BitVec.ofNat 32 (i 1).val
  let c14_i32_61 : BitVec 32 := 14#32
  let v220 : BitVec 32 := Scalar.muli arg1 c14_i32_61
  let c2_i32_62 : BitVec 32 := 2#32
  let v221 : BitVec 32 := Scalar.addi v220 c2_i32_62
  let v222 : Index := Scalar.indexCast v221
  ![v222.toNat]
def k0_off8 (v223 : BitVec 32) : Fin 2 → Nat :=
  let c4_i32_63 : BitVec 32 := 4#32
  let v224 : BitVec 32 := Scalar.muli v223 c4_i32_63
  let v225 : Index := Scalar.indexCast v224
  let c0_64 : Index := 0#32
  ![v225.toNat, 0]

def k0_off9 (v223 : BitVec 32) : Fin 2 → Nat :=
  let c4_i32_63 : BitVec 32 := 4#32
  let v224 : BitVec 32 := Scalar.muli v223 c4_i32_63
  let c20_i32_65 : BitVec 32 := 20#32
  let v227 : BitVec 32 := Scalar.addi v224 c20_i32_65
  let v228 : Index := Scalar.indexCast v227
  let c0_66 : Index := 0#32
  ![v228.toNat, 0]

def k0_chk3 (v223 : BitVec 32) : Prop :=
  (∀ a, (k0_off8 v223) a + S4x100.size a ≤ S48x100.size a) ∧
  (∀ a, (k0_off9 v223) a + S4x100.size a ≤ S48x100.size a)
theorem k0_off8_inb : ∀ (v223 : BitVec 32) (k0_hw3 : k0_chk3 v223), ∀ a, (k0_off8 v223) a + S4x100.size a ≤ S48x100.size a := fun v223 k0_hw3 => k0_hw3.1
theorem k0_off9_inb : ∀ (v223 : BitVec 32) (k0_hw3 : k0_chk3 v223), ∀ a, (k0_off9 v223) a + S4x100.size a ≤ S48x100.size a := fun v223 k0_hw3 => k0_hw3.2

def k0_off10 (i : grid0.Coords) : Fin 1 → Nat :=
  let arg1 : BitVec 32 := BitVec.ofNat 32 (i 1).val
  let c14_i32_90 : BitVec 32 := 14#32
  let v325 : BitVec 32 := Scalar.muli arg1 c14_i32_90
  let c3_i32 : BitVec 32 := 3#32
  let v326 : BitVec 32 := Scalar.addi v325 c3_i32
  let v327 : Index := Scalar.indexCast v326
  ![v327.toNat]
def k0_off11 (v328 : BitVec 32) : Fin 2 → Nat :=
  let c4_i32_91 : BitVec 32 := 4#32
  let v329 : BitVec 32 := Scalar.muli v328 c4_i32_91
  let v330 : Index := Scalar.indexCast v329
  let c0_92 : Index := 0#32
  ![v330.toNat, 0]

def k0_off12 (v328 : BitVec 32) : Fin 2 → Nat :=
  let c4_i32_91 : BitVec 32 := 4#32
  let v329 : BitVec 32 := Scalar.muli v328 c4_i32_91
  let c20_i32_93 : BitVec 32 := 20#32
  let v332 : BitVec 32 := Scalar.addi v329 c20_i32_93
  let v333 : Index := Scalar.indexCast v332
  let c0_94 : Index := 0#32
  ![v333.toNat, 0]

def k0_chk4 (v328 : BitVec 32) : Prop :=
  (∀ a, (k0_off11 v328) a + S4x100.size a ≤ S48x100.size a) ∧
  (∀ a, (k0_off12 v328) a + S4x100.size a ≤ S48x100.size a)
theorem k0_off11_inb : ∀ (v328 : BitVec 32) (k0_hw4 : k0_chk4 v328), ∀ a, (k0_off11 v328) a + S4x100.size a ≤ S48x100.size a := fun v328 k0_hw4 => k0_hw4.1
theorem k0_off12_inb : ∀ (v328 : BitVec 32) (k0_hw4 : k0_chk4 v328), ∀ a, (k0_off12 v328) a + S4x100.size a ≤ S48x100.size a := fun v328 k0_hw4 => k0_hw4.2

def k0_off13 (i : grid0.Coords) : Fin 1 → Nat :=
  let arg1 : BitVec 32 := BitVec.ofNat 32 (i 1).val
  let c14_i32_118 : BitVec 32 := 14#32
  let v430 : BitVec 32 := Scalar.muli arg1 c14_i32_118
  let c4_i32_119 : BitVec 32 := 4#32
  let v431 : BitVec 32 := Scalar.addi v430 c4_i32_119
  let v432 : Index := Scalar.indexCast v431
  ![v432.toNat]
def k0_off14 (v433 : BitVec 32) : Fin 2 → Nat :=
  let c4_i32_120 : BitVec 32 := 4#32
  let v434 : BitVec 32 := Scalar.muli v433 c4_i32_120
  let v435 : Index := Scalar.indexCast v434
  let c0_121 : Index := 0#32
  ![v435.toNat, 0]

def k0_off15 (v433 : BitVec 32) : Fin 2 → Nat :=
  let c4_i32_120 : BitVec 32 := 4#32
  let v434 : BitVec 32 := Scalar.muli v433 c4_i32_120
  let c20_i32_122 : BitVec 32 := 20#32
  let v437 : BitVec 32 := Scalar.addi v434 c20_i32_122
  let v438 : Index := Scalar.indexCast v437
  let c0_123 : Index := 0#32
  ![v438.toNat, 0]

def k0_chk5 (v433 : BitVec 32) : Prop :=
  (∀ a, (k0_off14 v433) a + S4x100.size a ≤ S48x100.size a) ∧
  (∀ a, (k0_off15 v433) a + S4x100.size a ≤ S48x100.size a)
theorem k0_off14_inb : ∀ (v433 : BitVec 32) (k0_hw5 : k0_chk5 v433), ∀ a, (k0_off14 v433) a + S4x100.size a ≤ S48x100.size a := fun v433 k0_hw5 => k0_hw5.1
theorem k0_off15_inb : ∀ (v433 : BitVec 32) (k0_hw5 : k0_chk5 v433), ∀ a, (k0_off15 v433) a + S4x100.size a ≤ S48x100.size a := fun v433 k0_hw5 => k0_hw5.2

def k0_off16 (i : grid0.Coords) : Fin 1 → Nat :=
  let arg1 : BitVec 32 := BitVec.ofNat 32 (i 1).val
  let c14_i32_147 : BitVec 32 := 14#32
  let v535 : BitVec 32 := Scalar.muli arg1 c14_i32_147
  let c5_i32 : BitVec 32 := 5#32
  let v536 : BitVec 32 := Scalar.addi v535 c5_i32
  let v537 : Index := Scalar.indexCast v536
  ![v537.toNat]
def k0_off17 (v538 : BitVec 32) : Fin 2 → Nat :=
  let c4_i32_148 : BitVec 32 := 4#32
  let v539 : BitVec 32 := Scalar.muli v538 c4_i32_148
  let v540 : Index := Scalar.indexCast v539
  let c0_149 : Index := 0#32
  ![v540.toNat, 0]

def k0_off18 (v538 : BitVec 32) : Fin 2 → Nat :=
  let c4_i32_148 : BitVec 32 := 4#32
  let v539 : BitVec 32 := Scalar.muli v538 c4_i32_148
  let c20_i32_150 : BitVec 32 := 20#32
  let v542 : BitVec 32 := Scalar.addi v539 c20_i32_150
  let v543 : Index := Scalar.indexCast v542
  let c0_151 : Index := 0#32
  ![v543.toNat, 0]

def k0_chk6 (v538 : BitVec 32) : Prop :=
  (∀ a, (k0_off17 v538) a + S4x100.size a ≤ S48x100.size a) ∧
  (∀ a, (k0_off18 v538) a + S4x100.size a ≤ S48x100.size a)
theorem k0_off17_inb : ∀ (v538 : BitVec 32) (k0_hw6 : k0_chk6 v538), ∀ a, (k0_off17 v538) a + S4x100.size a ≤ S48x100.size a := fun v538 k0_hw6 => k0_hw6.1
theorem k0_off18_inb : ∀ (v538 : BitVec 32) (k0_hw6 : k0_chk6 v538), ∀ a, (k0_off18 v538) a + S4x100.size a ≤ S48x100.size a := fun v538 k0_hw6 => k0_hw6.2

def k0_off19 (i : grid0.Coords) : Fin 1 → Nat :=
  let arg1 : BitVec 32 := BitVec.ofNat 32 (i 1).val
  let c14_i32_175 : BitVec 32 := 14#32
  let v640 : BitVec 32 := Scalar.muli arg1 c14_i32_175
  let c6_i32 : BitVec 32 := 6#32
  let v641 : BitVec 32 := Scalar.addi v640 c6_i32
  let v642 : Index := Scalar.indexCast v641
  ![v642.toNat]
def k0_off20 (v643 : BitVec 32) : Fin 2 → Nat :=
  let c4_i32_176 : BitVec 32 := 4#32
  let v644 : BitVec 32 := Scalar.muli v643 c4_i32_176
  let v645 : Index := Scalar.indexCast v644
  let c0_177 : Index := 0#32
  ![v645.toNat, 0]

def k0_off21 (v643 : BitVec 32) : Fin 2 → Nat :=
  let c4_i32_176 : BitVec 32 := 4#32
  let v644 : BitVec 32 := Scalar.muli v643 c4_i32_176
  let c20_i32_178 : BitVec 32 := 20#32
  let v647 : BitVec 32 := Scalar.addi v644 c20_i32_178
  let v648 : Index := Scalar.indexCast v647
  let c0_179 : Index := 0#32
  ![v648.toNat, 0]

def k0_chk7 (v643 : BitVec 32) : Prop :=
  (∀ a, (k0_off20 v643) a + S4x100.size a ≤ S48x100.size a) ∧
  (∀ a, (k0_off21 v643) a + S4x100.size a ≤ S48x100.size a)
theorem k0_off20_inb : ∀ (v643 : BitVec 32) (k0_hw7 : k0_chk7 v643), ∀ a, (k0_off20 v643) a + S4x100.size a ≤ S48x100.size a := fun v643 k0_hw7 => k0_hw7.1
theorem k0_off21_inb : ∀ (v643 : BitVec 32) (k0_hw7 : k0_chk7 v643), ∀ a, (k0_off21 v643) a + S4x100.size a ≤ S48x100.size a := fun v643 k0_hw7 => k0_hw7.2

def k0_off22 (i : grid0.Coords) : Fin 1 → Nat :=
  let arg1 : BitVec 32 := BitVec.ofNat 32 (i 1).val
  let c14_i32_203 : BitVec 32 := 14#32
  let v745 : BitVec 32 := Scalar.muli arg1 c14_i32_203
  let c7_i32 : BitVec 32 := 7#32
  let v746 : BitVec 32 := Scalar.addi v745 c7_i32
  let v747 : Index := Scalar.indexCast v746
  ![v747.toNat]
def k0_off23 (v748 : BitVec 32) : Fin 2 → Nat :=
  let c4_i32_204 : BitVec 32 := 4#32
  let v749 : BitVec 32 := Scalar.muli v748 c4_i32_204
  let v750 : Index := Scalar.indexCast v749
  let c0_205 : Index := 0#32
  ![v750.toNat, 0]

def k0_off24 (v748 : BitVec 32) : Fin 2 → Nat :=
  let c4_i32_204 : BitVec 32 := 4#32
  let v749 : BitVec 32 := Scalar.muli v748 c4_i32_204
  let c20_i32_206 : BitVec 32 := 20#32
  let v752 : BitVec 32 := Scalar.addi v749 c20_i32_206
  let v753 : Index := Scalar.indexCast v752
  let c0_207 : Index := 0#32
  ![v753.toNat, 0]

def k0_chk8 (v748 : BitVec 32) : Prop :=
  (∀ a, (k0_off23 v748) a + S4x100.size a ≤ S48x100.size a) ∧
  (∀ a, (k0_off24 v748) a + S4x100.size a ≤ S48x100.size a)
theorem k0_off23_inb : ∀ (v748 : BitVec 32) (k0_hw8 : k0_chk8 v748), ∀ a, (k0_off23 v748) a + S4x100.size a ≤ S48x100.size a := fun v748 k0_hw8 => k0_hw8.1
theorem k0_off24_inb : ∀ (v748 : BitVec 32) (k0_hw8 : k0_chk8 v748), ∀ a, (k0_off24 v748) a + S4x100.size a ≤ S48x100.size a := fun v748 k0_hw8 => k0_hw8.2

def k0_off25 (i : grid0.Coords) : Fin 1 → Nat :=
  let arg1 : BitVec 32 := BitVec.ofNat 32 (i 1).val
  let c14_i32_231 : BitVec 32 := 14#32
  let v850 : BitVec 32 := Scalar.muli arg1 c14_i32_231
  let c8_i32 : BitVec 32 := 8#32
  let v851 : BitVec 32 := Scalar.addi v850 c8_i32
  let v852 : Index := Scalar.indexCast v851
  ![v852.toNat]
def k0_off26 (v853 : BitVec 32) : Fin 2 → Nat :=
  let c4_i32_232 : BitVec 32 := 4#32
  let v854 : BitVec 32 := Scalar.muli v853 c4_i32_232
  let v855 : Index := Scalar.indexCast v854
  let c0_233 : Index := 0#32
  ![v855.toNat, 0]

def k0_off27 (v853 : BitVec 32) : Fin 2 → Nat :=
  let c4_i32_232 : BitVec 32 := 4#32
  let v854 : BitVec 32 := Scalar.muli v853 c4_i32_232
  let c20_i32_234 : BitVec 32 := 20#32
  let v857 : BitVec 32 := Scalar.addi v854 c20_i32_234
  let v858 : Index := Scalar.indexCast v857
  let c0_235 : Index := 0#32
  ![v858.toNat, 0]

def k0_chk9 (v853 : BitVec 32) : Prop :=
  (∀ a, (k0_off26 v853) a + S4x100.size a ≤ S48x100.size a) ∧
  (∀ a, (k0_off27 v853) a + S4x100.size a ≤ S48x100.size a)
theorem k0_off26_inb : ∀ (v853 : BitVec 32) (k0_hw9 : k0_chk9 v853), ∀ a, (k0_off26 v853) a + S4x100.size a ≤ S48x100.size a := fun v853 k0_hw9 => k0_hw9.1
theorem k0_off27_inb : ∀ (v853 : BitVec 32) (k0_hw9 : k0_chk9 v853), ∀ a, (k0_off27 v853) a + S4x100.size a ≤ S48x100.size a := fun v853 k0_hw9 => k0_hw9.2

def k0_off28 (i : grid0.Coords) : Fin 1 → Nat :=
  let arg1 : BitVec 32 := BitVec.ofNat 32 (i 1).val
  let c14_i32_259 : BitVec 32 := 14#32
  let v955 : BitVec 32 := Scalar.muli arg1 c14_i32_259
  let c9_i32 : BitVec 32 := 9#32
  let v956 : BitVec 32 := Scalar.addi v955 c9_i32
  let v957 : Index := Scalar.indexCast v956
  ![v957.toNat]
def k0_off29 (v958 : BitVec 32) : Fin 2 → Nat :=
  let c4_i32_260 : BitVec 32 := 4#32
  let v959 : BitVec 32 := Scalar.muli v958 c4_i32_260
  let v960 : Index := Scalar.indexCast v959
  let c0_261 : Index := 0#32
  ![v960.toNat, 0]

def k0_off30 (v958 : BitVec 32) : Fin 2 → Nat :=
  let c4_i32_260 : BitVec 32 := 4#32
  let v959 : BitVec 32 := Scalar.muli v958 c4_i32_260
  let c20_i32_262 : BitVec 32 := 20#32
  let v962 : BitVec 32 := Scalar.addi v959 c20_i32_262
  let v963 : Index := Scalar.indexCast v962
  let c0_263 : Index := 0#32
  ![v963.toNat, 0]

def k0_chk10 (v958 : BitVec 32) : Prop :=
  (∀ a, (k0_off29 v958) a + S4x100.size a ≤ S48x100.size a) ∧
  (∀ a, (k0_off30 v958) a + S4x100.size a ≤ S48x100.size a)
theorem k0_off29_inb : ∀ (v958 : BitVec 32) (k0_hw10 : k0_chk10 v958), ∀ a, (k0_off29 v958) a + S4x100.size a ≤ S48x100.size a := fun v958 k0_hw10 => k0_hw10.1
theorem k0_off30_inb : ∀ (v958 : BitVec 32) (k0_hw10 : k0_chk10 v958), ∀ a, (k0_off30 v958) a + S4x100.size a ≤ S48x100.size a := fun v958 k0_hw10 => k0_hw10.2

def k0_off31 (i : grid0.Coords) : Fin 1 → Nat :=
  let arg1 : BitVec 32 := BitVec.ofNat 32 (i 1).val
  let c14_i32_287 : BitVec 32 := 14#32
  let v1060 : BitVec 32 := Scalar.muli arg1 c14_i32_287
  let c10_i32 : BitVec 32 := 10#32
  let v1061 : BitVec 32 := Scalar.addi v1060 c10_i32
  let v1062 : Index := Scalar.indexCast v1061
  ![v1062.toNat]
def k0_off32 (v1063 : BitVec 32) : Fin 2 → Nat :=
  let c4_i32_288 : BitVec 32 := 4#32
  let v1064 : BitVec 32 := Scalar.muli v1063 c4_i32_288
  let v1065 : Index := Scalar.indexCast v1064
  let c0_289 : Index := 0#32
  ![v1065.toNat, 0]

def k0_off33 (v1063 : BitVec 32) : Fin 2 → Nat :=
  let c4_i32_288 : BitVec 32 := 4#32
  let v1064 : BitVec 32 := Scalar.muli v1063 c4_i32_288
  let c20_i32_290 : BitVec 32 := 20#32
  let v1067 : BitVec 32 := Scalar.addi v1064 c20_i32_290
  let v1068 : Index := Scalar.indexCast v1067
  let c0_291 : Index := 0#32
  ![v1068.toNat, 0]

def k0_chk11 (v1063 : BitVec 32) : Prop :=
  (∀ a, (k0_off32 v1063) a + S4x100.size a ≤ S48x100.size a) ∧
  (∀ a, (k0_off33 v1063) a + S4x100.size a ≤ S48x100.size a)
theorem k0_off32_inb : ∀ (v1063 : BitVec 32) (k0_hw11 : k0_chk11 v1063), ∀ a, (k0_off32 v1063) a + S4x100.size a ≤ S48x100.size a := fun v1063 k0_hw11 => k0_hw11.1
theorem k0_off33_inb : ∀ (v1063 : BitVec 32) (k0_hw11 : k0_chk11 v1063), ∀ a, (k0_off33 v1063) a + S4x100.size a ≤ S48x100.size a := fun v1063 k0_hw11 => k0_hw11.2

def k0_off34 (i : grid0.Coords) : Fin 1 → Nat :=
  let arg1 : BitVec 32 := BitVec.ofNat 32 (i 1).val
  let c14_i32_315 : BitVec 32 := 14#32
  let v1165 : BitVec 32 := Scalar.muli arg1 c14_i32_315
  let c11_i32 : BitVec 32 := 11#32
  let v1166 : BitVec 32 := Scalar.addi v1165 c11_i32
  let v1167 : Index := Scalar.indexCast v1166
  ![v1167.toNat]
def k0_off35 (v1168 : BitVec 32) : Fin 2 → Nat :=
  let c4_i32_316 : BitVec 32 := 4#32
  let v1169 : BitVec 32 := Scalar.muli v1168 c4_i32_316
  let v1170 : Index := Scalar.indexCast v1169
  let c0_317 : Index := 0#32
  ![v1170.toNat, 0]

def k0_off36 (v1168 : BitVec 32) : Fin 2 → Nat :=
  let c4_i32_316 : BitVec 32 := 4#32
  let v1169 : BitVec 32 := Scalar.muli v1168 c4_i32_316
  let c20_i32_318 : BitVec 32 := 20#32
  let v1172 : BitVec 32 := Scalar.addi v1169 c20_i32_318
  let v1173 : Index := Scalar.indexCast v1172
  let c0_319 : Index := 0#32
  ![v1173.toNat, 0]

def k0_chk12 (v1168 : BitVec 32) : Prop :=
  (∀ a, (k0_off35 v1168) a + S4x100.size a ≤ S48x100.size a) ∧
  (∀ a, (k0_off36 v1168) a + S4x100.size a ≤ S48x100.size a)
theorem k0_off35_inb : ∀ (v1168 : BitVec 32) (k0_hw12 : k0_chk12 v1168), ∀ a, (k0_off35 v1168) a + S4x100.size a ≤ S48x100.size a := fun v1168 k0_hw12 => k0_hw12.1
theorem k0_off36_inb : ∀ (v1168 : BitVec 32) (k0_hw12 : k0_chk12 v1168), ∀ a, (k0_off36 v1168) a + S4x100.size a ≤ S48x100.size a := fun v1168 k0_hw12 => k0_hw12.2

def k0_off37 (i : grid0.Coords) : Fin 1 → Nat :=
  let arg1 : BitVec 32 := BitVec.ofNat 32 (i 1).val
  let c14_i32_343 : BitVec 32 := 14#32
  let v1270 : BitVec 32 := Scalar.muli arg1 c14_i32_343
  let c12_i32 : BitVec 32 := 12#32
  let v1271 : BitVec 32 := Scalar.addi v1270 c12_i32
  let v1272 : Index := Scalar.indexCast v1271
  ![v1272.toNat]
def k0_off38 (v1273 : BitVec 32) : Fin 2 → Nat :=
  let c4_i32_344 : BitVec 32 := 4#32
  let v1274 : BitVec 32 := Scalar.muli v1273 c4_i32_344
  let v1275 : Index := Scalar.indexCast v1274
  let c0_345 : Index := 0#32
  ![v1275.toNat, 0]

def k0_off39 (v1273 : BitVec 32) : Fin 2 → Nat :=
  let c4_i32_344 : BitVec 32 := 4#32
  let v1274 : BitVec 32 := Scalar.muli v1273 c4_i32_344
  let c20_i32_346 : BitVec 32 := 20#32
  let v1277 : BitVec 32 := Scalar.addi v1274 c20_i32_346
  let v1278 : Index := Scalar.indexCast v1277
  let c0_347 : Index := 0#32
  ![v1278.toNat, 0]

def k0_chk13 (v1273 : BitVec 32) : Prop :=
  (∀ a, (k0_off38 v1273) a + S4x100.size a ≤ S48x100.size a) ∧
  (∀ a, (k0_off39 v1273) a + S4x100.size a ≤ S48x100.size a)
theorem k0_off38_inb : ∀ (v1273 : BitVec 32) (k0_hw13 : k0_chk13 v1273), ∀ a, (k0_off38 v1273) a + S4x100.size a ≤ S48x100.size a := fun v1273 k0_hw13 => k0_hw13.1
theorem k0_off39_inb : ∀ (v1273 : BitVec 32) (k0_hw13 : k0_chk13 v1273), ∀ a, (k0_off39 v1273) a + S4x100.size a ≤ S48x100.size a := fun v1273 k0_hw13 => k0_hw13.2

def k0_off40 (i : grid0.Coords) : Fin 1 → Nat :=
  let arg1 : BitVec 32 := BitVec.ofNat 32 (i 1).val
  let c14_i32_371 : BitVec 32 := 14#32
  let v1375 : BitVec 32 := Scalar.muli arg1 c14_i32_371
  let c13_i32 : BitVec 32 := 13#32
  let v1376 : BitVec 32 := Scalar.addi v1375 c13_i32
  let v1377 : Index := Scalar.indexCast v1376
  ![v1377.toNat]
def k0_off41 (v1378 : BitVec 32) : Fin 2 → Nat :=
  let c4_i32_372 : BitVec 32 := 4#32
  let v1379 : BitVec 32 := Scalar.muli v1378 c4_i32_372
  let v1380 : Index := Scalar.indexCast v1379
  let c0_373 : Index := 0#32
  ![v1380.toNat, 0]

def k0_off42 (v1378 : BitVec 32) : Fin 2 → Nat :=
  let c4_i32_372 : BitVec 32 := 4#32
  let v1379 : BitVec 32 := Scalar.muli v1378 c4_i32_372
  let c20_i32_374 : BitVec 32 := 20#32
  let v1382 : BitVec 32 := Scalar.addi v1379 c20_i32_374
  let v1383 : Index := Scalar.indexCast v1382
  let c0_375 : Index := 0#32
  ![v1383.toNat, 0]

def k0_chk14 (v1378 : BitVec 32) : Prop :=
  (∀ a, (k0_off41 v1378) a + S4x100.size a ≤ S48x100.size a) ∧
  (∀ a, (k0_off42 v1378) a + S4x100.size a ≤ S48x100.size a)
theorem k0_off41_inb : ∀ (v1378 : BitVec 32) (k0_hw14 : k0_chk14 v1378), ∀ a, (k0_off41 v1378) a + S4x100.size a ≤ S48x100.size a := fun v1378 k0_hw14 => k0_hw14.1
theorem k0_off42_inb : ∀ (v1378 : BitVec 32) (k0_hw14 : k0_chk14 v1378), ∀ a, (k0_off42 v1378) a + S4x100.size a ≤ S48x100.size a := fun v1378 k0_hw14 => k0_hw14.2

def k0_cond2 (i : grid0.Coords) : BitVec 1 :=
  let arg1 : BitVec 32 := BitVec.ofNat 32 (i 1).val
  let c0_i32_398 : BitVec 32 := 0#32
  let v1496 : BitVec 1 := Scalar.cmpi .eq arg1 c0_i32_398
  let v1497 : BitVec 32 := Scalar.extui v1496
  let c0_i32_399 : BitVec 32 := 0#32
  let v1498 : BitVec 1 := Scalar.cmpi .ne v1497 c0_i32_399
  v1498

def k0_cond3 (i : grid0.Coords) : BitVec 1 :=
  let arg1 : BitVec 32 := BitVec.ofNat 32 (i 1).val
  let c0_i32_400 : BitVec 32 := 0#32
  let v1499 : BitVec 1 := Scalar.cmpi .ne arg1 c0_i32_400
  let v1500 : BitVec 32 := Scalar.extui v1499
  let c0_i32_401 : BitVec 32 := 0#32
  let v1501 : BitVec 1 := Scalar.cmpi .ne v1500 c0_i32_401
  v1501

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x100x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x14x64x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x896x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x896x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x100 : Shape := ⟨2, ![8, 100]⟩
abbrev S8x100x5 : Shape := ⟨3, ![8, 100, 5]⟩
abbrev S8x5x2 : Shape := ⟨3, ![8, 5, 2]⟩
abbrev S21824 : Shape := ⟨1, ![21824]⟩
abbrev S_ : Shape := ⟨0, ![]⟩
abbrev S8x100x4 : Shape := ⟨3, ![8, 100, 4]⟩
abbrev S8x100x1 : Shape := ⟨3, ![8, 100, 1]⟩
abbrev S1x1x21824 : Shape := ⟨3, ![1, 1, 21824]⟩
abbrev S8x100x21824 : Shape := ⟨3, ![8, 100, 21824]⟩
abbrev S8x21824 : Shape := ⟨2, ![8, 21824]⟩
abbrev S8x1x21824 : Shape := ⟨3, ![8, 1, 21824]⟩
abbrev S8x1x21824x1 : Shape := ⟨4, ![8, 1, 21824, 1]⟩
abbrev S8x21824x1 : Shape := ⟨3, ![8, 21824, 1]⟩
abbrev S8x21824x5 : Shape := ⟨3, ![8, 21824, 5]⟩
abbrev S8x21824x4 : Shape := ⟨3, ![8, 21824, 4]⟩
abbrev S80 : Shape := ⟨1, ![80]⟩
abbrev S1x1x80 : Shape := ⟨3, ![1, 1, 80]⟩
abbrev S8x21824x80 : Shape := ⟨3, ![8, 21824, 80]⟩
abbrev S1x21824 : Shape := ⟨2, ![1, 21824]⟩
abbrev S8 : Shape := ⟨1, ![8]⟩

abbrev nBuf : Space → Nat
  | .hbm => 382
  | .vmem => 0
  | .smem => 0
  | _ => 0

abbrev hbmTy0_0 (i : Nat) : BufTy := match i % 128 with
  | 0 => ⟨S8x100, .i32⟩
  | 1 => ⟨S8x100x5, .f32⟩
  | 2 => ⟨S8x5x2, .i32⟩
  | 3 => ⟨S21824, .i32⟩
  | 4 => ⟨S_, .i32⟩
  | 5 => ⟨S21824, .i32⟩
  | 6 => ⟨S_, .i32⟩
  | 7 => ⟨S21824, .i32⟩
  | 8 => ⟨S_, .i32⟩
  | 9 => ⟨S21824, .i32⟩
  | 10 => ⟨S21824, .i1⟩
  | 11 => ⟨S21824, .i32⟩
  | 12 => ⟨S21824, .i32⟩
  | 13 => ⟨S_, .i32⟩
  | 14 => ⟨S21824, .i32⟩
  | 15 => ⟨S21824, .i32⟩
  | 16 => ⟨S21824, .i32⟩
  | 17 => ⟨S_, .i32⟩
  | 18 => ⟨S21824, .i32⟩
  | 19 => ⟨S21824, .i1⟩
  | 20 => ⟨S21824, .i32⟩
  | 21 => ⟨S21824, .i32⟩
  | 22 => ⟨S_, .i32⟩
  | 23 => ⟨S21824, .i32⟩
  | 24 => ⟨S21824, .i32⟩
  | 25 => ⟨S21824, .i32⟩
  | 26 => ⟨S_, .i32⟩
  | 27 => ⟨S21824, .i32⟩
  | 28 => ⟨S21824, .i1⟩
  | 29 => ⟨S21824, .i32⟩
  | 30 => ⟨S21824, .i32⟩
  | 31 => ⟨S_, .i32⟩
  | 32 => ⟨S21824, .i32⟩
  | 33 => ⟨S21824, .i32⟩
  | 34 => ⟨S21824, .i32⟩
  | 35 => ⟨S_, .i32⟩
  | 36 => ⟨S21824, .i32⟩
  | 37 => ⟨S21824, .i1⟩
  | 38 => ⟨S21824, .i32⟩
  | 39 => ⟨S21824, .i32⟩
  | 40 => ⟨S_, .i32⟩
  | 41 => ⟨S21824, .i32⟩
  | 42 => ⟨S21824, .i32⟩
  | 43 => ⟨S21824, .i32⟩
  | 44 => ⟨S_, .i32⟩
  | 45 => ⟨S21824, .i32⟩
  | 46 => ⟨S21824, .i32⟩
  | 47 => ⟨S_, .i32⟩
  | 48 => ⟨S21824, .i32⟩
  | 49 => ⟨S21824, .i32⟩
  | 50 => ⟨S21824, .f32⟩
  | 51 => ⟨S21824, .i32⟩
  | 52 => ⟨S21824, .i32⟩
  | 53 => ⟨S21824, .i32⟩
  | 54 => ⟨S21824, .i32⟩
  | 55 => ⟨S8x100x4, .f32⟩
  | 56 => ⟨S8x100x1, .f32⟩
  | 57 => ⟨S8x100, .f32⟩
  | 58 => ⟨S8x100x1, .f32⟩
  | 59 => ⟨S1x1x21824, .f32⟩
  | 60 => ⟨S8x100x21824, .f32⟩
  | 61 => ⟨S8x100x21824, .f32⟩
  | 62 => ⟨S8x100x21824, .f32⟩
  | 63 => ⟨S8x100x1, .f32⟩
  | 64 => ⟨S8x100, .f32⟩
  | 65 => ⟨S8x100x1, .f32⟩
  | 66 => ⟨S1x1x21824, .f32⟩
  | 67 => ⟨S8x100x21824, .f32⟩
  | 68 => ⟨S8x100x21824, .f32⟩
  | 69 => ⟨S8x100x21824, .f32⟩
  | 70 => ⟨S8x100x1, .f32⟩
  | 71 => ⟨S8x100, .f32⟩
  | 72 => ⟨S8x100x1, .f32⟩
  | 73 => ⟨S1x1x21824, .f32⟩
  | 74 => ⟨S8x100x21824, .f32⟩
  | 75 => ⟨S8x100x21824, .f32⟩
  | 76 => ⟨S8x100x21824, .f32⟩
  | 77 => ⟨S8x100x1, .f32⟩
  | 78 => ⟨S8x100, .f32⟩
  | 79 => ⟨S8x100x1, .f32⟩
  | 80 => ⟨S1x1x21824, .f32⟩
  | 81 => ⟨S8x100x21824, .f32⟩
  | 82 => ⟨S8x100x21824, .f32⟩
  | 83 => ⟨S8x100x21824, .f32⟩
  | 84 => ⟨S8x100x1, .i32⟩
  | 85 => ⟨S1x1x21824, .i32⟩
  | 86 => ⟨S8x100x21824, .i32⟩
  | 87 => ⟨S8x100x21824, .i32⟩
  | 88 => ⟨S8x100x21824, .i1⟩
  | 89 => ⟨S1x1x21824, .i32⟩
  | 90 => ⟨S1x1x21824, .f32⟩
  | 91 => ⟨S_, .i32⟩
  | 92 => ⟨S1x1x21824, .i32⟩
  | 93 => ⟨S1x1x21824, .i32⟩
  | 94 => ⟨S1x1x21824, .f32⟩
  | 95 => ⟨S8x100x21824, .f32⟩
  | 96 => ⟨S_, .f32⟩
  | 97 => ⟨S8x100x21824, .f32⟩
  | 98 => ⟨S8x100x21824, .f32⟩
  | 99 => ⟨S8x100x21824, .f32⟩
  | 100 => ⟨S_, .f32⟩
  | 101 => ⟨S8x100x21824, .f32⟩
  | 102 => ⟨S8x100x21824, .f32⟩
  | 103 => ⟨S8x100x21824, .f32⟩
  | 104 => ⟨S_, .f32⟩
  | 105 => ⟨S8x100x21824, .f32⟩
  | 106 => ⟨S8x100x21824, .f32⟩
  | 107 => ⟨S_, .f32⟩
  | 108 => ⟨S8x100x21824, .f32⟩
  | 109 => ⟨S8x100x21824, .f32⟩
  | 110 => ⟨S8x100x21824, .f32⟩
  | 111 => ⟨S_, .f32⟩
  | 112 => ⟨S8x100x21824, .f32⟩
  | 113 => ⟨S8x100x21824, .f32⟩
  | 114 => ⟨S_, .f32⟩
  | 115 => ⟨S8x100x21824, .f32⟩
  | 116 => ⟨S8x100x21824, .f32⟩
  | 117 => ⟨S8x100x21824, .f32⟩
  | 118 => ⟨S8x100x21824, .f32⟩
  | 119 => ⟨S_, .f32⟩
  | 120 => ⟨S8x100x21824, .f32⟩
  | 121 => ⟨S8x100x21824, .f32⟩
  | 122 => ⟨S8x100x21824, .f32⟩
  | 123 => ⟨S8x100x21824, .f32⟩
  | 124 => ⟨S8x100x21824, .i32⟩
  | 125 => ⟨S8x100x21824, .f32⟩
  | 126 => ⟨S8x100x21824, .f32⟩
  | 127 => ⟨S_, .f32⟩
  | _ => ⟨S8x100, .i32⟩

abbrev hbmTy0_1 (i : Nat) : BufTy := match i % 128 with
  | 0 => ⟨S8x100x21824, .f32⟩
  | 1 => ⟨S8x100x21824, .f32⟩
  | 2 => ⟨S8x100x21824, .f32⟩
  | 3 => ⟨S8x100x21824, .f32⟩
  | 4 => ⟨S8x100x21824, .i32⟩
  | 5 => ⟨S8x100x21824, .f32⟩
  | 6 => ⟨S8x100x21824, .f32⟩
  | 7 => ⟨S_, .f32⟩
  | 8 => ⟨S8x100x21824, .f32⟩
  | 9 => ⟨S8x100x21824, .f32⟩
  | 10 => ⟨S8x100x21824, .f32⟩
  | 11 => ⟨S8x100x21824, .f32⟩
  | 12 => ⟨S8x100x21824, .i32⟩
  | 13 => ⟨S8x100x21824, .f32⟩
  | 14 => ⟨S8x100x21824, .f32⟩
  | 15 => ⟨S_, .f32⟩
  | 16 => ⟨S8x100x21824, .f32⟩
  | 17 => ⟨S8x100x21824, .f32⟩
  | 18 => ⟨S8x100x21824, .f32⟩
  | 19 => ⟨S8x100x21824, .f32⟩
  | 20 => ⟨S8x100x21824, .i32⟩
  | 21 => ⟨S_, .i32⟩
  | 22 => ⟨S8x100x21824, .i32⟩
  | 23 => ⟨S8x100x21824, .i32⟩
  | 24 => ⟨S8x100x21824, .i32⟩
  | 25 => ⟨S_, .i32⟩
  | 26 => ⟨S8x100x21824, .i32⟩
  | 27 => ⟨S8x100x21824, .i32⟩
  | 28 => ⟨S8x100x21824, .i32⟩
  | 29 => ⟨S1x1x21824, .i32⟩
  | 30 => ⟨S8x100x21824, .i32⟩
  | 31 => ⟨S8x100x21824, .i1⟩
  | 32 => ⟨S8x100x21824, .i1⟩
  | 33 => ⟨S1x1x21824, .i32⟩
  | 34 => ⟨S8x100x21824, .i32⟩
  | 35 => ⟨S8x100x21824, .i1⟩
  | 36 => ⟨S8x100x21824, .i1⟩
  | 37 => ⟨S1x1x21824, .i32⟩
  | 38 => ⟨S8x100x21824, .i32⟩
  | 39 => ⟨S8x100x21824, .i1⟩
  | 40 => ⟨S8x100x21824, .i1⟩
  | 41 => ⟨S1x1x21824, .i32⟩
  | 42 => ⟨S8x100x21824, .i32⟩
  | 43 => ⟨S8x100x21824, .i1⟩
  | 44 => ⟨S8x100x21824, .i1⟩
  | 45 => ⟨S1x1x21824, .i32⟩
  | 46 => ⟨S1x1x21824, .f32⟩
  | 47 => ⟨S_, .i32⟩
  | 48 => ⟨S1x1x21824, .i32⟩
  | 49 => ⟨S1x1x21824, .i32⟩
  | 50 => ⟨S1x1x21824, .f32⟩
  | 51 => ⟨S8x100x21824, .f32⟩
  | 52 => ⟨S_, .f32⟩
  | 53 => ⟨S8x100x21824, .f32⟩
  | 54 => ⟨S8x100x21824, .f32⟩
  | 55 => ⟨S8x100x21824, .f32⟩
  | 56 => ⟨S_, .f32⟩
  | 57 => ⟨S8x100x21824, .f32⟩
  | 58 => ⟨S8x100x21824, .f32⟩
  | 59 => ⟨S8x100x21824, .f32⟩
  | 60 => ⟨S_, .f32⟩
  | 61 => ⟨S8x100x21824, .f32⟩
  | 62 => ⟨S8x100x21824, .f32⟩
  | 63 => ⟨S_, .f32⟩
  | 64 => ⟨S8x100x21824, .f32⟩
  | 65 => ⟨S8x100x21824, .f32⟩
  | 66 => ⟨S8x100x21824, .f32⟩
  | 67 => ⟨S_, .f32⟩
  | 68 => ⟨S8x100x21824, .f32⟩
  | 69 => ⟨S8x100x21824, .f32⟩
  | 70 => ⟨S_, .f32⟩
  | 71 => ⟨S8x100x21824, .f32⟩
  | 72 => ⟨S8x100x21824, .f32⟩
  | 73 => ⟨S8x100x21824, .f32⟩
  | 74 => ⟨S8x100x21824, .f32⟩
  | 75 => ⟨S_, .f32⟩
  | 76 => ⟨S8x100x21824, .f32⟩
  | 77 => ⟨S8x100x21824, .f32⟩
  | 78 => ⟨S8x100x21824, .f32⟩
  | 79 => ⟨S8x100x21824, .f32⟩
  | 80 => ⟨S8x100x21824, .i32⟩
  | 81 => ⟨S8x100x21824, .f32⟩
  | 82 => ⟨S8x100x21824, .f32⟩
  | 83 => ⟨S_, .f32⟩
  | 84 => ⟨S8x100x21824, .f32⟩
  | 85 => ⟨S8x100x21824, .f32⟩
  | 86 => ⟨S8x100x21824, .f32⟩
  | 87 => ⟨S8x100x21824, .f32⟩
  | 88 => ⟨S8x100x21824, .i32⟩
  | 89 => ⟨S8x100x21824, .f32⟩
  | 90 => ⟨S8x100x21824, .f32⟩
  | 91 => ⟨S_, .f32⟩
  | 92 => ⟨S8x100x21824, .f32⟩
  | 93 => ⟨S8x100x21824, .f32⟩
  | 94 => ⟨S8x100x21824, .f32⟩
  | 95 => ⟨S8x100x21824, .f32⟩
  | 96 => ⟨S8x100x21824, .i32⟩
  | 97 => ⟨S8x100x21824, .f32⟩
  | 98 => ⟨S8x100x21824, .f32⟩
  | 99 => ⟨S_, .f32⟩
  | 100 => ⟨S8x100x21824, .f32⟩
  | 101 => ⟨S8x100x21824, .f32⟩
  | 102 => ⟨S8x100x21824, .f32⟩
  | 103 => ⟨S8x100x21824, .f32⟩
  | 104 => ⟨S8x100x21824, .i32⟩
  | 105 => ⟨S_, .i32⟩
  | 106 => ⟨S8x100x21824, .i32⟩
  | 107 => ⟨S8x100x21824, .i32⟩
  | 108 => ⟨S8x100x21824, .i32⟩
  | 109 => ⟨S_, .i32⟩
  | 110 => ⟨S8x100x21824, .i32⟩
  | 111 => ⟨S8x100x21824, .i32⟩
  | 112 => ⟨S8x100x21824, .i32⟩
  | 113 => ⟨S1x1x21824, .i32⟩
  | 114 => ⟨S8x100x21824, .i32⟩
  | 115 => ⟨S8x100x21824, .i1⟩
  | 116 => ⟨S8x100x21824, .i1⟩
  | 117 => ⟨S1x1x21824, .i32⟩
  | 118 => ⟨S8x100x21824, .i32⟩
  | 119 => ⟨S8x100x21824, .i1⟩
  | 120 => ⟨S8x100x21824, .i1⟩
  | 121 => ⟨S1x1x21824, .i32⟩
  | 122 => ⟨S8x100x21824, .i32⟩
  | 123 => ⟨S8x100x21824, .i1⟩
  | 124 => ⟨S8x100x21824, .i1⟩
  | 125 => ⟨S1x1x21824, .i32⟩
  | 126 => ⟨S8x100x21824, .i32⟩
  | 127 => ⟨S8x100x21824, .i1⟩
  | _ => ⟨S8x100, .i32⟩

abbrev hbmTy0_2 (i : Nat) : BufTy := match i % 128 with
  | 0 => ⟨S8x100x21824, .i1⟩
  | 1 => ⟨S_, .f32⟩
  | 2 => ⟨S8x100x21824, .f32⟩
  | 3 => ⟨S_, .f32⟩
  | 4 => ⟨S8x100x21824, .f32⟩
  | 5 => ⟨S_, .f32⟩
  | 6 => ⟨S8x100x21824, .f32⟩
  | 7 => ⟨S8x100x21824, .f32⟩
  | 8 => ⟨S8x100x21824, .f32⟩
  | 9 => ⟨S8x100x1, .f32⟩
  | 10 => ⟨S8x100, .f32⟩
  | 11 => ⟨S8x100x1, .f32⟩
  | 12 => ⟨S8x100, .f32⟩
  | 13 => ⟨S8x100, .f32⟩
  | 14 => ⟨S8x100x1, .f32⟩
  | 15 => ⟨S8x100, .f32⟩
  | 16 => ⟨S8x100x1, .f32⟩
  | 17 => ⟨S8x100, .f32⟩
  | 18 => ⟨S8x100, .f32⟩
  | 19 => ⟨S8x100, .f32⟩
  | 20 => ⟨S8x100x1, .f32⟩
  | 21 => ⟨S8x100x21824, .f32⟩
  | 22 => ⟨S_, .f32⟩
  | 23 => ⟨S8x100x21824, .f32⟩
  | 24 => ⟨S8x100x21824, .f32⟩
  | 25 => ⟨S_, .f32⟩
  | 26 => ⟨S8x21824, .f32⟩
  | 27 => ⟨S8x100x21824, .i32⟩
  | 28 => ⟨S_, .i32⟩
  | 29 => ⟨S8x100x21824, .i32⟩
  | 30 => ⟨S8x1x21824, .f32⟩
  | 31 => ⟨S8x100x21824, .f32⟩
  | 32 => ⟨S8x100x21824, .i1⟩
  | 33 => ⟨S8x100x21824, .i32⟩
  | 34 => ⟨S_, .i32⟩
  | 35 => ⟨S8x21824, .i32⟩
  | 36 => ⟨S8x1x21824, .i32⟩
  | 37 => ⟨S_, .i32⟩
  | 38 => ⟨S8x1x21824, .i32⟩
  | 39 => ⟨S8x1x21824, .i1⟩
  | 40 => ⟨S_, .i32⟩
  | 41 => ⟨S8x1x21824, .i32⟩
  | 42 => ⟨S8x1x21824, .i32⟩
  | 43 => ⟨S8x1x21824, .i32⟩
  | 44 => ⟨S8x1x21824x1, .i32⟩
  | 45 => ⟨S8x1x21824, .i1⟩
  | 46 => ⟨S8x21824, .i1⟩
  | 47 => ⟨S8x21824, .f32⟩
  | 48 => ⟨S8x21824x1, .f32⟩
  | 49 => ⟨S8x21824x1, .i32⟩
  | 50 => ⟨S_, .i32⟩
  | 51 => ⟨S8x21824x1, .i32⟩
  | 52 => ⟨S8x21824x1, .i1⟩
  | 53 => ⟨S_, .i32⟩
  | 54 => ⟨S8x21824x1, .i32⟩
  | 55 => ⟨S8x21824x1, .i32⟩
  | 56 => ⟨S8x21824x1, .i32⟩
  | 57 => ⟨S8x21824x5, .f32⟩
  | 58 => ⟨S8x21824x1, .f32⟩
  | 59 => ⟨S8x21824, .f32⟩
  | 60 => ⟨S8x21824, .i32⟩
  | 61 => ⟨S8x21824x4, .f32⟩
  | 62 => ⟨S80, .i32⟩
  | 63 => ⟨S8x21824x1, .i32⟩
  | 64 => ⟨S1x1x80, .i32⟩
  | 65 => ⟨S8x21824x80, .i32⟩
  | 66 => ⟨S8x21824x80, .i32⟩
  | 67 => ⟨S8x21824x80, .i1⟩
  | 68 => ⟨S8x21824x80, .f32⟩
  | 69 => ⟨S8x21824x80, .f32⟩
  | 70 => ⟨S8x21824x80, .f32⟩
  | 71 => ⟨S21824, .f32⟩
  | 72 => ⟨S_, .f32⟩
  | 73 => ⟨S21824, .f32⟩
  | 74 => ⟨S21824, .f32⟩
  | 75 => ⟨S21824, .f32⟩
  | 76 => ⟨S1x21824, .f32⟩
  | 77 => ⟨S21824, .f32⟩
  | 78 => ⟨S_, .f32⟩
  | 79 => ⟨S21824, .f32⟩
  | 80 => ⟨S21824, .f32⟩
  | 81 => ⟨S21824, .f32⟩
  | 82 => ⟨S1x21824, .f32⟩
  | 83 => ⟨S8x21824x1, .f32⟩
  | 84 => ⟨S8x21824, .f32⟩
  | 85 => ⟨S8x21824, .f32⟩
  | 86 => ⟨S8x21824, .f32⟩
  | 87 => ⟨S8x21824x1, .f32⟩
  | 88 => ⟨S8x21824, .f32⟩
  | 89 => ⟨S8x21824, .f32⟩
  | 90 => ⟨S8x21824, .f32⟩
  | 91 => ⟨S8x21824x1, .f32⟩
  | 92 => ⟨S8x21824, .f32⟩
  | 93 => ⟨S8x21824, .f32⟩
  | 94 => ⟨S8x21824, .f32⟩
  | 95 => ⟨S8x21824x1, .f32⟩
  | 96 => ⟨S8x21824, .f32⟩
  | 97 => ⟨S8x21824, .f32⟩
  | 98 => ⟨S8x21824, .f32⟩
  | 99 => ⟨S8x21824x1, .f32⟩
  | 100 => ⟨S8x21824x1, .f32⟩
  | 101 => ⟨S8x21824x1, .f32⟩
  | 102 => ⟨S8x21824x1, .f32⟩
  | 103 => ⟨S8x21824x4, .f32⟩
  | 104 => ⟨S_, .f32⟩
  | 105 => ⟨S8x21824x4, .f32⟩
  | 106 => ⟨S8x21824x4, .f32⟩
  | 107 => ⟨S8x21824x4, .f32⟩
  | 108 => ⟨S8x21824x4, .f32⟩
  | 109 => ⟨S_, .f32⟩
  | 110 => ⟨S8x21824, .f32⟩
  | 111 => ⟨S_, .f32⟩
  | 112 => ⟨S8x21824, .f32⟩
  | 113 => ⟨S8x21824, .i1⟩
  | 114 => ⟨S_, .f32⟩
  | 115 => ⟨S8x21824, .f32⟩
  | 116 => ⟨S8x21824, .i1⟩
  | 117 => ⟨S8x21824, .i1⟩
  | 118 => ⟨S_, .f32⟩
  | 119 => ⟨S8x21824, .f32⟩
  | 120 => ⟨S8x21824, .i1⟩
  | 121 => ⟨S8x21824, .f32⟩
  | 122 => ⟨S_, .f32⟩
  | 123 => ⟨S8, .f32⟩
  | 124 => ⟨S_, .i1⟩
  | 125 => ⟨S8x21824, .i1⟩
  | _ => ⟨S8x100, .i32⟩

abbrev hbmTy (i : Nat) : BufTy := match i / 128 with
  | 0 => hbmTy0_0 i
  | 1 => hbmTy0_1 i
  | 2 => hbmTy0_2 i
  | _ => ⟨S8x100, .i32⟩

abbrev bufTy : (tb : Table) → Fin (tcTables nBuf tb) → BufTy
  | .hbm, ⟨i, _⟩ => hbmTy i
  | _, _ => ⟨S8x100, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_9 : Ref sig .tc := ⟨.hbm, 44, rfl⟩
abbrev main_v31 : Ref sig .tc := ⟨.hbm, 45, rfl⟩
abbrev main_v32 : Ref sig .tc := ⟨.hbm, 46, rfl⟩
abbrev main_c_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_c_11 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_12 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_13 : Ref sig .tc := ⟨.hbm, 104, rfl⟩
abbrev main_v86 : Ref sig .tc := ⟨.hbm, 105, rfl⟩
abbrev main_v87 : Ref sig .tc := ⟨.hbm, 106, rfl⟩
abbrev main_cst_14 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_15 : Ref sig .tc := ⟨.hbm, 111, rfl⟩
abbrev main_v91 : Ref sig .tc := ⟨.hbm, 112, rfl⟩
abbrev main_v92 : Ref sig .tc := ⟨.hbm, 113, rfl⟩
abbrev main_cst_16 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_17 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_18 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_19 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_20 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_c_21 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_c_22 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_c_23 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_cst_24 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_cst_25 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_cst_26 : Ref sig .tc := ⟨.hbm, 188, rfl⟩
abbrev main_v157 : Ref sig .tc := ⟨.hbm, 189, rfl⟩
abbrev main_v158 : Ref sig .tc := ⟨.hbm, 190, rfl⟩
abbrev main_cst_27 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_28 : Ref sig .tc := ⟨.hbm, 195, rfl⟩
abbrev main_v162 : Ref sig .tc := ⟨.hbm, 196, rfl⟩
abbrev main_v163 : Ref sig .tc := ⟨.hbm, 197, rfl⟩
abbrev main_cst_29 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_cst_30 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_cst_31 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_cst_32 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_cst_33 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_c_34 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_c_35 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_cst_36 : Ref sig .tc := ⟨.hbm, 257, rfl⟩
abbrev main_v216 : Ref sig .tc := ⟨.hbm, 258, rfl⟩
abbrev main_cst_37 : Ref sig .tc := ⟨.hbm, 259, rfl⟩
abbrev main_v217 : Ref sig .tc := ⟨.hbm, 260, rfl⟩
abbrev main_cst_38 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_cst_39 : Ref sig .tc := ⟨.hbm, 278, rfl⟩
abbrev main_v234 : Ref sig .tc := ⟨.hbm, 279, rfl⟩
abbrev main_v235 : Ref sig .tc := ⟨.hbm, 280, rfl⟩
abbrev main_cst_40 : Ref sig .tc := ⟨.hbm, 281, rfl⟩
abbrev main_v236 : Ref sig .tc := ⟨.hbm, 282, rfl⟩
abbrev main_v237 : Ref sig .tc := ⟨.hbm, 283, rfl⟩
abbrev main_c_41 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_c_42 : Ref sig .tc := ⟨.hbm, 290, rfl⟩
abbrev main_v243 : Ref sig .tc := ⟨.hbm, 291, rfl⟩
abbrev main_v244 : Ref sig .tc := ⟨.hbm, 292, rfl⟩
abbrev main_call0_c : Ref sig .tc := ⟨.hbm, 293, rfl⟩
abbrev main_call0_v0 : Ref sig .tc := ⟨.hbm, 294, rfl⟩
abbrev main_call0_v1 : Ref sig .tc := ⟨.hbm, 295, rfl⟩
abbrev main_call0_c_0 : Ref sig .tc := ⟨.hbm, 296, rfl⟩
abbrev main_call0_v2 : Ref sig .tc := ⟨.hbm, 297, rfl⟩
abbrev main_call0_v3 : Ref sig .tc := ⟨.hbm, 298, rfl⟩
abbrev main_call0_v4 : Ref sig .tc := ⟨.hbm, 299, rfl⟩
abbrev main_call0_v5 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_call1_c : Ref sig .tc := ⟨.hbm, 306, rfl⟩
abbrev main_call1_v0 : Ref sig .tc := ⟨.hbm, 307, rfl⟩
abbrev main_call1_v1 : Ref sig .tc := ⟨.hbm, 308, rfl⟩
abbrev main_call1_c_0 : Ref sig .tc := ⟨.hbm, 309, rfl⟩
abbrev main_call1_v2 : Ref sig .tc := ⟨.hbm, 310, rfl⟩
abbrev main_call1_v3 : Ref sig .tc := ⟨.hbm, 311, rfl⟩
abbrev main_call1_v4 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_cst_43 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_cst_44 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_cst_45 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_cst_46 : Ref sig .tc := ⟨.hbm, 365, rfl⟩
abbrev main_v299 : Ref sig .tc := ⟨.hbm, 366, rfl⟩
abbrev main_cst_47 : Ref sig .tc := ⟨.hbm, 367, rfl⟩
abbrev main_v300 : Ref sig .tc := ⟨.hbm, 368, rfl⟩
abbrev main_v301 : Ref sig .tc := ⟨.hbm, 369, rfl⟩
abbrev main_cst_48 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_cst_49 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_cst_50 : Ref sig .tc := ⟨.hbm, 378, rfl⟩
abbrev main_v308 : Ref sig .tc := ⟨.hbm, 379, rfl⟩
abbrev main_c_51 : Ref sig .tc := ⟨.hbm, 380, rfl⟩
abbrev main_v309 : Ref sig .tc := ⟨.hbm, 381, rfl⟩

abbrev nD : Nat := 1
abbrev τ : Topo := Topo.v7x

variable {F : FTy → Type} [FloatOps F]
-- ==== Proof.KRunA.lean ====
/- The body's run at the first group of a batch. -/
module

public import proofs.«01_k».proof.Proof.KKit

@[expose] public section

set_option maxRecDepth 16384

noncomputable section

namespace Cert.Kernel.Kit

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2176000 in

theorem kernelRun0_A (c : Dev nD) (i : grid0.Coords) (arg3 : Memref sig .tc .vmem S1x6x100 .f32) (harg3 : arg3.IsWhole) (arg4 : Memref sig .tc .vmem S1x100x5 .f32) (harg4 : arg4.IsWhole) (arg5 : Memref sig .tc .vmem S1x14x64x4 .f32) (harg5 : arg5.IsWhole) (arg6 : Memref sig .tc .vmem S1x896x80 .f32) (harg6 : arg6.IsWhole) (arg7 : Memref sig .tc .vmem S1x896x8 .f32) (harg7 : arg7.IsWhole) (arg8 : Memref sig .tc .vmem S1x1x1 .f32) (harg8 : arg8.IsWhole) (arg9 : Memref sig .tc .vmem S48x100 .f32) (harg9 : arg9.IsWhole) (arg10 : Memref sig .tc .vmem S100x80 .f32) (harg10 : arg10.IsWhole) (hc0 : cond0_0 i) (hc1 : cond0_1 i) (hc2 : ¬cond0_2 i)
    (x0 : Vec F S1x6x100 .f32) (x1 : Vec F S1x100x5 .f32) (x2 : Vec F S1x14x64x4 .f32) (xt0 : TbBuf0 (F := F) c tbM0_0) (k0_hw1 : k0_chk1 (tbM0_0.view.readAt (Elt F) (Rect.unit (s := S350) (k0_off1 i) S1.size (k0_off1_inb i)).toLoadRect xt0 (Shape.Idx.first (numel1_S1.symm ▸ Nat.one_pos)))) (k0_hw2 : k0_chk2 (tbM0_0.view.readAt (Elt F) (Rect.unit (s := S350) (k0_off4 i) S1.size (k0_off4_inb i)).toLoadRect xt0 (Shape.Idx.first (numel1_S1.symm ▸ Nat.one_pos)))) (k0_hw3 : k0_chk3 (tbM0_0.view.readAt (Elt F) (Rect.unit (s := S350) (k0_off7 i) S1.size (k0_off7_inb i)).toLoadRect xt0 (Shape.Idx.first (numel1_S1.symm ▸ Nat.one_pos)))) (k0_hw4 : k0_chk4 (tbM0_0.view.readAt (Elt F) (Rect.unit (s := S350) (k0_off10 i) S1.size (k0_off10_inb i)).toLoadRect xt0 (Shape.Idx.first (numel1_S1.symm ▸ Nat.one_pos)))) (k0_hw5 : k0_chk5 (tbM0_0.view.readAt (Elt F) (Rect.unit (s := S350) (k0_off13 i) S1.size (k0_off13_inb i)).toLoadRect xt0 (Shape.Idx.first (numel1_S1.symm ▸ Nat.one_pos)))) (k0_hw6 : k0_chk6 (tbM0_0.view.readAt (Elt F) (Rect.unit (s := S350) (k0_off16 i) S1.size (k0_off16_inb i)).toLoadRect xt0 (Shape.Idx.first (numel1_S1.symm ▸ Nat.one_pos)))) (k0_hw7 : k0_chk7 (tbM0_0.view.readAt (Elt F) (Rect.unit (s := S350) (k0_off19 i) S1.size (k0_off19_inb i)).toLoadRect xt0 (Shape.Idx.first (numel1_S1.symm ▸ Nat.one_pos)))) (k0_hw8 : k0_chk8 (tbM0_0.view.readAt (Elt F) (Rect.unit (s := S350) (k0_off22 i) S1.size (k0_off22_inb i)).toLoadRect xt0 (Shape.Idx.first (numel1_S1.symm ▸ Nat.one_pos)))) (k0_hw9 : k0_chk9 (tbM0_0.view.readAt (Elt F) (Rect.unit (s := S350) (k0_off25 i) S1.size (k0_off25_inb i)).toLoadRect xt0 (Shape.Idx.first (numel1_S1.symm ▸ Nat.one_pos)))) (k0_hw10 : k0_chk10 (tbM0_0.view.readAt (Elt F) (Rect.unit (s := S350) (k0_off28 i) S1.size (k0_off28_inb i)).toLoadRect xt0 (Shape.Idx.first (numel1_S1.symm ▸ Nat.one_pos)))) (k0_hw11 : k0_chk11 (tbM0_0.view.readAt (Elt F) (Rect.unit (s := S350) (k0_off31 i) S1.size (k0_off31_inb i)).toLoadRect xt0 (Shape.Idx.first (numel1_S1.symm ▸ Nat.one_pos)))) (k0_hw12 : k0_chk12 (tbM0_0.view.readAt (Elt F) (Rect.unit (s := S350) (k0_off34 i) S1.size (k0_off34_inb i)).toLoadRect xt0 (Shape.Idx.first (numel1_S1.symm ▸ Nat.one_pos)))) (k0_hw13 : k0_chk13 (tbM0_0.view.readAt (Elt F) (Rect.unit (s := S350) (k0_off37 i) S1.size (k0_off37_inb i)).toLoadRect xt0 (Shape.Idx.first (numel1_S1.symm ▸ Nat.one_pos)))) (k0_hw14 : k0_chk14 (tbM0_0.view.readAt (Elt F) (Rect.unit (s := S350) (k0_off40 i) S1.size (k0_off40_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0) -∗ K ⟨⟩))
          ⊢ wp frame (wpE (defs₀ (F := F)) Variants.none c none) E (cc0__fsaf_group i tbM0_0 htbM0_0 arg3 harg3 arg4 harg4 arg5 harg5 arg6 harg6 arg7 harg7 arg8 harg8 arg9 harg9 arg10 harg10) K := by
    intro E K
    simp only [cc0__fsaf_group_eq_skeleton]; unfold cc0__fsaf_group_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, HT0, Hk⟩
    obtain rfl := harg3.eq_unread hf0; obtain rfl := harg4.eq_unread hf1; obtain rfl := harg5.eq_unread hf2
    sl_exec (disch := first | sl_exact hc0 | sl_exact hc1 | sl_exact hc2 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexact HT0

end Cert.Kernel.Kit

end
-- ==== Proof.KRunB.lean ====
/- The body's run at the later groups of a batch. -/
module

public import proofs.«01_k».proof.Proof.KRunA

@[expose] public section

set_option maxRecDepth 16384

noncomputable section

namespace Cert.Kernel.Kit

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1500000 in

theorem kernelRun0_B (c : Dev nD) (i : grid0.Coords) (arg3 : Memref sig .tc .vmem S1x6x100 .f32) (harg3 : arg3.IsWhole) (arg4 : Memref sig .tc .vmem S1x100x5 .f32) (harg4 : arg4.IsWhole) (arg5 : Memref sig .tc .vmem S1x14x64x4 .f32) (harg5 : arg5.IsWhole) (arg6 : Memref sig .tc .vmem S1x896x80 .f32) (harg6 : arg6.IsWhole) (arg7 : Memref sig .tc .vmem S1x896x8 .f32) (harg7 : arg7.IsWhole) (arg8 : Memref sig .tc .vmem S1x1x1 .f32) (harg8 : arg8.IsWhole) (arg9 : Memref sig .tc .vmem S48x100 .f32) (harg9 : arg9.IsWhole) (arg10 : Memref sig .tc .vmem S100x80 .f32) (harg10 : arg10.IsWhole) (hc0 : ¬cond0_0 i) (hc1 : ¬cond0_1 i) (hc2 : cond0_2 i)
    (x0 : Vec F S1x6x100 .f32) (x1 : Vec F S1x100x5 .f32) (x2 : Vec F S1x14x64x4 .f32) (xt0 : TbBuf0 (F := F) c tbM0_0) (k0_hw1 : k0_chk1 (tbM0_0.view.readAt (Elt F) (Rect.unit (s := S350) (k0_off1 i) S1.size (k0_off1_inb i)).toLoadRect xt0 (Shape.Idx.first (numel1_S1.symm ▸ Nat.one_pos)))) (k0_hw2 : k0_chk2 (tbM0_0.view.readAt (Elt F) (Rect.unit (s := S350) (k0_off4 i) S1.size (k0_off4_inb i)).toLoadRect xt0 (Shape.Idx.first (numel1_S1.symm ▸ Nat.one_pos)))) (k0_hw3 : k0_chk3 (tbM0_0.view.readAt (Elt F) (Rect.unit (s := S350) (k0_off7 i) S1.size (k0_off7_inb i)).toLoadRect xt0 (Shape.Idx.first (numel1_S1.symm ▸ Nat.one_pos)))) (k0_hw4 : k0_chk4 (tbM0_0.view.readAt (Elt F) (Rect.unit (s := S350) (k0_off10 i) S1.size (k0_off10_inb i)).toLoadRect xt0 (Shape.Idx.first (numel1_S1.symm ▸ Nat.one_pos)))) (k0_hw5 : k0_chk5 (tbM0_0.view.readAt (Elt F) (Rect.unit (s := S350) (k0_off13 i) S1.size (k0_off13_inb i)).toLoadRect xt0 (Shape.Idx.first (numel1_S1.symm ▸ Nat.one_pos)))) (k0_hw6 : k0_chk6 (tbM0_0.view.readAt (Elt F) (Rect.unit (s := S350) (k0_off16 i) S1.size (k0_off16_inb i)).toLoadRect xt0 (Shape.Idx.first (numel1_S1.symm ▸ Nat.one_pos)))) (k0_hw7 : k0_chk7 (tbM0_0.view.readAt (Elt F) (Rect.unit (s := S350) (k0_off19 i) S1.size (k0_off19_inb i)).toLoadRect xt0 (Shape.Idx.first (numel1_S1.symm ▸ Nat.one_pos)))) (k0_hw8 : k0_chk8 (tbM0_0.view.readAt (Elt F) (Rect.unit (s := S350) (k0_off22 i) S1.size (k0_off22_inb i)).toLoadRect xt0 (Shape.Idx.first (numel1_S1.symm ▸ Nat.one_pos)))) (k0_hw9 : k0_chk9 (tbM0_0.view.readAt (Elt F) (Rect.unit (s := S350) (k0_off25 i) S1.size (k0_off25_inb i)).toLoadRect xt0 (Shape.Idx.first (numel1_S1.symm ▸ Nat.one_pos)))) (k0_hw10 : k0_chk10 (tbM0_0.view.readAt (Elt F) (Rect.unit (s := S350) (k0_off28 i) S1.size (k0_off28_inb i)).toLoadRect xt0 (Shape.Idx.first (numel1_S1.symm ▸ Nat.one_pos)))) (k0_hw11 : k0_chk11 (tbM0_0.view.readAt (Elt F) (Rect.unit (s := S350) (k0_off31 i) S1.size (k0_off31_inb i)).toLoadRect xt0 (Shape.Idx.first (numel1_S1.symm ▸ Nat.one_pos)))) (k0_hw12 : k0_chk12 (tbM0_0.view.readAt (Elt F) (Rect.unit (s := S350) (k0_off34 i) S1.size (k0_off34_inb i)).toLoadRect xt0 (Shape.Idx.first (numel1_S1.symm ▸ Nat.one_pos)))) (k0_hw13 : k0_chk13 (tbM0_0.view.readAt (Elt F) (Rect.unit (s := S350) (k0_off37 i) S1.size (k0_off37_inb i)).toLoadRect xt0 (Shape.Idx.first (numel1_S1.symm ▸ Nat.one_pos)))) (k0_hw14 : k0_chk14 (tbM0_0.view.readAt (Elt F) (Rect.unit (s := S350) (k0_off40 i) S1.size (k0_off40_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0) -∗ K ⟨⟩))
          ⊢ wp frame (wpE (defs₀ (F := F)) Variants.none c none) E (cc0__fsaf_group i tbM0_0 htbM0_0 arg3 harg3 arg4 harg4 arg5 harg5 arg6 harg6 arg7 harg7 arg8 harg8 arg9 harg9 arg10 harg10) K := by
    intro E K
    simp only [cc0__fsaf_group_eq_skeleton]; unfold cc0__fsaf_group_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, HT0, Hk⟩
    obtain rfl := harg3.eq_unread hf0; obtain rfl := harg4.eq_unread hf1; obtain rfl := harg5.eq_unread hf2
    sl_exec (disch := first | sl_exact hc0 | sl_exact hc1 | sl_exact hc2 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexact HT0

end Cert.Kernel.Kit

end
-- ==== Proof.KFrame.lean ====
/- The kernel's frame: the arguments end unchanged and every counter at zero. -/
module

public import proofs.«01_k».proof.Proof.KRunB
public import Idealize.ShloMosaic.Lib.Claim

@[expose] public section

set_option maxRecDepth 16384

noncomputable section

namespace Cert.Kernel.Kit

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 6 → Bool := fun w => w.val == 3 || w.val == 4 || w.val == 5

def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
    | ⟨5, h⟩ => Pipeline.Dat.unnamed (cfg := (cfgM m hO)) ⟨5, h⟩ t
  Φ _ := iprop(Pipeline.ΦA spec0 c ∗ Pipeline.ΦT pre0 (tbl m) c)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl

theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d))

def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d))

set_option maxHeartbeats 1600000 in

theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).Φ t.succ = (dats m hO hH 0 c).Φ t.castSucc from rfl,
    show (dats m hO hH 0 c).owesAt () t.succ = (dats m hO hH 0 c).owesAt () t.castSucc from rfl]
  rw [show (dats m hO hH 0 c).Φ t.castSucc = iprop(Pipeline.ΦA spec0 c ∗ Pipeline.ΦT pre0 (tbl m) c) from rfl, PhiT0_eq, PhiA0_eq]
  have hN : t.val < 200 := lt_of_lt_of_eq t.isLt (show (cfgM m hO).N = 200 from N_0)
  by_cases h0 : t.val % 25 = 0
  · by_cases h1 : t.val % 25 = 0
    · by_cases h2 : 1 ≤ t.val % 25
      · exfalso; omega
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) ((hcond0_1 t).mpr h1) (fun h => h2 ((hcond0_2 t).mp h)) (iblk m hO c 0 t) (iblk m hO c 1 t) (iblk m hO c 2 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t)) Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HT0]; · iexact HT0
        iintro ⟨H0, H1, H2, H3, H4, H5, HS0, HS1, HT0⟩
        isplitl [HS0 HS1 Hg HT0]
        · isplitl [HS0 HS1 Hg]
          · isplitl [HS0 HS1]
            · isplitl [HS0]
              · iexact HS0
              iexact HS1
            iexact Hg
          iexact HT0
        isplitl [Ho]; · iexact Ho
        isplitl [H0]; · iexact H0
        isplitl [H1]; · iexact H1
        isplitl [H2]; · iexact H2
        isplitl [H3]; · iexact H3
        isplitl [H4]; · iexact H4
        iexact H5
    · exfalso; omega
  · by_cases h1 : t.val % 25 = 0
    · exfalso; omega
    · by_cases h2 : 1 ≤ t.val % 25
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) ((hcond0_2 t).mpr h2) (iblk m hO c 0 t) (iblk m hO c 1 t) (iblk m hO c 2 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t)) Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HT0]; · iexact HT0
        iintro ⟨H0, H1, H2, H3, H4, H5, HS0, HS1, HT0⟩
        isplitl [HS0 HS1 Hg HT0]
        · isplitl [HS0 HS1 Hg]
          · isplitl [HS0 HS1]
            · isplitl [HS0]
              · iexact HS0
              iexact HS1
            iexact Hg
          iexact HT0
        isplitl [Ho]; · iexact Ho
        isplitl [H0]; · iexact H0
        isplitl [H1]; · iexact H1
        isplitl [H2]; · iexact H2
        isplitl [H3]; · iexact H3
        isplitl [H4]; · iexact H4
        iexact H5
      · exfalso; omega

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

set_option backward.isDefEq.respectTransparency.types false in
set_option maxHeartbeats 800000 in

theorem run_main_quiescent (hO : Ok m) (hH : Hyps m hO) : θ_run defs (onTc (τ := τ) (main (F := F))) (s₀ m ρ) (fun r => (Pipeline.RDat.FramePostR ((Pipeline.pin pcfgs fun _ => adm m hO) 0) (fun c => (dats m hO hH 0 c).toRForget forgets0) T0 (V m)) r ∧ r.2.sem = fun _ => 0) :=
  Pipeline.θ_run_frameP_around_T_forget (Q' := _) pcfgs (fun _ => adm m hO) (dats m hO hH) (0 : Fin 1) launch0 defs₀ Variants.none forgets0 T0 m ρ main
    (hbody := fun c => (body_obligation m hO hH c).loose) (hshare := fun c => (dats m hO hH 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO hH) (hpf := V_pre m) (hΦ := fun _ _ => rfl)

theorem run_main (hO : Ok m) (hH : Hyps m hO) : θ_run defs (onTc (τ := τ) (main (F := F))) (s₀ m ρ) (Pipeline.RDat.FramePostR ((Pipeline.pin pcfgs fun _ => adm m hO) 0) (fun c => (dats m hO hH 0 c).toRForget forgets0) T0 (V m)) :=
  (θ_run defs _ _).mono (fun _ h => h.1) (run_main_quiescent m ρ hO hH)

theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (fun c => (dats m hO hH 0 c).toRForget forgets0) (A_eq m hO hH) (run_main m ρ hO hH)

theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO hH) ((θ_run defs _ _).mono (fun _ h => h.2) (run_main_quiescent m ρ hO hH))

end Cert.Kernel.Kit

end
-- ==== Proof.IKit.lean ====
/- The kernel's program around its pipelined region: the points, the blocks, the conditions of the body's branches. -/
module

public import proofs.«01_k».proof.Proof.Gen.KernelIdeal
public import Idealize.ShloMosaic.Lib.Pipeline.Kit
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Kit

open Cert.KernelIdeal Cert.KernelIdeal.Gen

open Idealize.ShloMosaic Idealize.ShloMosaic.TcCoe
open Idealize.SL Idealize.SL.Sem

variable {F : FTy → Type} [FloatOps F]

theorem fetch0_0 (a : (pcfg0 (F := F)).Adm) : ∀ t : Fin (cfg0 a).N, ((cfg0 a).win 0).fetch t = true ↔ t.val % 25 = 0 :=
  (fun t => Pipeline.Window.fetchOf_reads cc0_transform_0 reads0_0 hreads0_0 0 (by decide) (by decide) (Pipeline.Window.sep_of_coord cc0_transform_0 0 0 (fun _ => rfl) (by decide)) (P := 25) (by decide) t : ∀ t : Fin grid0.N, Pipeline.Window.fetchOf grid0 false cc0_transform_0 t = true ↔ t.val % 25 = 0)

theorem fetch0_1 (a : (pcfg0 (F := F)).Adm) : ∀ t : Fin (cfg0 a).N, ((cfg0 a).win 1).fetch t = true ↔ t.val % 25 = 0 :=
  (fun t => Pipeline.Window.fetchOf_reads cc0_transform_1 reads0_1 hreads0_1 0 (by decide) (by decide) (Pipeline.Window.sep_of_coord cc0_transform_1 0 0 (fun _ => rfl) (by decide)) (P := 25) (by decide) t : ∀ t : Fin grid0.N, Pipeline.Window.fetchOf grid0 false cc0_transform_1 t = true ↔ t.val % 25 = 0)

theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 0 (fun _ => rfl) (by decide)) (P := 1) (by decide) t).mpr (Nat.mod_one _) : ∀ t : Fin grid0.N, Pipeline.Window.fetchOf grid0 false cc0_transform_2 t = true)

theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _) : ∀ t : Fin grid0.N, Pipeline.Window.flushOf grid0 true cc0_transform_3 t = true)

theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 1 (fun _ => rfl) (by decide)) (P := 1) (m := 0) (by decide) rfl t).mpr (Nat.mod_one _) : ∀ t : Fin grid0.N, Pipeline.Window.flushOf grid0 true cc0_transform_4 t = true)

theorem flush0_5 (a : (pcfg0 (F := F)).Adm) : ∀ t : Fin (cfg0 a).N, ((cfg0 a).win 5).flush t = true ↔ t.val % 25 = 24 :=
  (fun t => Pipeline.Window.flushOf_reads cc0_transform_5 reads0_5 hreads0_5 0 (by decide) (by decide) (Pipeline.Window.sep_of_coord cc0_transform_5 0 0 (fun _ => rfl) (by decide)) (P := 25) (m := 24) (by decide) rfl t : ∀ t : Fin grid0.N, Pipeline.Window.flushOf grid0 true cc0_transform_5 t = true ↔ t.val % 25 = 24)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

abbrev bodyAt0 (a : (pcfg0 (F := F)).Adm) (t : Fin (cfg0 a).N) : Prog (TpuEff nD τ sig (Elt F) Λ₀ .tc) PUnit :=
  cc0__fsaf_group (grid0.coords t) (Memref.whole main_c) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in

theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

def T0 : Finset (Ref sig .tc) := {main_cst_0, main_cst_1, main_v10, main_v11, main_v12, main_v13, main_v14, main_v5, main_v6, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)

theorem V_pre (c : Dev nD) (j : Fin 1) : V m c (pre0.ref j) = tbl m j := by
  obtain rfl : c = 0 := Subsingleton.elim _ _; rfl

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbM0_0 : Memref sig .tc .smem S350 .i32 := Memref.whole main_c
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0 \ T0)).trans (V_main_arg0 m c),
      (Pipeline.RDat.FramePostR.arr_in h c 1 rfl).trans ((hA c 1).trans (V_main_arg1 m c)),
      ((h c).2 main_arg2 (by decide : main_arg2 ∈ Pipeline.restRefs sig spec0 \ T0)).trans (V_main_arg2 m c)⟩) h

abbrev cond0_0 (i : grid0.Coords) : Prop := (Scalar.cmpi .ne (Scalar.extui (Scalar.cmpi .eq (BitVec.ofNat 32 (i 1).val) 0#32)) 0#32) = 1#1

theorem hcond0_0 : ∀ t : Fin grid0.N, cond0_0 (grid0.coords t) ↔ t.val % 25 = 0 :=
  (fun t => by
    have ht : t.val < 200 := Nat.lt_of_lt_of_eq t.isLt N_0
    have e0 : (grid0.coords t 0).val = t.val / 25 % 8 := Pipeline.Grid.coords_val t 0 (by decide) rfl
    have e1 : (grid0.coords t 1).val = t.val / 1 % 25 := Pipeline.Grid.coords_val t 1 (by decide) rfl
    simp only [cond0_0, e0, e1]
    word_cmp
   : ∀ t : Fin grid0.N, cond0_0 (grid0.coords t) ↔ t.val % 25 = 0)

abbrev cond0_1 (i : grid0.Coords) : Prop := k0_cond2 i = 1#1

theorem hcond0_1 : ∀ t : Fin grid0.N, cond0_1 (grid0.coords t) ↔ t.val % 25 = 0 :=
  (fun t => by
    have ht : t.val < 200 := Nat.lt_of_lt_of_eq t.isLt N_0
    have e0 : (grid0.coords t 0).val = t.val / 25 % 8 := Pipeline.Grid.coords_val t 0 (by decide) rfl
    have e1 : (grid0.coords t 1).val = t.val / 1 % 25 := Pipeline.Grid.coords_val t 1 (by decide) rfl
    simp only [cond0_1, k0_cond2, e0, e1]
    word_cmp
   : ∀ t : Fin grid0.N, cond0_1 (grid0.coords t) ↔ t.val % 25 = 0)

abbrev cond0_2 (i : grid0.Coords) : Prop := k0_cond3 i = 1#1

theorem hcond0_2 : ∀ t : Fin grid0.N, cond0_2 (grid0.coords t) ↔ 1 ≤ t.val % 25 :=
  (fun t => by
    have ht : t.val < 200 := Nat.lt_of_lt_of_eq t.isLt N_0
    have e0 : (grid0.coords t 0).val = t.val / 25 % 8 := Pipeline.Grid.coords_val t 0 (by decide) rfl
    have e1 : (grid0.coords t 1).val = t.val / 1 % 25 := Pipeline.Grid.coords_val t 1 (by decide) rfl
    simp only [cond0_2, k0_cond3, e0, e1]
    word_cmp
   : ∀ t : Fin grid0.N, cond0_2 (grid0.coords t) ↔ 1 ≤ t.val % 25)

theorem liveAt0_0 (hO : Ok m) : ∀ t : Fin (cfgM m hO).N, (cfgM m hO).idle 0 (grid0.coords t) = false :=
  (fun _ => rfl : ∀ t : Fin grid0.N, idle0 0 (grid0.coords t) = false)

theorem liveAt0_1 (hO : Ok m) : ∀ t : Fin (cfgM m hO).N, (cfgM m hO).idle 1 (grid0.coords t) = false :=
  (fun _ => rfl : ∀ t : Fin grid0.N, idle0 1 (grid0.coords t) = false)

theorem liveAt0_2 (hO : Ok m) : ∀ t : Fin (cfgM m hO).N, (cfgM m hO).idle 2 (grid0.coords t) = false :=
  (fun _ => rfl : ∀ t : Fin grid0.N, idle0 2 (grid0.coords t) = false)

abbrev ms0_0 (hO : Ok m) (t : Fin (cfgM m hO).N) : Memref sig .tc .vmem S1x6x100 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x100x5 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x14x64x4 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x896x80 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x896x8 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1 .f32 := spec0_5.stage ((cfgM m hO).slots t 5)
abbrev hs0_5 (hO : Ok m) (t : Fin (cfgM m hO).N) : (ms0_5 m hO t).IsWhole := hstage0_5 (((cfgM m hO).slots t 5).cast nbuf0_5)

def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S350) (k0_off1 (grid0.coords t)) S1.size (k0_off1_inb (grid0.coords t))).toLoadRect (tbl m 0) (Shape.Idx.first (numel1_S1.symm ▸ Nat.one_pos)))
    ∧ k0_chk2 (tbM0_0.view.readAt (Elt F) (Rect.unit (s := S350) (k0_off4 (grid0.coords t)) S1.size (k0_off4_inb (grid0.coords t))).toLoadRect (tbl m 0) (Shape.Idx.first (numel1_S1.symm ▸ Nat.one_pos)))
    ∧ k0_chk3 (tbM0_0.view.readAt (Elt F) (Rect.unit (s := S350) (k0_off7 (grid0.coords t)) S1.size (k0_off7_inb (grid0.coords t))).toLoadRect (tbl m 0) (Shape.Idx.first (numel1_S1.symm ▸ Nat.one_pos)))
    ∧ k0_chk4 (tbM0_0.view.readAt (Elt F) (Rect.unit (s := S350) (k0_off10 (grid0.coords t)) S1.size (k0_off10_inb (grid0.coords t))).toLoadRect (tbl m 0) (Shape.Idx.first (numel1_S1.symm ▸ Nat.one_pos)))
    ∧ k0_chk5 (tbM0_0.view.readAt (Elt F) (Rect.unit (s := S350) (k0_off13 (grid0.coords t)) S1.size (k0_off13_inb (grid0.coords t))).toLoadRect (tbl m 0) (Shape.Idx.first (numel1_S1.symm ▸ Nat.one_pos)))
    ∧ k0_chk6 (tbM0_0.view.readAt (Elt F) (Rect.unit (s := S350) (k0_off16 (grid0.coords t)) S1.size (k0_off16_inb (grid0.coords t))).toLoadRect (tbl m 0) (Shape.Idx.first (numel1_S1.symm ▸ Nat.one_pos)))
    ∧ k0_chk7 (tbM0_0.view.readAt (Elt F) (Rect.unit (s := S350) (k0_off19 (grid0.coords t)) S1.size (k0_off19_inb (grid0.coords t))).toLoadRect (tbl m 0) (Shape.Idx.first (numel1_S1.symm ▸ Nat.one_pos)))
    ∧ k0_chk8 (tbM0_0.view.readAt (Elt F) (Rect.unit (s := S350) (k0_off22 (grid0.coords t)) S1.size (k0_off22_inb (grid0.coords t))).toLoadRect (tbl m 0) (Shape.Idx.first (numel1_S1.symm ▸ Nat.one_pos)))
    ∧ k0_chk9 (tbM0_0.view.readAt (Elt F) (Rect.unit (s := S350) (k0_off25 (grid0.coords t)) S1.size (k0_off25_inb (grid0.coords t))).toLoadRect (tbl m 0) (Shape.Idx.first (numel1_S1.symm ▸ Nat.one_pos)))
    ∧ k0_chk10 (tbM0_0.view.readAt (Elt F) (Rect.unit (s := S350) (k0_off28 (grid0.coords t)) S1.size (k0_off28_inb (grid0.coords t))).toLoadRect (tbl m 0) (Shape.Idx.first (numel1_S1.symm ▸ Nat.one_pos)))
    ∧ k0_chk11 (tbM0_0.view.readAt (Elt F) (Rect.unit (s := S350) (k0_off31 (grid0.coords t)) S1.size (k0_off31_inb (grid0.coords t))).toLoadRect (tbl m 0) (Shape.Idx.first (numel1_S1.symm ▸ Nat.one_pos)))
    ∧ k0_chk12 (tbM0_0.view.readAt (Elt F) (Rect.unit (s := S350) (k0_off34 (grid0.coords t)) S1.size (k0_off34_inb (grid0.coords t))).toLoadRect (tbl m 0) (Shape.Idx.first (numel1_S1.symm ▸ Nat.one_pos)))
    ∧ k0_chk13 (tbM0_0.view.readAt (Elt F) (Rect.unit (s := S350) (k0_off37 (grid0.coords t)) S1.size (k0_off37_inb (grid0.coords t))).toLoadRect (tbl m 0) (Shape.Idx.first (numel1_S1.symm ▸ Nat.one_pos)))
    ∧ k0_chk14 (tbM0_0.view.readAt (Elt F) (Rect.unit (s := S350) (k0_off40 (grid0.coords t)) S1.size (k0_off40_inb (grid0.coords t))).toLoadRect (tbl m 0) (Shape.Idx.first (numel1_S1.symm ▸ Nat.one_pos)))

abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S350) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S350) (k0_off1 (grid0.coords t)) S1.size (k0_off1_inb (grid0.coords t))).toLoadRect (tbl m 0) (Shape.Idx.first (numel1_S1.symm ▸ Nat.one_pos))) := (hH c t).1

abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S350) (k0_off4 (grid0.coords t)) S1.size (k0_off4_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (tbM0_0.view.readAt (Elt F) (Rect.unit (s := S350) (k0_off4 (grid0.coords t)) S1.size (k0_off4_inb (grid0.coords t))).toLoadRect (tbl m 0) (Shape.Idx.first (numel1_S1.symm ▸ Nat.one_pos))) := (hH c t).2.1

abbrev Hyps.p2 (m : (ℓ : Loc nD τ sig) → Buf (Elt F) ℓ) (hO : Ok m) (c : Dev nD) (t : Fin (cfgM m hO).N) : Prop :=
  k0_chk3 (tbM0_0.view.readAt (Elt F) (Rect.unit (s := S350) (k0_off7 (grid0.coords t)) S1.size (k0_off7_inb (grid0.coords t))).toLoadRect (tbl m 0) (Shape.Idx.first (numel1_S1.symm ▸ Nat.one_pos)))
variable {m} in
theorem Hyps.c2 {hO : Ok m} (hH : Hyps m hO) (c : Dev nD) (t : Fin (cfgM m hO).N) :
    k0_chk3 (tbM0_0.view.readAt (Elt F) (Rect.unit (s := S350) (k0_off7 (grid0.coords t)) S1.size (k0_off7_inb (grid0.coords t))).toLoadRect (tbl m 0) (Shape.Idx.first (numel1_S1.symm ▸ Nat.one_pos))) := (hH c t).2.2.1

abbrev Hyps.p3 (m : (ℓ : Loc nD τ sig) → Buf (Elt F) ℓ) (hO : Ok m) (c : Dev nD) (t : Fin (cfgM m hO).N) : Prop :=
  k0_chk4 (tbM0_0.view.readAt (Elt F) (Rect.unit (s := S350) (k0_off10 (grid0.coords t)) S1.size (k0_off10_inb (grid0.coords t))).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (tbM0_0.view.readAt (Elt F) (Rect.unit (s := S350) (k0_off10 (grid0.coords t)) S1.size (k0_off10_inb (grid0.coords t))).toLoadRect (tbl m 0) (Shape.Idx.first (numel1_S1.symm ▸ Nat.one_pos))) := (hH c t).2.2.2.1

abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S350) (k0_off13 (grid0.coords t)) S1.size (k0_off13_inb (grid0.coords t))).toLoadRect (tbl m 0) (Shape.Idx.first (numel1_S1.symm ▸ Nat.one_pos)))
variable {m} in
theorem Hyps.c4 {hO : Ok m} (hH : Hyps m hO) (c : Dev nD) (t : Fin (cfgM m hO).N) :
    k0_chk5 (tbM0_0.view.readAt (Elt F) (Rect.unit (s := S350) (k0_off13 (grid0.coords t)) S1.size (k0_off13_inb (grid0.coords t))).toLoadRect (tbl m 0) (Shape.Idx.first (numel1_S1.symm ▸ Nat.one_pos))) := (hH c t).2.2.2.2.1

abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S350) (k0_off16 (grid0.coords t)) S1.size (k0_off16_inb (grid0.coords t))).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_0.view.readAt (Elt F) (Rect.unit (s := S350) (k0_off16 (grid0.coords t)) S1.size (k0_off16_inb (grid0.coords t))).toLoadRect (tbl m 0) (Shape.Idx.first (numel1_S1.symm ▸ Nat.one_pos))) := (hH c t).2.2.2.2.2.1

abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S350) (k0_off19 (grid0.coords t)) S1.size (k0_off19_inb (grid0.coords t))).toLoadRect (tbl m 0) (Shape.Idx.first (numel1_S1.symm ▸ Nat.one_pos)))
variable {m} in
theorem Hyps.c6 {hO : Ok m} (hH : Hyps m hO) (c : Dev nD) (t : Fin (cfgM m hO).N) :
    k0_chk7 (tbM0_0.view.readAt (Elt F) (Rect.unit (s := S350) (k0_off19 (grid0.coords t)) S1.size (k0_off19_inb (grid0.coords t))).toLoadRect (tbl m 0) (Shape.Idx.first (numel1_S1.symm ▸ Nat.one_pos))) := (hH c t).2.2.2.2.2.2.1

abbrev Hyps.p7 (m : (ℓ : Loc nD τ sig) → Buf (Elt F) ℓ) (hO : Ok m) (c : Dev nD) (t : Fin (cfgM m hO).N) : Prop :=
  k0_chk8 (tbM0_0.view.readAt (Elt F) (Rect.unit (s := S350) (k0_off22 (grid0.coords t)) S1.size (k0_off22_inb (grid0.coords t))).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_0.view.readAt (Elt F) (Rect.unit (s := S350) (k0_off22 (grid0.coords t)) S1.size (k0_off22_inb (grid0.coords t))).toLoadRect (tbl m 0) (Shape.Idx.first (numel1_S1.symm ▸ Nat.one_pos))) := (hH c t).2.2.2.2.2.2.2.1

abbrev Hyps.p8 (m : (ℓ : Loc nD τ sig) → Buf (Elt F) ℓ) (hO : Ok m) (c : Dev nD) (t : Fin (cfgM m hO).N) : Prop :=
  k0_chk9 (tbM0_0.view.readAt (Elt F) (Rect.unit (s := S350) (k0_off25 (grid0.coords t)) S1.size (k0_off25_inb (grid0.coords t))).toLoadRect (tbl m 0) (Shape.Idx.first (numel1_S1.symm ▸ Nat.one_pos)))
variable {m} in
theorem Hyps.c8 {hO : Ok m} (hH : Hyps m hO) (c : Dev nD) (t : Fin (cfgM m hO).N) :
    k0_chk9 (tbM0_0.view.readAt (Elt F) (Rect.unit (s := S350) (k0_off25 (grid0.coords t)) S1.size (k0_off25_inb (grid0.coords t))).toLoadRect (tbl m 0) (Shape.Idx.first (numel1_S1.symm ▸ Nat.one_pos))) := (hH c t).2.2.2.2.2.2.2.2.1

abbrev Hyps.p9 (m : (ℓ : Loc nD τ sig) → Buf (Elt F) ℓ) (hO : Ok m) (c : Dev nD) (t : Fin (cfgM m hO).N) : Prop :=
  k0_chk10 (tbM0_0.view.readAt (Elt F) (Rect.unit (s := S350) (k0_off28 (grid0.coords t)) S1.size (k0_off28_inb (grid0.coords t))).toLoadRect (tbl m 0) (Shape.Idx.first (numel1_S1.symm ▸ Nat.one_pos)))
variable {m} in
theorem Hyps.c9 {hO : Ok m} (hH : Hyps m hO) (c : Dev nD) (t : Fin (cfgM m hO).N) :
    k0_chk10 (tbM0_0.view.readAt (Elt F) (Rect.unit (s := S350) (k0_off28 (grid0.coords t)) S1.size (k0_off28_inb (grid0.coords t))).toLoadRect (tbl m 0) (Shape.Idx.first (numel1_S1.symm ▸ Nat.one_pos))) := (hH c t).2.2.2.2.2.2.2.2.2.1

abbrev Hyps.p10 (m : (ℓ : Loc nD τ sig) → Buf (Elt F) ℓ) (hO : Ok m) (c : Dev nD) (t : Fin (cfgM m hO).N) : Prop :=
  k0_chk11 (tbM0_0.view.readAt (Elt F) (Rect.unit (s := S350) (k0_off31 (grid0.coords t)) S1.size (k0_off31_inb (grid0.coords t))).toLoadRect (tbl m 0) (Shape.Idx.first (numel1_S1.symm ▸ Nat.one_pos)))
variable {m} in
theorem Hyps.c10 {hO : Ok m} (hH : Hyps m hO) (c : Dev nD) (t : Fin (cfgM m hO).N) :
    k0_chk11 (tbM0_0.view.readAt (Elt F) (Rect.unit (s := S350) (k0_off31 (grid0.coords t)) S1.size (k0_off31_inb (grid0.coords t))).toLoadRect (tbl m 0) (Shape.Idx.first (numel1_S1.symm ▸ Nat.one_pos))) := (hH c t).2.2.2.2.2.2.2.2.2.2.1

abbrev Hyps.p11 (m : (ℓ : Loc nD τ sig) → Buf (Elt F) ℓ) (hO : Ok m) (c : Dev nD) (t : Fin (cfgM m hO).N) : Prop :=
  k0_chk12 (tbM0_0.view.readAt (Elt F) (Rect.unit (s := S350) (k0_off34 (grid0.coords t)) S1.size (k0_off34_inb (grid0.coords t))).toLoadRect (tbl m 0) (Shape.Idx.first (numel1_S1.symm ▸ Nat.one_pos)))
variable {m} in
theorem Hyps.c11 {hO : Ok m} (hH : Hyps m hO) (c : Dev nD) (t : Fin (cfgM m hO).N) :
    k0_chk12 (tbM0_0.view.readAt (Elt F) (Rect.unit (s := S350) (k0_off34 (grid0.coords t)) S1.size (k0_off34_inb (grid0.coords t))).toLoadRect (tbl m 0) (Shape.Idx.first (numel1_S1.symm ▸ Nat.one_pos))) := (hH c t).2.2.2.2.2.2.2.2.2.2.2.1

abbrev Hyps.p12 (m : (ℓ : Loc nD τ sig) → Buf (Elt F) ℓ) (hO : Ok m) (c : Dev nD) (t : Fin (cfgM m hO).N) : Prop :=
  k0_chk13 (tbM0_0.view.readAt (Elt F) (Rect.unit (s := S350) (k0_off37 (grid0.coords t)) S1.size (k0_off37_inb (grid0.coords t))).toLoadRect (tbl m 0) (Shape.Idx.first (numel1_S1.symm ▸ Nat.one_pos)))
variable {m} in
theorem Hyps.c12 {hO : Ok m} (hH : Hyps m hO) (c : Dev nD) (t : Fin (cfgM m hO).N) :
    k0_chk13 (tbM0_0.view.readAt (Elt F) (Rect.unit (s := S350) (k0_off37 (grid0.coords t)) S1.size (k0_off37_inb (grid0.coords t))).toLoadRect (tbl m 0) (Shape.Idx.first (numel1_S1.symm ▸ Nat.one_pos))) := (hH c t).2.2.2.2.2.2.2.2.2.2.2.2.1

abbrev Hyps.p13 (m : (ℓ : Loc nD τ sig) → Buf (Elt F) ℓ) (hO : Ok m) (c : Dev nD) (t : Fin (cfgM m hO).N) : Prop :=
  k0_chk14 (tbM0_0.view.readAt (Elt F) (Rect.unit (s := S350) (k0_off40 (grid0.coords t)) S1.size (k0_off40_inb (grid0.coords t))).toLoadRect (tbl m 0) (Shape.Idx.first (numel1_S1.symm ▸ Nat.one_pos)))
variable {m} in
theorem Hyps.c13 {hO : Ok m} (hH : Hyps m hO) (c : Dev nD) (t : Fin (cfgM m hO).N) :
    k0_chk14 (tbM0_0.view.readAt (Elt F) (Rect.unit (s := S350) (k0_off40 (grid0.coords t)) S1.size (k0_off40_inb (grid0.coords t))).toLoadRect (tbl m 0) (Shape.Idx.first (numel1_S1.symm ▸ Nat.one_pos))) := (hH c t).2.2.2.2.2.2.2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t)
    (p8 : ∀ (c : Dev nD) (t : Fin (cfgM m hO).N), Hyps.p8 m hO c t)
    (p9 : ∀ (c : Dev nD) (t : Fin (cfgM m hO).N), Hyps.p9 m hO c t)
    (p10 : ∀ (c : Dev nD) (t : Fin (cfgM m hO).N), Hyps.p10 m hO c t)
    (p11 : ∀ (c : Dev nD) (t : Fin (cfgM m hO).N), Hyps.p11 m hO c t)
    (p12 : ∀ (c : Dev nD) (t : Fin (cfgM m hO).N), Hyps.p12 m hO c t)
    (p13 : ∀ (c : Dev nD) (t : Fin (cfgM m hO).N), Hyps.p13 m hO c t) :
    Hyps m hO := fun c t =>
  And.intro (p0 c t) (And.intro (p1 c t) (And.intro (p2 c t) (And.intro (p3 c t) (And.intro (p4 c t) (And.intro (p5 c t) (And.intro (p6 c t) (And.intro (p7 c t) (And.intro (p8 c t) (And.intro (p9 c t) (And.intro (p10 c t) (And.intro (p11 c t) (And.intro (p12 c t) (p13 c t)))))))))))))

abbrev scM0_0 : Memref sig .tc .vmem S48x100 .f32 := Memref.whole cc0_scratch0
abbrev scM0_1 : Memref sig .tc .vmem S100x80 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Kit

end
-- ==== Proof.IBlock.lean ====
/- What one run of the ideal kernel's body leaves in its blocks, as functions of what it reads. -/
module

public import proofs.«01_k».proof.Proof.IKit
public import Idealize.ShloMosaic.Lib.WritesUnit
public import Idealize.ShloMosaic.Lib.VecWindow
public import Idealize.ShloMosaic.Lib.ValueIdxCore
public import Idealize.ShloMosaic.Lib.WholeRead

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

/-- Four rows of the bounds scratch from row `o` on. -/
def rowsB (B : Vec F S48x100 .f32) (o : ℕ) : Vec F S4x100 .f32 :=
  fun x => B (ix2 ⟨min (o + (x 0).val) 47, by omega⟩ (x 1))

/-- The row of ranks in the bounds scratch. -/
def rankOf (B : Vec F S48x100 .f32) : Vec F S1x100 .f32 := fun x => B (ix2 ⟨40, by omega⟩ (x 1))

/-- The constants of tile `k` in a block of constants. -/
def metaAt (x2 : Vec F S1x14x64x4 .f32) (k : Fin 14) : Vec F S1x1x64x4 .f32 :=
  fun x => x2 (ix4 0 k (x 2) (x 3))

/-- The least rank among the boxes a location lies in (1000 for the ignored region, 1e9 for none). -/
def tSel (v5 : Vec F S1x100 .f32) (p q : Vec F S4x100 .f32) (mt : Vec F S1x1x64x4 .f32) : FVec F S64x1 .f32 :=
  k0_pay170 v5 (k0_pay168 mt) (k0_pay169 mt) p q
/-- The box chosen, as a row of zeros and ones. -/
def tOne (v5 : Vec F S1x100 .f32) (p q : Vec F S4x100 .f32) (mt : Vec F S1x1x64x4 .f32) : FVec F S64x100 .f32 :=
  k0_pay171 v5 (k0_pay168 mt) (k0_pay169 mt) p q
/-- One where a box was chosen. -/
def tPos (v5 : Vec F S1x100 .f32) (p q : Vec F S4x100 .f32) (mt : Vec F S1x1x64x4 .f32) : FVec F S64x1 .f32 :=
  k0_pay172 v5 (k0_pay168 mt) (k0_pay169 mt) p q
/-- The classification targets of a tile. -/
def tCls (v5 : Vec F S1x100 .f32) (lm : Vec F S100x80 .f32) (p q : Vec F S4x100 .f32) (mt : Vec F S1x1x64x4 .f32) :
    FVec F S1x64x80 .f32 :=
  k0_pay174 (tOne v5 p q mt) (tPos v5 p q mt) lm
/-- The other targets of a tile. -/
def tAux (v5 : Vec F S1x100 .f32) (x1 : Vec F S1x100x5 .f32) (p q : Vec F S4x100 .f32) (mt : Vec F S1x1x64x4 .f32) :
    FVec F S1x64x8 .f32 :=
  k0_pay175 (k0_pay167 mt) (tSel v5 p q mt) (tOne v5 p q mt) (tPos v5 p q mt) (k0_pay173 (k0_pay155 x1))

variable (B : Vec F S48x100 .f32) (lm : Vec F S100x80 .f32) (x1 : Vec F S1x100x5 .f32) (x2 : Vec F S1x14x64x4 .f32)
  (W : Fin 14 → ℕ)

/-- The ones of tile `k`. -/
def posAt (k : Fin 14) : FVec F S64x1 .f32 := tPos (rankOf B) (rowsB B (W k * 4)) (rowsB B (W k * 4 + 20)) (metaAt x2 k)
/-- The classification targets of tile `k`. -/
def clsAt (k : Fin 14) : FVec F S1x64x80 .f32 :=
  tCls (rankOf B) lm (rowsB B (W k * 4)) (rowsB B (W k * 4 + 20)) (metaAt x2 k)
/-- The other targets of tile `k`. -/
def auxAt (k : Fin 14) : FVec F S1x64x8 .f32 :=
  tAux (rankOf B) x1 (rowsB B (W k * 4)) (rowsB B (W k * 4 + 20)) (metaAt x2 k)

/-- The block of classification targets. -/
def blk3 : Vec F S1x896x80 .f32 :=
  fun y => clsAt B lm x2 W ⟨(y 1).val / 64, by have : (y 1).val < 896 := (y 1).isLt; omega⟩
    (ix3 0 ⟨(y 1).val % 64, by omega⟩ (y 2))
/-- The block of the other targets. -/
def blk4 : Vec F S1x896x8 .f32 :=
  fun y => auxAt B x1 x2 W ⟨(y 1).val / 64, by have : (y 1).val < 896 := (y 1).isLt; omega⟩
    (ix3 0 ⟨(y 1).val % 64, by omega⟩ (y 2))

/-- The ones of the fourteen tiles added up, row by row. -/
def posSum : FVec F S64x1 .f32 :=
  addf (addf (addf (addf (addf (addf (addf (addf (addf (addf (addf (addf (addf (addf
    (broadcast S64x1 (Scalar.ofBits .f32 0x00000000#32 : F .f32)) (posAt B x2 W 0)) (posAt B x2 W 1)) (posAt B x2 W 2))
    (posAt B x2 W 3)) (posAt B x2 W 4)) (posAt B x2 W 5)) (posAt B x2 W 6)) (posAt B x2 W 7)) (posAt B x2 W 8))
    (posAt B x2 W 9)) (posAt B x2 W 10)) (posAt B x2 W 11)) (posAt B x2 W 12)) (posAt B x2 W 13)

/-- How many locations of the block have a box. -/
def npart : Vec F S1x1x1 .f32 := k0_pay1 (shapeCast S1x64x1 (posSum B x2 W) shapeCasts_S64x1_S1x64x1)
/-- The count so far with the block's added. -/
def nadd (old : Vec F S1x1x1 .f32) : Vec F S1x1x1 .f32 :=
  k0_pay2 (shapeCast S1x64x1 (posSum B x2 W) shapeCasts_S64x1_S1x64x1) old

theorem pay_npart {p0 p1 p2 p3 p4 p5 p6 p7 p8 p9 p10 p11 p12 p13 : FVec F S64x1 .f32} (h0 : p0 = posAt B x2 W 0) (h1 : p1 = posAt B x2 W 1) (h2 : p2 = posAt B x2 W 2) (h3 : p3 = posAt B x2 W 3) (h4 : p4 = posAt B x2 W 4) (h5 : p5 = posAt B x2 W 5) (h6 : p6 = posAt B x2 W 6) (h7 : p7 = posAt B x2 W 7) (h8 : p8 = posAt B x2 W 8) (h9 : p9 = posAt B x2 W 9) (h10 : p10 = posAt B x2 W 10) (h11 : p11 = posAt B x2 W 11) (h12 : p12 = posAt B x2 W 12) (h13 : p13 = posAt B x2 W 13) :
    k0_pay1 (k0_pay325 p0 p1 p2 p3 p4 p5 p6 p7 p8 p9 p10 p11 p12 p13) = npart B x2 W := by
  subst h0 h1 h2 h3 h4 h5 h6 h7 h8 h9 h10 h11 h12 h13; rfl

theorem pay_nadd {p0 p1 p2 p3 p4 p5 p6 p7 p8 p9 p10 p11 p12 p13 : FVec F S64x1 .f32} (h0 : p0 = posAt B x2 W 0) (h1 : p1 = posAt B x2 W 1) (h2 : p2 = posAt B x2 W 2) (h3 : p3 = posAt B x2 W 3) (h4 : p4 = posAt B x2 W 4) (h5 : p5 = posAt B x2 W 5) (h6 : p6 = posAt B x2 W 6) (h7 : p7 = posAt B x2 W 7) (h8 : p8 = posAt B x2 W 8) (h9 : p9 = posAt B x2 W 9) (h10 : p10 = posAt B x2 W 10) (h11 : p11 = posAt B x2 W 11) (h12 : p12 = posAt B x2 W 12) (h13 : p13 = posAt B x2 W 13)
    {old old' : Vec F S1x1x1 .f32} (ho : old' = old) :
    k0_pay2 (k0_pay325 p0 p1 p2 p3 p4 p5 p6 p7 p8 p9 p10 p11 p12 p13) old' = nadd B x2 W old := by
  subst h0 h1 h2 h3 h4 h5 h6 h7 h8 h9 h10 h11 h12 h13; subst ho; rfl

section Reading
variable {sig : RefSig} {κ : Kind} {sp : Space}

theorem rows_p (v : View sig κ sp S48x100 .f32) (f : v.ty.Contents (Elt F)) (w : BitVec 32) (hw : w.toNat ≤ 4) (inb) :
    View.readAt (Elt F) v (Rect.unit (s := S48x100) (k0_off2 w) S4x100.size inb).toLoadRect f
      = rowsB (v.read (Elt F) f) (w.toNat * 4) := by
  funext x
  have h0 : (x 0).val < 4 := (x 0).isLt
  have hv : (k0_off2 w) 0 = w.toNat * 4 := by
    show (w * 4#32).toNat = _
    rw [BitVec.toNat_mul]; simp; omega
  refine congrArg (v.read (Elt F) f) (funext fun a => Fin.ext ?_)
  match a with
  | ⟨0, _⟩ => show (k0_off2 w) 0 + 1 * (x 0).val = min _ _; rw [hv]; omega
  | ⟨1, _⟩ => show 0 + 1 * (x 1).val = (x 1).val; omega

theorem rows_q (v : View sig κ sp S48x100 .f32) (f : v.ty.Contents (Elt F)) (w : BitVec 32) (hw : w.toNat ≤ 4) (inb) :
    View.readAt (Elt F) v (Rect.unit (s := S48x100) (k0_off3 w) S4x100.size inb).toLoadRect f
      = rowsB (v.read (Elt F) f) (w.toNat * 4 + 20) := by
  funext x
  have h0 : (x 0).val < 4 := (x 0).isLt
  have hv : (k0_off3 w) 0 = w.toNat * 4 + 20 := by
    show (w * 4#32 + 20#32).toNat = _
    rw [BitVec.toNat_add, BitVec.toNat_mul]; simp; omega
  refine congrArg (v.read (Elt F) f) (funext fun a => Fin.ext ?_)
  match a with
  | ⟨0, _⟩ => show (k0_off3 w) 0 + 1 * (x 0).val = min _ _; rw [hv]; omega
  | ⟨1, _⟩ => show 0 + 1 * (x 1).val = (x 1).val; omega

theorem row_rank (v : View sig κ sp S48x100 .f32) (f : v.ty.Contents (Elt F)) (inb) :
    View.readAt (Elt F) v (Rect.unit (s := S48x100) ![40, 0] S1x100.size inb).toLoadRect f
      = rankOf (v.read (Elt F) f) := by
  funext x
  have h0 : (x 0).val < 1 := (x 0).isLt
  refine congrArg (v.read (Elt F) f) (funext fun a => Fin.ext ?_)
  match a with
  | ⟨0, _⟩ => show 40 + 1 * (x 0).val = 40; omega
  | ⟨1, _⟩ => show 0 + 1 * (x 1).val = (x 1).val; omega

theorem meta_read {m : Memref sig κ sp S1x14x64x4 .f32} (h : m.IsWhole) (k : Fin 14) (inb) :
    View.readAt (Elt F) m.view (Rect.unit (s := S1x14x64x4) ![0, k.val, 0, 0] S1x1x64x4.size inb).toLoadRect (h.unread x2)
      = metaAt x2 k := by
  funext x
  rw [h.readAt_unread]
  have h0 : (x 0).val < 1 := (x 0).isLt
  have h1 : (x 1).val < 1 := (x 1).isLt
  refine congrArg x2 (funext fun a => Fin.ext ?_)
  match a with
  | ⟨0, _⟩ => show 0 + 1 * (x 0).val = 0; omega
  | ⟨1, _⟩ => show k.val + 1 * (x 1).val = k.val; omega
  | ⟨2, _⟩ => show 0 + 1 * (x 2).val = (x 2).val; omega
  | ⟨3, _⟩ => show 0 + 1 * (x 3).val = (x 3).val; omega

/-- A load of a whole buffer is its contents. -/
theorem full_read {s : Shape} {e : EltTy} (v : View sig κ sp s e) (f : v.ty.Contents (Elt F))
    (off : Fin s.rank → ℕ) (ho : ∀ a, off a = 0) (inb) :
    View.readAt (Elt F) v (Rect.unit (s := s) off s.size inb).toLoadRect f = v.read (Elt F) f := by
  funext x
  refine congrArg (v.read (Elt F) f) (funext fun a => Fin.ext ?_)
  show off a + 1 * (x a).val = (x a).val
  rw [ho]; omega

/-- One more tile written above the ones below it. -/
theorem tile_step {n : ℕ} (v : View sig κ sp ⟨3, ![1, 896, n]⟩ .f32) (f : v.ty.Contents (Elt F))
    (T : Fin 14 → Vec F ⟨3, ![1, 64, n]⟩ .f32) (k : Fin 14) (o o' : ℕ) (ho : o = k.val * 64) (ho' : o' = (k.val + 1) * 64) (L) (w : Vec F ⟨3, ![1, 64, n]⟩ .f32) (inb) (hw : w = T k)
    (G : Vec F ⟨3, ![1, 896, n]⟩ .f32)
    (hG : G = fun y => T ⟨(y 1).val / 64, by have : (y 1).val < 896 := (y 1).isLt; omega⟩
      (ix3 0 ⟨(y 1).val % 64, by omega⟩ (y 2)))
    (hrest : ∀ y : (⟨3, ![1, 896, n]⟩ : Shape).Idx, (y 1).val < o → v.read (Elt F) (v.writes (Elt F) f L) y = G y) :
    ∀ y : (⟨3, ![1, 896, n]⟩ : Shape).Idx, (y 1).val < o' →
      v.read (Elt F) (v.writes (Elt F) f
        ((⟨Rect.unit (s := ⟨3, ![1, 896, n]⟩) ![0, o, 0] ![1, 64, n] inb, w⟩ : View.Piece (Elt F) _ _) :: L)) y = G y := by
  subst ho ho'
  intro y hy
  by_cases hk : (y 1).val < k.val * 64
  · rw [View.read_writes_cons_unit_of_not_mem (off' := ![0, k.val * 64, 0]) v f inb w L y rfl 1 (.inl hk)]
    exact hrest y hk
  · have h0 : (y 0).val < 1 := (y 0).isLt
    have hd : (y 1).val / 64 = k.val := by omega
    rw [View.read_writes_cons_unit_of_mem (off' := ![0, k.val * 64, 0]) v f inb w L y
      (ix3 (n0 := 1) (n1 := 64) (n2 := n) 0 ⟨(y 1).val % 64, by omega⟩ (y 2)) rfl (fun a => ?_), hG, hw]
    · have : (⟨(y 1).val / 64, by have : (y 1).val < 896 := (y 1).isLt; omega⟩ : Fin 14) = k := Fin.ext hd
      simp only [this]
    · match a with
      | ⟨0, _⟩ => show (y 0).val = 0 + 0; omega
      | ⟨1, _⟩ => show (y 1).val = k.val * 64 + (y 1).val % 64; omega
      | ⟨2, _⟩ => show (y 2).val = 0 + (y 2).val; omega

theorem off2_inb (w : BitVec 32) (hw : w.toNat ≤ 4) : ∀ a, (k0_off2 w) a + S4x100.size a ≤ S48x100.size a := by
  intro a
  have hv : (k0_off2 w) 0 = w.toNat * 4 := by
    show (w * 4#32).toNat = _
    rw [BitVec.toNat_mul]; simp; omega
  match a with
  | ⟨0, _⟩ => show (k0_off2 w) 0 + 4 ≤ 48; omega
  | ⟨1, _⟩ => show 0 + 100 ≤ 100; omega

theorem off3_inb (w : BitVec 32) (hw : w.toNat ≤ 4) : ∀ a, (k0_off3 w) a + S4x100.size a ≤ S48x100.size a := by
  intro a
  have hv : (k0_off3 w) 0 = w.toNat * 4 + 20 := by
    show (w * 4#32 + 20#32).toNat = _
    rw [BitVec.toNat_add, BitVec.toNat_mul]; simp; omega
  match a with
  | ⟨0, _⟩ => show (k0_off3 w) 0 + 4 ≤ 48; omega
  | ⟨1, _⟩ => show 0 + 100 ≤ 100; omega

theorem meta_inb (k : Fin 14) : ∀ a, (![0, k.val, 0, 0] : Fin 4 → ℕ) a + S1x1x64x4.size a ≤ S1x14x64x4.size a := by
  intro a
  match a with
  | ⟨0, _⟩ => show 0 + 1 ≤ 1; omega
  | ⟨1, _⟩ => show k.val + 1 ≤ 14; omega
  | ⟨2, _⟩ => show 0 + 64 ≤ 64; omega
  | ⟨3, _⟩ => show 0 + 4 ≤ 4; omega

section Payloads
variable (v9 : View sig κ sp S48x100 .f32) (f9 : v9.ty.Contents (Elt F)) (v10 : View sig κ sp S100x80 .f32) (f10 : v10.ty.Contents (Elt F))
  {m5 : Memref sig κ sp S1x14x64x4 .f32} (h5 : m5.IsWhole) {m4 : Memref sig κ sp S1x100x5 .f32} (h4 : m4.IsWhole)
  (k : Fin 14) (w : BitVec 32) (hw : w.toNat = W k) (hle : w.toNat ≤ 4)

include hw

theorem pay_pos :
    tPos (View.readAt (Elt F) v9 (Rect.unit (s := S48x100) ![40, 0] S1x100.size inb_S48x100_S1x100_40_0).toLoadRect f9)
      (View.readAt (Elt F) v9 (Rect.unit (s := S48x100) (k0_off2 w) S4x100.size (off2_inb w hle)).toLoadRect f9)
      (View.readAt (Elt F) v9 (Rect.unit (s := S48x100) (k0_off3 w) S4x100.size (off3_inb w hle)).toLoadRect f9)
      (View.readAt (Elt F) m5.view (Rect.unit (s := S1x14x64x4) ![0, k.val, 0, 0] S1x1x64x4.size (meta_inb k)).toLoadRect (h5.unread x2))
      = posAt (v9.read (Elt F) f9) x2 W k := by
  rw [rows_p v9 f9 w hle, rows_q v9 f9 w hle, meta_read x2 h5 k, hw, row_rank]; rfl

theorem pay_cls :
    tCls (View.readAt (Elt F) v9 (Rect.unit (s := S48x100) ![40, 0] S1x100.size inb_S48x100_S1x100_40_0).toLoadRect f9)
      (View.readAt (Elt F) v10 (Rect.unit (s := S100x80) ![0, 0] S100x80.size inb_S100x80_S100x80_0_0).toLoadRect f10)
      (View.readAt (Elt F) v9 (Rect.unit (s := S48x100) (k0_off2 w) S4x100.size (off2_inb w hle)).toLoadRect f9)
      (View.readAt (Elt F) v9 (Rect.unit (s := S48x100) (k0_off3 w) S4x100.size (off3_inb w hle)).toLoadRect f9)
      (View.readAt (Elt F) m5.view (Rect.unit (s := S1x14x64x4) ![0, k.val, 0, 0] S1x1x64x4.size (meta_inb k)).toLoadRect (h5.unread x2))
      = clsAt (v9.read (Elt F) f9) (v10.read (Elt F) f10) x2 W k := by
  rw [rows_p v9 f9 w hle, rows_q v9 f9 w hle, meta_read x2 h5 k, hw, row_rank, full_read _ _ _ (by decide)]; rfl

theorem pay_aux :
    tAux (View.readAt (Elt F) v9 (Rect.unit (s := S48x100) ![40, 0] S1x100.size inb_S48x100_S1x100_40_0).toLoadRect f9)
      (View.readAt (Elt F) m4.view (Rect.unit (s := S1x100x5) ![0, 0, 0] S1x100x5.size inb_S1x100x5_S1x100x5_0_0_0).toLoadRect (h4.unread x1))
      (View.readAt (Elt F) v9 (Rect.unit (s := S48x100) (k0_off2 w) S4x100.size (off2_inb w hle)).toLoadRect f9)
      (View.readAt (Elt F) v9 (Rect.unit (s := S48x100) (k0_off3 w) S4x100.size (off3_inb w hle)).toLoadRect f9)
      (View.readAt (Elt F) m5.view (Rect.unit (s := S1x14x64x4) ![0, k.val, 0, 0] S1x1x64x4.size (meta_inb k)).toLoadRect (h5.unread x2))
      = auxAt (v9.read (Elt F) f9) x1 x2 W k := by
  rw [rows_p v9 f9 w hle, rows_q v9 f9 w hle, meta_read x2 h5 k, hw, row_rank, full_read _ _ _ (by decide), h4.read_unread]; rfl

end Payloads

end Reading

end Cert.KernelIdeal.Hand
-- ==== Proof.IBound.lean ====
/- The rows of bounds the first run of an image writes. -/
module

public import proofs.«01_k».proof.Proof.IBlock

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

/-- The pattern of one over the stride of a level. -/
def invW : ℕ → BitVec 32
  | 0 => 0x3E000000#32 | 1 => 0x3D800000#32 | 2 => 0x3D000000#32 | 3 => 0x3C800000#32 | _ => 0x3C000000#32
/-- The pattern of a level's side. -/
def capW : ℕ → BitVec 32
  | 0 => 0x43000000#32 | 1 => 0x42800000#32 | 2 => 0x42000000#32 | 3 => 0x41800000#32 | _ => 0x41000000#32
/-- The pattern of a level's side less one. -/
def capmW : ℕ → BitVec 32
  | 0 => 0x42FE0000#32 | 1 => 0x427C0000#32 | 2 => 0x41F80000#32 | 3 => 0x41700000#32 | _ => 0x40E00000#32
/-- The pattern of a level's number. -/
def lidW : ℕ → BitVec 32
  | 0 => 0x00000000#32 | 1 => 0x3F800000#32 | 2 => 0x40000000#32 | 3 => 0x40400000#32 | _ => 0x40800000#32
/-- The pattern of the scale of a region: 0 the positive one, 1 the ignored one. -/
def sclW : ℕ → BitVec 32
  | 0 => 0x3E4CCCCD#32 | _ => 0x3F000000#32

/-- A constant row. -/
abbrev bc (b : BitVec 32) : FVec F S1x100 .f32 := broadcast S1x100 (Scalar.ofBits .f32 b : F .f32)

/-- The centre of the interval from `a` to `b` on level `l`. -/
def rCtr (l : ℕ) (a b : FVec F S1x100 .f32) : FVec F S1x100 .f32 :=
  mulf (addf (mulf a (bc (invW l))) (mulf b (bc (invW l)))) (bc 0x3F000000#32)
/-- Half the extent of the region of scale `s` in the interval. -/
def rHalf (s l : ℕ) (a b : FVec F S1x100 .f32) : FVec F S1x100 .f32 :=
  mulf (mulf (subf (mulf b (bc (invW l))) (mulf a (bc (invW l)))) (bc (sclW s))) (bc 0x3F000000#32)
/-- The region's lower bound. -/
def rLo (s l : ℕ) (a b : FVec F S1x100 .f32) : FVec F S1x100 .f32 :=
  minimumf (bc (capmW l)) (maximumf (bc 0x00000000#32) (floor (subf (rCtr l a b) (rHalf s l a b))))
/-- The region's upper bound. -/
def rHi (s l : ℕ) (a b : FVec F S1x100 .f32) : FVec F S1x100 .f32 :=
  maximumf (minimumf (bc (capW l)) (maximumf (bc 0x3F800000#32) (ceil (addf (rCtr l a b) (rHalf s l a b)))))
    (addf (rLo s l a b) (bc 0x3F800000#32))

/-- Row `k` of the four bounds of the region of scale `s` on level `l`. -/
def bndRow (u0 : Vec F S1x6x100 .f32) (s l : ℕ) : ℕ → FVec F S1x100 .f32
  | 0 => shapeCast S1x100 (select (cmpf .oeq (k0_pay8 u0) (bc (lidW l))) (rLo s l (k0_pay4 u0) (k0_pay6 u0)) (bc 0x4E6E6B28#32))
      shapeCasts_S1x100_S1x100
  | 1 => shapeCast S1x100 (rLo s l (k0_pay5 u0) (k0_pay7 u0)) shapeCasts_S1x100_S1x100
  | 2 => shapeCast S1x100 (rHi s l (k0_pay4 u0) (k0_pay6 u0)) shapeCasts_S1x100_S1x100
  | _ => shapeCast S1x100 (rHi s l (k0_pay5 u0) (k0_pay7 u0)) shapeCasts_S1x100_S1x100

/-- What the bounds scratch holds in its first forty-one rows. -/
def BND (u0 : Vec F S1x6x100 .f32) (u1 : Vec F S1x100x5 .f32) : Vec F S48x100 .f32 := fun y =>
  if (y 0).val = 40 then k0_pay10 u0 u1 (ix2 0 (y 1))
  else bndRow u0 ((y 0).val / 20) ((y 0).val % 20 / 4) ((y 0).val % 4) (ix2 0 (y 1))

/-- The rows written, newest first. -/
def bndPieces (u0 : Vec F S1x6x100 .f32) (u1 : Vec F S1x100x5 .f32) : List (View.Piece (Elt F) S48x100 .f32) :=
  [⟨Rect.unit ![39, 0] S1x100.size inb_S48x100_S1x100_39_0, bndRow u0 1 4 3⟩,
    ⟨Rect.unit ![38, 0] S1x100.size inb_S48x100_S1x100_38_0, bndRow u0 1 4 2⟩,
    ⟨Rect.unit ![37, 0] S1x100.size inb_S48x100_S1x100_37_0, bndRow u0 1 4 1⟩,
    ⟨Rect.unit ![36, 0] S1x100.size inb_S48x100_S1x100_36_0, bndRow u0 1 4 0⟩,
    ⟨Rect.unit ![19, 0] S1x100.size inb_S48x100_S1x100_19_0, bndRow u0 0 4 3⟩,
    ⟨Rect.unit ![18, 0] S1x100.size inb_S48x100_S1x100_18_0, bndRow u0 0 4 2⟩,
    ⟨Rect.unit ![17, 0] S1x100.size inb_S48x100_S1x100_17_0, bndRow u0 0 4 1⟩,
    ⟨Rect.unit ![16, 0] S1x100.size inb_S48x100_S1x100_16_0, bndRow u0 0 4 0⟩,
    ⟨Rect.unit ![35, 0] S1x100.size inb_S48x100_S1x100_35_0, bndRow u0 1 3 3⟩,
    ⟨Rect.unit ![34, 0] S1x100.size inb_S48x100_S1x100_34_0, bndRow u0 1 3 2⟩,
    ⟨Rect.unit ![33, 0] S1x100.size inb_S48x100_S1x100_33_0, bndRow u0 1 3 1⟩,
    ⟨Rect.unit ![32, 0] S1x100.size inb_S48x100_S1x100_32_0, bndRow u0 1 3 0⟩,
    ⟨Rect.unit ![15, 0] S1x100.size inb_S48x100_S1x100_15_0, bndRow u0 0 3 3⟩,
    ⟨Rect.unit ![14, 0] S1x100.size inb_S48x100_S1x100_14_0, bndRow u0 0 3 2⟩,
    ⟨Rect.unit ![13, 0] S1x100.size inb_S48x100_S1x100_13_0, bndRow u0 0 3 1⟩,
    ⟨Rect.unit ![12, 0] S1x100.size inb_S48x100_S1x100_12_0, bndRow u0 0 3 0⟩,
    ⟨Rect.unit ![31, 0] S1x100.size inb_S48x100_S1x100_31_0, bndRow u0 1 2 3⟩,
    ⟨Rect.unit ![30, 0] S1x100.size inb_S48x100_S1x100_30_0, bndRow u0 1 2 2⟩,
    ⟨Rect.unit ![29, 0] S1x100.size inb_S48x100_S1x100_29_0, bndRow u0 1 2 1⟩,
    ⟨Rect.unit ![28, 0] S1x100.size inb_S48x100_S1x100_28_0, bndRow u0 1 2 0⟩,
    ⟨Rect.unit ![11, 0] S1x100.size inb_S48x100_S1x100_11_0, bndRow u0 0 2 3⟩,
    ⟨Rect.unit ![10, 0] S1x100.size inb_S48x100_S1x100_10_0, bndRow u0 0 2 2⟩,
    ⟨Rect.unit ![9, 0] S1x100.size inb_S48x100_S1x100_9_0, bndRow u0 0 2 1⟩,
    ⟨Rect.unit ![8, 0] S1x100.size inb_S48x100_S1x100_8_0, bndRow u0 0 2 0⟩,
    ⟨Rect.unit ![27, 0] S1x100.size inb_S48x100_S1x100_27_0, bndRow u0 1 1 3⟩,
    ⟨Rect.unit ![26, 0] S1x100.size inb_S48x100_S1x100_26_0, bndRow u0 1 1 2⟩,
    ⟨Rect.unit ![25, 0] S1x100.size inb_S48x100_S1x100_25_0, bndRow u0 1 1 1⟩,
    ⟨Rect.unit ![24, 0] S1x100.size inb_S48x100_S1x100_24_0, bndRow u0 1 1 0⟩,
    ⟨Rect.unit ![7, 0] S1x100.size inb_S48x100_S1x100_7_0, bndRow u0 0 1 3⟩,
    ⟨Rect.unit ![6, 0] S1x100.size inb_S48x100_S1x100_6_0, bndRow u0 0 1 2⟩,
    ⟨Rect.unit ![5, 0] S1x100.size inb_S48x100_S1x100_5_0, bndRow u0 0 1 1⟩,
    ⟨Rect.unit ![4, 0] S1x100.size inb_S48x100_S1x100_4_0, bndRow u0 0 1 0⟩,
    ⟨Rect.unit ![23, 0] S1x100.size inb_S48x100_S1x100_23_0, bndRow u0 1 0 3⟩,
    ⟨Rect.unit ![22, 0] S1x100.size inb_S48x100_S1x100_22_0, bndRow u0 1 0 2⟩,
    ⟨Rect.unit ![21, 0] S1x100.size inb_S48x100_S1x100_21_0, bndRow u0 1 0 1⟩,
    ⟨Rect.unit ![20, 0] S1x100.size inb_S48x100_S1x100_20_0, bndRow u0 1 0 0⟩,
    ⟨Rect.unit ![3, 0] S1x100.size inb_S48x100_S1x100_3_0, bndRow u0 0 0 3⟩,
    ⟨Rect.unit ![2, 0] S1x100.size inb_S48x100_S1x100_2_0, bndRow u0 0 0 2⟩,
    ⟨Rect.unit ![1, 0] S1x100.size inb_S48x100_S1x100_1_0, bndRow u0 0 0 1⟩,
    ⟨Rect.unit ![0, 0] S1x100.size inb_S48x100_S1x100_0_0, bndRow u0 0 0 0⟩,
    ⟨Rect.unit ![40, 0] S1x100.size inb_S48x100_S1x100_40_0, k0_pay10 u0 u1⟩]

section
variable {sig : RefSig} {κ : Kind} {sp : Space} (v : View sig κ sp S48x100 .f32) (f : v.ty.Contents (Elt F))
  (u0 : Vec F S1x6x100 .f32) (u1 : Vec F S1x100x5 .f32)

/-- A row of the scratch, at an index the newest piece may cover. -/
theorem row_one (o : ℕ) (inb) (w : Vec F S1x100 .f32) (L) (y : S48x100.Idx) :
    v.read (Elt F) (v.writes (Elt F) f ((⟨Rect.unit (s := S48x100) ![o, 0] S1x100.size inb, w⟩ : View.Piece (Elt F) _ _) :: L)) y
      = if (y 0).val = o then w (ix2 0 (y 1)) else v.read (Elt F) (v.writes (Elt F) f L) y := by
  split
  · rename_i h
    refine View.read_writes_cons_unit_of_mem (off' := ![o, 0]) v f inb w L y (ix2 (n0 := 1) (n1 := 100) 0 (y 1)) rfl fun a => ?_
    match a with
    | ⟨0, _⟩ => show (y 0).val = o + 0; omega
    | ⟨1, _⟩ => show (y 1).val = 0 + (y 1).val; omega
  · rename_i h
    refine View.read_writes_cons_unit_of_not_mem (off' := ![o, 0]) v f inb w L y rfl 0 ?_
    show (y 0).val < o ∨ o + 1 ≤ (y 0).val
    omega

theorem row_step (s l k o : ℕ) (ho : o = 20 * s + 4 * l + k) (hs : s < 2) (hl : l < 5) (hk : k < 4) (inb) (L) {y : S48x100.Idx}
    (hrest : (y 0).val ≠ o → v.read (Elt F) (v.writes (Elt F) f L) y = BND u0 u1 y) :
    v.read (Elt F) (v.writes (Elt F) f
      ((⟨Rect.unit (s := S48x100) ![o, 0] S1x100.size inb, bndRow u0 s l k⟩ : View.Piece (Elt F) _ _) :: L)) y = BND u0 u1 y := by
  rw [row_one]
  split
  · rename_i h
    have h1 : (y 0).val ≠ 40 := by omega
    have h2 : (y 0).val / 20 = s := by omega
    have h3 : (y 0).val % 20 / 4 = l := by omega
    have h4 : (y 0).val % 4 = k := by omega
    simp only [BND, if_neg h1, h2, h3, h4]
  · rename_i h
    exact hrest h

theorem bnd_read (y : S48x100.Idx) (hy : (y 0).val < 41) :
    v.read (Elt F) (v.writes (Elt F) f (bndPieces u0 u1)) y = BND u0 u1 y := by
  unfold bndPieces
  refine row_step v f u0 u1 1 4 3 39 rfl (by omega) (by omega) (by omega) _ _ ?_
  intro _
  refine row_step v f u0 u1 1 4 2 38 rfl (by omega) (by omega) (by omega) _ _ ?_
  intro _
  refine row_step v f u0 u1 1 4 1 37 rfl (by omega) (by omega) (by omega) _ _ ?_
  intro _
  refine row_step v f u0 u1 1 4 0 36 rfl (by omega) (by omega) (by omega) _ _ ?_
  intro _
  refine row_step v f u0 u1 0 4 3 19 rfl (by omega) (by omega) (by omega) _ _ ?_
  intro _
  refine row_step v f u0 u1 0 4 2 18 rfl (by omega) (by omega) (by omega) _ _ ?_
  intro _
  refine row_step v f u0 u1 0 4 1 17 rfl (by omega) (by omega) (by omega) _ _ ?_
  intro _
  refine row_step v f u0 u1 0 4 0 16 rfl (by omega) (by omega) (by omega) _ _ ?_
  intro _
  refine row_step v f u0 u1 1 3 3 35 rfl (by omega) (by omega) (by omega) _ _ ?_
  intro _
  refine row_step v f u0 u1 1 3 2 34 rfl (by omega) (by omega) (by omega) _ _ ?_
  intro _
  refine row_step v f u0 u1 1 3 1 33 rfl (by omega) (by omega) (by omega) _ _ ?_
  intro _
  refine row_step v f u0 u1 1 3 0 32 rfl (by omega) (by omega) (by omega) _ _ ?_
  intro _
  refine row_step v f u0 u1 0 3 3 15 rfl (by omega) (by omega) (by omega) _ _ ?_
  intro _
  refine row_step v f u0 u1 0 3 2 14 rfl (by omega) (by omega) (by omega) _ _ ?_
  intro _
  refine row_step v f u0 u1 0 3 1 13 rfl (by omega) (by omega) (by omega) _ _ ?_
  intro _
  refine row_step v f u0 u1 0 3 0 12 rfl (by omega) (by omega) (by omega) _ _ ?_
  intro _
  refine row_step v f u0 u1 1 2 3 31 rfl (by omega) (by omega) (by omega) _ _ ?_
  intro _
  refine row_step v f u0 u1 1 2 2 30 rfl (by omega) (by omega) (by omega) _ _ ?_
  intro _
  refine row_step v f u0 u1 1 2 1 29 rfl (by omega) (by omega) (by omega) _ _ ?_
  intro _
  refine row_step v f u0 u1 1 2 0 28 rfl (by omega) (by omega) (by omega) _ _ ?_
  intro _
  refine row_step v f u0 u1 0 2 3 11 rfl (by omega) (by omega) (by omega) _ _ ?_
  intro _
  refine row_step v f u0 u1 0 2 2 10 rfl (by omega) (by omega) (by omega) _ _ ?_
  intro _
  refine row_step v f u0 u1 0 2 1 9 rfl (by omega) (by omega) (by omega) _ _ ?_
  intro _
  refine row_step v f u0 u1 0 2 0 8 rfl (by omega) (by omega) (by omega) _ _ ?_
  intro _
  refine row_step v f u0 u1 1 1 3 27 rfl (by omega) (by omega) (by omega) _ _ ?_
  intro _
  refine row_step v f u0 u1 1 1 2 26 rfl (by omega) (by omega) (by omega) _ _ ?_
  intro _
  refine row_step v f u0 u1 1 1 1 25 rfl (by omega) (by omega) (by omega) _ _ ?_
  intro _
  refine row_step v f u0 u1 1 1 0 24 rfl (by omega) (by omega) (by omega) _ _ ?_
  intro _
  refine row_step v f u0 u1 0 1 3 7 rfl (by omega) (by omega) (by omega) _ _ ?_
  intro _
  refine row_step v f u0 u1 0 1 2 6 rfl (by omega) (by omega) (by omega) _ _ ?_
  intro _
  refine row_step v f u0 u1 0 1 1 5 rfl (by omega) (by omega) (by omega) _ _ ?_
  intro _
  refine row_step v f u0 u1 0 1 0 4 rfl (by omega) (by omega) (by omega) _ _ ?_
  intro _
  refine row_step v f u0 u1 1 0 3 23 rfl (by omega) (by omega) (by omega) _ _ ?_
  intro _
  refine row_step v f u0 u1 1 0 2 22 rfl (by omega) (by omega) (by omega) _ _ ?_
  intro _
  refine row_step v f u0 u1 1 0 1 21 rfl (by omega) (by omega) (by omega) _ _ ?_
  intro _
  refine row_step v f u0 u1 1 0 0 20 rfl (by omega) (by omega) (by omega) _ _ ?_
  intro _
  refine row_step v f u0 u1 0 0 3 3 rfl (by omega) (by omega) (by omega) _ _ ?_
  intro _
  refine row_step v f u0 u1 0 0 2 2 rfl (by omega) (by omega) (by omega) _ _ ?_
  intro _
  refine row_step v f u0 u1 0 0 1 1 rfl (by omega) (by omega) (by omega) _ _ ?_
  intro _
  refine row_step v f u0 u1 0 0 0 0 rfl (by omega) (by omega) (by omega) _ _ ?_
  intro _
  rw [row_one, if_pos (by omega)]
  simp only [BND, if_pos (show (y 0).val = 40 by omega)]

end

section Congr
variable {B B' : Vec F S48x100 .f32} (h : ∀ y : S48x100.Idx, (y 0).val < 41 → B y = B' y)
  (lm : Vec F S100x80 .f32) (x1 : Vec F S1x100x5 .f32) (x2 : Vec F S1x14x64x4 .f32) (W : Fin 14 → ℕ) (hW : ∀ k, W k ≤ 4)
include h

theorem rowsB_congr (o : ℕ) (ho : o ≤ 36) : rowsB B o = rowsB B' o := by
  funext x
  have h0 : (x 0).val < 4 := (x 0).isLt
  exact h _ (show min _ _ < 41 by omega)

theorem rankOf_congr : rankOf B = rankOf B' := by
  funext x
  exact h _ (show 40 < 41 by omega)

include hW
theorem posAt_congr (k : Fin 14) : posAt B x2 W k = posAt B' x2 W k := by
  have := hW k
  rw [posAt, posAt, rankOf_congr h, rowsB_congr h _ (by omega), rowsB_congr h _ (by omega)]
theorem clsAt_congr (k : Fin 14) : clsAt B lm x2 W k = clsAt B' lm x2 W k := by
  have := hW k
  rw [clsAt, clsAt, rankOf_congr h, rowsB_congr h _ (by omega), rowsB_congr h _ (by omega)]
theorem auxAt_congr (k : Fin 14) : auxAt B x1 x2 W k = auxAt B' x1 x2 W k := by
  have := hW k
  rw [auxAt, auxAt, rankOf_congr h, rowsB_congr h _ (by omega), rowsB_congr h _ (by omega)]
theorem blk3_congr : blk3 B lm x2 W = blk3 B' lm x2 W := by
  funext y; simp only [blk3, clsAt_congr h lm x2 W hW]
theorem blk4_congr : blk4 B x1 x2 W = blk4 B' x1 x2 W := by
  funext y; simp only [blk4, auxAt_congr h x1 x2 W hW]
theorem posSum_congr : posSum B x2 W = posSum B' x2 W := by
  simp only [posSum, posAt_congr h x2 W hW]
theorem npart_congr : npart B x2 W = npart B' x2 W := by
  rw [npart, npart, posSum_congr h x2 W hW]
theorem nadd_congr (old : Vec F S1x1x1 .f32) : nadd B x2 W old = nadd B' x2 W old := by
  rw [nadd, nadd, posSum_congr h x2 W hW]

end Congr

section First
variable {sig : RefSig} {κ : Kind} {sp : Space}
  (v9 : View sig κ sp S48x100 .f32) (f9 : v9.ty.Contents (Elt F)) (v10 : View sig κ sp S100x80 .f32)
  {m3 : Memref sig κ sp S1x6x100 .f32} (h3 : m3.IsWhole)
  {m5 : Memref sig κ sp S1x14x64x4 .f32} (h5 : m5.IsWhole) {m4 : Memref sig κ sp S1x100x5 .f32} (h4 : m4.IsWhole)
  (x0 : Vec F S1x6x100 .f32) (x1 : Vec F S1x100x5 .f32) (x2 : Vec F S1x14x64x4 .f32) (W : Fin 14 → ℕ)
  (k : Fin 14) (w : BitVec 32) (hw : w.toNat = W k) (hle : w.toNat ≤ 4)

/-- The rows as the body loads them. -/
abbrev U0 := View.readAt (Elt F) m3.view (Rect.unit (s := S1x6x100) ![0, 0, 0] S1x6x100.size inb_S1x6x100_S1x6x100_0_0_0).toLoadRect (h3.unread x0)
/-- The boxes as the body loads them. -/
abbrev U1 := View.readAt (Elt F) m4.view (Rect.unit (s := S1x100x5) ![0, 0, 0] S1x100x5.size inb_S1x100x5_S1x100x5_0_0_0).toLoadRect (h4.unread x1)

theorem U0_eq : U0 h3 x0 = x0 := (full_read m3.view _ ![0, 0, 0] (by decide) _).trans (h3.read_unread _)
theorem U1_eq : U1 h4 x1 = x1 := (full_read m4.view _ ![0, 0, 0] (by decide) _).trans (h4.read_unread _)

theorem cov_rank (u0 : Vec F S1x6x100 .f32) (u1 : Vec F S1x100x5 .f32) :
    v9.readCov (bndPieces u0 u1) (Rect.unit (s := S48x100) ![40, 0] S1x100.size inb_S48x100_S1x100_40_0).toLoadRect
      = rankOf (BND u0 u1) :=
  (row_rank v9 _ _).trans (rankOf_congr (bnd_read v9 _ u0 u1))

theorem cov_lm (u : FVec F S100x80 .f32) :
    v10.readCov [(⟨Rect.unit ![0, 0] S100x80.size inb_S100x80_S100x80_0_0, u⟩ : View.Piece (Elt F) S100x80 .f32)]
      (Rect.unit (s := S100x80) ![0, 0] S100x80.size inb_S100x80_S100x80_0_0).toLoadRect = u :=
  View.readCov_full (Val := Elt F) v10 inb_S100x80_S100x80_0_0 inb_S100x80_S100x80_0_0 u []

include hw

theorem payA_pos :
    tPos (v9.readCov (bndPieces (U0 h3 x0) (U1 h4 x1)) (Rect.unit (s := S48x100) ![40, 0] S1x100.size inb_S48x100_S1x100_40_0).toLoadRect)
      (View.readAt (Elt F) v9 (Rect.unit (s := S48x100) (k0_off2 w) S4x100.size (off2_inb w hle)).toLoadRect (v9.writes (Elt F) f9 (bndPieces (U0 h3 x0) (U1 h4 x1))))
      (View.readAt (Elt F) v9 (Rect.unit (s := S48x100) (k0_off3 w) S4x100.size (off3_inb w hle)).toLoadRect (v9.writes (Elt F) f9 (bndPieces (U0 h3 x0) (U1 h4 x1))))
      (View.readAt (Elt F) m5.view (Rect.unit (s := S1x14x64x4) ![0, k.val, 0, 0] S1x1x64x4.size (meta_inb k)).toLoadRect (h5.unread x2))
      = posAt (BND x0 x1) x2 W k := by
  have hle' : W k ≤ 4 := hw ▸ hle
  rw [rows_p v9 _ w hle, rows_q v9 _ w hle, meta_read x2 h5 k, hw, cov_rank, U0_eq, U1_eq,
    rowsB_congr (bnd_read v9 f9 x0 x1) _ (by omega), rowsB_congr (bnd_read v9 f9 x0 x1) _ (by omega)]; rfl

theorem payA_cls :
    tCls (v9.readCov (bndPieces (U0 h3 x0) (U1 h4 x1)) (Rect.unit (s := S48x100) ![40, 0] S1x100.size inb_S48x100_S1x100_40_0).toLoadRect)
      (v10.readCov [(⟨Rect.unit ![0, 0] S100x80.size inb_S100x80_S100x80_0_0, k0_pay11 (U1 h4 x1)⟩ : View.Piece (Elt F) S100x80 .f32)]
        (Rect.unit (s := S100x80) ![0, 0] S100x80.size inb_S100x80_S100x80_0_0).toLoadRect)
      (View.readAt (Elt F) v9 (Rect.unit (s := S48x100) (k0_off2 w) S4x100.size (off2_inb w hle)).toLoadRect (v9.writes (Elt F) f9 (bndPieces (U0 h3 x0) (U1 h4 x1))))
      (View.readAt (Elt F) v9 (Rect.unit (s := S48x100) (k0_off3 w) S4x100.size (off3_inb w hle)).toLoadRect (v9.writes (Elt F) f9 (bndPieces (U0 h3 x0) (U1 h4 x1))))
      (View.readAt (Elt F) m5.view (Rect.unit (s := S1x14x64x4) ![0, k.val, 0, 0] S1x1x64x4.size (meta_inb k)).toLoadRect (h5.unread x2))
      = clsAt (BND x0 x1) (k0_pay11 x1) x2 W k := by
  have hle' : W k ≤ 4 := hw ▸ hle
  rw [rows_p v9 _ w hle, rows_q v9 _ w hle, meta_read x2 h5 k, hw, cov_rank, U0_eq, U1_eq, cov_lm,
    rowsB_congr (bnd_read v9 f9 x0 x1) _ (by omega), rowsB_congr (bnd_read v9 f9 x0 x1) _ (by omega)]; rfl

theorem payA_aux :
    tAux (v9.readCov (bndPieces (U0 h3 x0) (U1 h4 x1)) (Rect.unit (s := S48x100) ![40, 0] S1x100.size inb_S48x100_S1x100_40_0).toLoadRect)
      (U1 h4 x1)
      (View.readAt (Elt F) v9 (Rect.unit (s := S48x100) (k0_off2 w) S4x100.size (off2_inb w hle)).toLoadRect (v9.writes (Elt F) f9 (bndPieces (U0 h3 x0) (U1 h4 x1))))
      (View.readAt (Elt F) v9 (Rect.unit (s := S48x100) (k0_off3 w) S4x100.size (off3_inb w hle)).toLoadRect (v9.writes (Elt F) f9 (bndPieces (U0 h3 x0) (U1 h4 x1))))
      (View.readAt (Elt F) m5.view (Rect.unit (s := S1x14x64x4) ![0, k.val, 0, 0] S1x1x64x4.size (meta_inb k)).toLoadRect (h5.unread x2))
      = auxAt (BND x0 x1) x1 x2 W k := by
  have hle' : W k ≤ 4 := hw ▸ hle
  rw [rows_p v9 _ w hle, rows_q v9 _ w hle, meta_read x2 h5 k, hw, cov_rank, U0_eq, U1_eq,
    rowsB_congr (bnd_read v9 f9 x0 x1) _ (by omega), rowsB_congr (bnd_read v9 f9 x0 x1) _ (by omega)]; rfl

end First

end Cert.KernelIdeal.Hand
-- ==== Proof.IRunA.lean ====
/- A run of the ideal kernel's body at the first point of an image: what it leaves. -/
module

public import proofs.«01_k».proof.Proof.IBound

@[expose] public section

set_option maxRecDepth 16384

noncomputable section

namespace Cert.KernelIdeal.Hand

open Cert.KernelIdeal Cert.KernelIdeal.Gen Cert.KernelIdeal.Kit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1500000 in

theorem run_A (c : Dev nD) (i : grid0.Coords) (arg3 : Memref sig .tc .vmem S1x6x100 .f32) (harg3 : arg3.IsWhole) (arg4 : Memref sig .tc .vmem S1x100x5 .f32) (harg4 : arg4.IsWhole) (arg5 : Memref sig .tc .vmem S1x14x64x4 .f32) (harg5 : arg5.IsWhole) (arg6 : Memref sig .tc .vmem S1x896x80 .f32) (harg6 : arg6.IsWhole) (arg7 : Memref sig .tc .vmem S1x896x8 .f32) (harg7 : arg7.IsWhole) (arg8 : Memref sig .tc .vmem S1x1x1 .f32) (harg8 : arg8.IsWhole) (arg9 : Memref sig .tc .vmem S48x100 .f32) (harg9 : arg9.IsWhole) (arg10 : Memref sig .tc .vmem S100x80 .f32) (harg10 : arg10.IsWhole) (hc0 : cond0_0 i) (hc1 : cond0_1 i) (hc2 : ¬cond0_2 i)
    (x0 : Vec F S1x6x100 .f32) (x1 : Vec F S1x100x5 .f32) (x2 : Vec F S1x14x64x4 .f32) (xt0 : TbBuf0 (F := F) c tbM0_0) (k0_hw1 : k0_chk1 (tbM0_0.view.readAt (Elt F) (Rect.unit (s := S350) (k0_off1 i) S1.size (k0_off1_inb i)).toLoadRect xt0 (Shape.Idx.first (numel1_S1.symm ▸ Nat.one_pos)))) (k0_hw2 : k0_chk2 (tbM0_0.view.readAt (Elt F) (Rect.unit (s := S350) (k0_off4 i) S1.size (k0_off4_inb i)).toLoadRect xt0 (Shape.Idx.first (numel1_S1.symm ▸ Nat.one_pos)))) (k0_hw3 : k0_chk3 (tbM0_0.view.readAt (Elt F) (Rect.unit (s := S350) (k0_off7 i) S1.size (k0_off7_inb i)).toLoadRect xt0 (Shape.Idx.first (numel1_S1.symm ▸ Nat.one_pos)))) (k0_hw4 : k0_chk4 (tbM0_0.view.readAt (Elt F) (Rect.unit (s := S350) (k0_off10 i) S1.size (k0_off10_inb i)).toLoadRect xt0 (Shape.Idx.first (numel1_S1.symm ▸ Nat.one_pos)))) (k0_hw5 : k0_chk5 (tbM0_0.view.readAt (Elt F) (Rect.unit (s := S350) (k0_off13 i) S1.size (k0_off13_inb i)).toLoadRect xt0 (Shape.Idx.first (numel1_S1.symm ▸ Nat.one_pos)))) (k0_hw6 : k0_chk6 (tbM0_0.view.readAt (Elt F) (Rect.unit (s := S350) (k0_off16 i) S1.size (k0_off16_inb i)).toLoadRect xt0 (Shape.Idx.first (numel1_S1.symm ▸ Nat.one_pos)))) (k0_hw7 : k0_chk7 (tbM0_0.view.readAt (Elt F) (Rect.unit (s := S350) (k0_off19 i) S1.size (k0_off19_inb i)).toLoadRect xt0 (Shape.Idx.first (numel1_S1.symm ▸ Nat.one_pos)))) (k0_hw8 : k0_chk8 (tbM0_0.view.readAt (Elt F) (Rect.unit (s := S350) (k0_off22 i) S1.size (k0_off22_inb i)).toLoadRect xt0 (Shape.Idx.first (numel1_S1.symm ▸ Nat.one_pos)))) (k0_hw9 : k0_chk9 (tbM0_0.view.readAt (Elt F) (Rect.unit (s := S350) (k0_off25 i) S1.size (k0_off25_inb i)).toLoadRect xt0 (Shape.Idx.first (numel1_S1.symm ▸ Nat.one_pos)))) (k0_hw10 : k0_chk10 (tbM0_0.view.readAt (Elt F) (Rect.unit (s := S350) (k0_off28 i) S1.size (k0_off28_inb i)).toLoadRect xt0 (Shape.Idx.first (numel1_S1.symm ▸ Nat.one_pos)))) (k0_hw11 : k0_chk11 (tbM0_0.view.readAt (Elt F) (Rect.unit (s := S350) (k0_off31 i) S1.size (k0_off31_inb i)).toLoadRect xt0 (Shape.Idx.first (numel1_S1.symm ▸ Nat.one_pos)))) (k0_hw12 : k0_chk12 (tbM0_0.view.readAt (Elt F) (Rect.unit (s := S350) (k0_off34 i) S1.size (k0_off34_inb i)).toLoadRect xt0 (Shape.Idx.first (numel1_S1.symm ▸ Nat.one_pos)))) (k0_hw13 : k0_chk13 (tbM0_0.view.readAt (Elt F) (Rect.unit (s := S350) (k0_off37 i) S1.size (k0_off37_inb i)).toLoadRect xt0 (Shape.Idx.first (numel1_S1.symm ▸ Nat.one_pos)))) (k0_hw14 : k0_chk14 (tbM0_0.view.readAt (Elt F) (Rect.unit (s := S350) (k0_off40 i) S1.size (k0_off40_inb i)).toLoadRect xt0 (Shape.Idx.first (numel1_S1.symm ▸ Nat.one_pos)))) (W : Fin 14 → ℕ) (hle : ∀ k, W k ≤ 4) (hW0 : BitVec.toNat (tbM0_0.view.readAt (Elt F) (Rect.unit (s := S350) (k0_off1 i) S1.size (k0_off1_inb i)).toLoadRect xt0 (Shape.Idx.first (numel1_S1.symm ▸ Nat.one_pos))) = W 0) (hW1 : BitVec.toNat (tbM0_0.view.readAt (Elt F) (Rect.unit (s := S350) (k0_off4 i) S1.size (k0_off4_inb i)).toLoadRect xt0 (Shape.Idx.first (numel1_S1.symm ▸ Nat.one_pos))) = W 1) (hW2 : BitVec.toNat (tbM0_0.view.readAt (Elt F) (Rect.unit (s := S350) (k0_off7 i) S1.size (k0_off7_inb i)).toLoadRect xt0 (Shape.Idx.first (numel1_S1.symm ▸ Nat.one_pos))) = W 2) (hW3 : BitVec.toNat (tbM0_0.view.readAt (Elt F) (Rect.unit (s := S350) (k0_off10 i) S1.size (k0_off10_inb i)).toLoadRect xt0 (Shape.Idx.first (numel1_S1.symm ▸ Nat.one_pos))) = W 3) (hW4 : BitVec.toNat (tbM0_0.view.readAt (Elt F) (Rect.unit (s := S350) (k0_off13 i) S1.size (k0_off13_inb i)).toLoadRect xt0 (Shape.Idx.first (numel1_S1.symm ▸ Nat.one_pos))) = W 4) (hW5 : BitVec.toNat (tbM0_0.view.readAt (Elt F) (Rect.unit (s := S350) (k0_off16 i) S1.size (k0_off16_inb i)).toLoadRect xt0 (Shape.Idx.first (numel1_S1.symm ▸ Nat.one_pos))) = W 5) (hW6 : BitVec.toNat (tbM0_0.view.readAt (Elt F) (Rect.unit (s := S350) (k0_off19 i) S1.size (k0_off19_inb i)).toLoadRect xt0 (Shape.Idx.first (numel1_S1.symm ▸ Nat.one_pos))) = W 6) (hW7 : BitVec.toNat (tbM0_0.view.readAt (Elt F) (Rect.unit (s := S350) (k0_off22 i) S1.size (k0_off22_inb i)).toLoadRect xt0 (Shape.Idx.first (numel1_S1.symm ▸ Nat.one_pos))) = W 7) (hW8 : BitVec.toNat (tbM0_0.view.readAt (Elt F) (Rect.unit (s := S350) (k0_off25 i) S1.size (k0_off25_inb i)).toLoadRect xt0 (Shape.Idx.first (numel1_S1.symm ▸ Nat.one_pos))) = W 8) (hW9 : BitVec.toNat (tbM0_0.view.readAt (Elt F) (Rect.unit (s := S350) (k0_off28 i) S1.size (k0_off28_inb i)).toLoadRect xt0 (Shape.Idx.first (numel1_S1.symm ▸ Nat.one_pos))) = W 9) (hW10 : BitVec.toNat (tbM0_0.view.readAt (Elt F) (Rect.unit (s := S350) (k0_off31 i) S1.size (k0_off31_inb i)).toLoadRect xt0 (Shape.Idx.first (numel1_S1.symm ▸ Nat.one_pos))) = W 10) (hW11 : BitVec.toNat (tbM0_0.view.readAt (Elt F) (Rect.unit (s := S350) (k0_off34 i) S1.size (k0_off34_inb i)).toLoadRect xt0 (Shape.Idx.first (numel1_S1.symm ▸ Nat.one_pos))) = W 11) (hW12 : BitVec.toNat (tbM0_0.view.readAt (Elt F) (Rect.unit (s := S350) (k0_off37 i) S1.size (k0_off37_inb i)).toLoadRect xt0 (Shape.Idx.first (numel1_S1.symm ▸ Nat.one_pos))) = W 12) (hW13 : BitVec.toNat (tbM0_0.view.readAt (Elt F) (Rect.unit (s := S350) (k0_off40 i) S1.size (k0_off40_inb i)).toLoadRect xt0 (Shape.Idx.first (numel1_S1.symm ▸ Nat.one_pos))) = W 13) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare (blk3 (BND x0 x1) (k0_pay11 x1) x2 W) ∗ owns (c : Thread nD τ) arg7 fullShare (blk4 (BND x0 x1) x1 x2 W) ∗ owns (c : Thread nD τ) arg8 fullShare (npart (BND x0 x1) x2 W) ∗ (∃ d, ⌜∀ y : S48x100.Idx, (y 0).val < 41 → d y = BND x0 x1 y⌝ ∗ owns (c : Thread nD τ) arg9 fullShare d) ∗ owns (c : Thread nD τ) arg10 fullShare (k0_pay11 x1) ∗ tbPt0 c tbM0_0 xt0) -∗ K ⟨⟩))
          ⊢ wp frame (wpE (defs₀ (F := F)) Variants.none c none) E (cc0__fsaf_group i tbM0_0 htbM0_0 arg3 harg3 arg4 harg4 arg5 harg5 arg6 harg6 arg7 harg7 arg8 harg8 arg9 harg9 arg10 harg10) K := by
    intro E K
    simp only [cc0__fsaf_group_eq_skeleton]; unfold cc0__fsaf_group_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, HT0, Hk⟩
    obtain rfl := harg3.eq_unread hf0; obtain rfl := harg4.eq_unread hf1; obtain rfl := harg5.eq_unread hf2
    sl_exec (disch := first | sl_exact hc0 | sl_exact hc1 | sl_exact hc2 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      refine funext fun y => ?_
      have hy : (y 1).val < 896 := (y 1).isLt
      revert hy; revert y
      refine tile_step arg6.view _ (clsAt (BND x0 x1) (k0_pay11 x1) x2 W) 13 832 896 rfl rfl _ _ _ ?_ (blk3 (BND x0 x1) (k0_pay11 x1) x2 W) rfl ?_
      · exact payA_cls arg9.view fs0 arg10.view harg3 harg5 harg4 x0 x1 x2 W 13 (tbM0_0.view.readAt (Elt F) (Rect.unit (s := S350) (k0_off40 i) S1.size (k0_off40_inb i)).toLoadRect xt0 (Shape.Idx.first (numel1_S1.symm ▸ Nat.one_pos))) hW13 (hW13.le.trans (hle _))
      refine tile_step arg6.view _ (clsAt (BND x0 x1) (k0_pay11 x1) x2 W) 12 768 832 rfl rfl _ _ _ ?_ (blk3 (BND x0 x1) (k0_pay11 x1) x2 W) rfl ?_
      · exact payA_cls arg9.view fs0 arg10.view harg3 harg5 harg4 x0 x1 x2 W 12 (tbM0_0.view.readAt (Elt F) (Rect.unit (s := S350) (k0_off37 i) S1.size (k0_off37_inb i)).toLoadRect xt0 (Shape.Idx.first (numel1_S1.symm ▸ Nat.one_pos))) hW12 (hW12.le.trans (hle _))
      refine tile_step arg6.view _ (clsAt (BND x0 x1) (k0_pay11 x1) x2 W) 11 704 768 rfl rfl _ _ _ ?_ (blk3 (BND x0 x1) (k0_pay11 x1) x2 W) rfl ?_
      · exact payA_cls arg9.view fs0 arg10.view harg3 harg5 harg4 x0 x1 x2 W 11 (tbM0_0.view.readAt (Elt F) (Rect.unit (s := S350) (k0_off34 i) S1.size (k0_off34_inb i)).toLoadRect xt0 (Shape.Idx.first (numel1_S1.symm ▸ Nat.one_pos))) hW11 (hW11.le.trans (hle _))
      refine tile_step arg6.view _ (clsAt (BND x0 x1) (k0_pay11 x1) x2 W) 10 640 704 rfl rfl _ _ _ ?_ (blk3 (BND x0 x1) (k0_pay11 x1) x2 W) rfl ?_
      · exact payA_cls arg9.view fs0 arg10.view harg3 harg5 harg4 x0 x1 x2 W 10 (tbM0_0.view.readAt (Elt F) (Rect.unit (s := S350) (k0_off31 i) S1.size (k0_off31_inb i)).toLoadRect xt0 (Shape.Idx.first (numel1_S1.symm ▸ Nat.one_pos))) hW10 (hW10.le.trans (hle _))
      refine tile_step arg6.view _ (clsAt (BND x0 x1) (k0_pay11 x1) x2 W) 9 576 640 rfl rfl _ _ _ ?_ (blk3 (BND x0 x1) (k0_pay11 x1) x2 W) rfl ?_
      · exact payA_cls arg9.view fs0 arg10.view harg3 harg5 harg4 x0 x1 x2 W 9 (tbM0_0.view.readAt (Elt F) (Rect.unit (s := S350) (k0_off28 i) S1.size (k0_off28_inb i)).toLoadRect xt0 (Shape.Idx.first (numel1_S1.symm ▸ Nat.one_pos))) hW9 (hW9.le.trans (hle _))
      refine tile_step arg6.view _ (clsAt (BND x0 x1) (k0_pay11 x1) x2 W) 8 512 576 rfl rfl _ _ _ ?_ (blk3 (BND x0 x1) (k0_pay11 x1) x2 W) rfl ?_
      · exact payA_cls arg9.view fs0 arg10.view harg3 harg5 harg4 x0 x1 x2 W 8 (tbM0_0.view.readAt (Elt F) (Rect.unit (s := S350) (k0_off25 i) S1.size (k0_off25_inb i)).toLoadRect xt0 (Shape.Idx.first (numel1_S1.symm ▸ Nat.one_pos))) hW8 (hW8.le.trans (hle _))
      refine tile_step arg6.view _ (clsAt (BND x0 x1) (k0_pay11 x1) x2 W) 7 448 512 rfl rfl _ _ _ ?_ (blk3 (BND x0 x1) (k0_pay11 x1) x2 W) rfl ?_
      · exact payA_cls arg9.view fs0 arg10.view harg3 harg5 harg4 x0 x1 x2 W 7 (tbM0_0.view.readAt (Elt F) (Rect.unit (s := S350) (k0_off22 i) S1.size (k0_off22_inb i)).toLoadRect xt0 (Shape.Idx.first (numel1_S1.symm ▸ Nat.one_pos))) hW7 (hW7.le.trans (hle _))
      refine tile_step arg6.view _ (clsAt (BND x0 x1) (k0_pay11 x1) x2 W) 6 384 448 rfl rfl _ _ _ ?_ (blk3 (BND x0 x1) (k0_pay11 x1) x2 W) rfl ?_
      · exact payA_cls arg9.view fs0 arg10.view harg3 harg5 harg4 x0 x1 x2 W 6 (tbM0_0.view.readAt (Elt F) (Rect.unit (s := S350) (k0_off19 i) S1.size (k0_off19_inb i)).toLoadRect xt0 (Shape.Idx.first (numel1_S1.symm ▸ Nat.one_pos))) hW6 (hW6.le.trans (hle _))
      refine tile_step arg6.view _ (clsAt (BND x0 x1) (k0_pay11 x1) x2 W) 5 320 384 rfl rfl _ _ _ ?_ (blk3 (BND x0 x1) (k0_pay11 x1) x2 W) rfl ?_
      · exact payA_cls arg9.view fs0 arg10.view harg3 harg5 harg4 x0 x1 x2 W 5 (tbM0_0.view.readAt (Elt F) (Rect.unit (s := S350) (k0_off16 i) S1.size (k0_off16_inb i)).toLoadRect xt0 (Shape.Idx.first (numel1_S1.symm ▸ Nat.one_pos))) hW5 (hW5.le.trans (hle _))
      refine tile_step arg6.view _ (clsAt (BND x0 x1) (k0_pay11 x1) x2 W) 4 256 320 rfl rfl _ _ _ ?_ (blk3 (BND x0 x1) (k0_pay11 x1) x2 W) rfl ?_
      · exact payA_cls arg9.view fs0 arg10.view harg3 harg5 harg4 x0 x1 x2 W 4 (tbM0_0.view.readAt (Elt F) (Rect.unit (s := S350) (k0_off13 i) S1.size (k0_off13_inb i)).toLoadRect xt0 (Shape.Idx.first (numel1_S1.symm ▸ Nat.one_pos))) hW4 (hW4.le.trans (hle _))
      refine tile_step arg6.view _ (clsAt (BND x0 x1) (k0_pay11 x1) x2 W) 3 192 256 rfl rfl _ _ _ ?_ (blk3 (BND x0 x1) (k0_pay11 x1) x2 W) rfl ?_
      · exact payA_cls arg9.view fs0 arg10.view harg3 harg5 harg4 x0 x1 x2 W 3 (tbM0_0.view.readAt (Elt F) (Rect.unit (s := S350) (k0_off10 i) S1.size (k0_off10_inb i)).toLoadRect xt0 (Shape.Idx.first (numel1_S1.symm ▸ Nat.one_pos))) hW3 (hW3.le.trans (hle _))
      refine tile_step arg6.view _ (clsAt (BND x0 x1) (k0_pay11 x1) x2 W) 2 128 192 rfl rfl _ _ _ ?_ (blk3 (BND x0 x1) (k0_pay11 x1) x2 W) rfl ?_
      · exact payA_cls arg9.view fs0 arg10.view harg3 harg5 harg4 x0 x1 x2 W 2 (tbM0_0.view.readAt (Elt F) (Rect.unit (s := S350) (k0_off7 i) S1.size (k0_off7_inb i)).toLoadRect xt0 (Shape.Idx.first (numel1_S1.symm ▸ Nat.one_pos))) hW2 (hW2.le.trans (hle _))
      refine tile_step arg6.view _ (clsAt (BND x0 x1) (k0_pay11 x1) x2 W) 1 64 128 rfl rfl _ _ _ ?_ (blk3 (BND x0 x1) (k0_pay11 x1) x2 W) rfl ?_
      · exact payA_cls arg9.view fs0 arg10.view harg3 harg5 harg4 x0 x1 x2 W 1 (tbM0_0.view.readAt (Elt F) (Rect.unit (s := S350) (k0_off4 i) S1.size (k0_off4_inb i)).toLoadRect xt0 (Shape.Idx.first (numel1_S1.symm ▸ Nat.one_pos))) hW1 (hW1.le.trans (hle _))
      refine tile_step arg6.view _ (clsAt (BND x0 x1) (k0_pay11 x1) x2 W) 0 0 64 rfl rfl _ _ _ ?_ (blk3 (BND x0 x1) (k0_pay11 x1) x2 W) rfl ?_
      · exact payA_cls arg9.view fs0 arg10.view harg3 harg5 harg4 x0 x1 x2 W 0 (tbM0_0.view.readAt (Elt F) (Rect.unit (s := S350) (k0_off1 i) S1.size (k0_off1_inb i)).toLoadRect xt0 (Shape.Idx.first (numel1_S1.symm ▸ Nat.one_pos))) hW0 (hW0.le.trans (hle _))
      exact fun y hy => absurd hy (Nat.not_lt_zero _)
    isplitl [H4]
    · iexists _; isplitr; swap; · iexact H4
      ipureintro
      refine funext fun y => ?_
      have hy : (y 1).val < 896 := (y 1).isLt
      revert hy; revert y
      refine tile_step arg7.view _ (auxAt (BND x0 x1) x1 x2 W) 13 832 896 rfl rfl _ _ _ ?_ (blk4 (BND x0 x1) x1 x2 W) rfl ?_
      · exact payA_aux arg9.view fs0 harg3 harg5 harg4 x0 x1 x2 W 13 (tbM0_0.view.readAt (Elt F) (Rect.unit (s := S350) (k0_off40 i) S1.size (k0_off40_inb i)).toLoadRect xt0 (Shape.Idx.first (numel1_S1.symm ▸ Nat.one_pos))) hW13 (hW13.le.trans (hle _))
      refine tile_step arg7.view _ (auxAt (BND x0 x1) x1 x2 W) 12 768 832 rfl rfl _ _ _ ?_ (blk4 (BND x0 x1) x1 x2 W) rfl ?_
      · exact payA_aux arg9.view fs0 harg3 harg5 harg4 x0 x1 x2 W 12 (tbM0_0.view.readAt (Elt F) (Rect.unit (s := S350) (k0_off37 i) S1.size (k0_off37_inb i)).toLoadRect xt0 (Shape.Idx.first (numel1_S1.symm ▸ Nat.one_pos))) hW12 (hW12.le.trans (hle _))
      refine tile_step arg7.view _ (auxAt (BND x0 x1) x1 x2 W) 11 704 768 rfl rfl _ _ _ ?_ (blk4 (BND x0 x1) x1 x2 W) rfl ?_
      · exact payA_aux arg9.view fs0 harg3 harg5 harg4 x0 x1 x2 W 11 (tbM0_0.view.readAt (Elt F) (Rect.unit (s := S350) (k0_off34 i) S1.size (k0_off34_inb i)).toLoadRect xt0 (Shape.Idx.first (numel1_S1.symm ▸ Nat.one_pos))) hW11 (hW11.le.trans (hle _))
      refine tile_step arg7.view _ (auxAt (BND x0 x1) x1 x2 W) 10 640 704 rfl rfl _ _ _ ?_ (blk4 (BND x0 x1) x1 x2 W) rfl ?_
      · exact payA_aux arg9.view fs0 harg3 harg5 harg4 x0 x1 x2 W 10 (tbM0_0.view.readAt (Elt F) (Rect.unit (s := S350) (k0_off31 i) S1.size (k0_off31_inb i)).toLoadRect xt0 (Shape.Idx.first (numel1_S1.symm ▸ Nat.one_pos))) hW10 (hW10.le.trans (hle _))
      refine tile_step arg7.view _ (auxAt (BND x0 x1) x1 x2 W) 9 576 640 rfl rfl _ _ _ ?_ (blk4 (BND x0 x1) x1 x2 W) rfl ?_
      · exact payA_aux arg9.view fs0 harg3 harg5 harg4 x0 x1 x2 W 9 (tbM0_0.view.readAt (Elt F) (Rect.unit (s := S350) (k0_off28 i) S1.size (k0_off28_inb i)).toLoadRect xt0 (Shape.Idx.first (numel1_S1.symm ▸ Nat.one_pos))) hW9 (hW9.le.trans (hle _))
      refine tile_step arg7.view _ (auxAt (BND x0 x1) x1 x2 W) 8 512 576 rfl rfl _ _ _ ?_ (blk4 (BND x0 x1) x1 x2 W) rfl ?_
      · exact payA_aux arg9.view fs0 harg3 harg5 harg4 x0 x1 x2 W 8 (tbM0_0.view.readAt (Elt F) (Rect.unit (s := S350) (k0_off25 i) S1.size (k0_off25_inb i)).toLoadRect xt0 (Shape.Idx.first (numel1_S1.symm ▸ Nat.one_pos))) hW8 (hW8.le.trans (hle _))
      refine tile_step arg7.view _ (auxAt (BND x0 x1) x1 x2 W) 7 448 512 rfl rfl _ _ _ ?_ (blk4 (BND x0 x1) x1 x2 W) rfl ?_
      · exact payA_aux arg9.view fs0 harg3 harg5 harg4 x0 x1 x2 W 7 (tbM0_0.view.readAt (Elt F) (Rect.unit (s := S350) (k0_off22 i) S1.size (k0_off22_inb i)).toLoadRect xt0 (Shape.Idx.first (numel1_S1.symm ▸ Nat.one_pos))) hW7 (hW7.le.trans (hle _))
      refine tile_step arg7.view _ (auxAt (BND x0 x1) x1 x2 W) 6 384 448 rfl rfl _ _ _ ?_ (blk4 (BND x0 x1) x1 x2 W) rfl ?_
      · exact payA_aux arg9.view fs0 harg3 harg5 harg4 x0 x1 x2 W 6 (tbM0_0.view.readAt (Elt F) (Rect.unit (s := S350) (k0_off19 i) S1.size (k0_off19_inb i)).toLoadRect xt0 (Shape.Idx.first (numel1_S1.symm ▸ Nat.one_pos))) hW6 (hW6.le.trans (hle _))
      refine tile_step arg7.view _ (auxAt (BND x0 x1) x1 x2 W) 5 320 384 rfl rfl _ _ _ ?_ (blk4 (BND x0 x1) x1 x2 W) rfl ?_
      · exact payA_aux arg9.view fs0 harg3 harg5 harg4 x0 x1 x2 W 5 (tbM0_0.view.readAt (Elt F) (Rect.unit (s := S350) (k0_off16 i) S1.size (k0_off16_inb i)).toLoadRect xt0 (Shape.Idx.first (numel1_S1.symm ▸ Nat.one_pos))) hW5 (hW5.le.trans (hle _))
      refine tile_step arg7.view _ (auxAt (BND x0 x1) x1 x2 W) 4 256 320 rfl rfl _ _ _ ?_ (blk4 (BND x0 x1) x1 x2 W) rfl ?_
      · exact payA_aux arg9.view fs0 harg3 harg5 harg4 x0 x1 x2 W 4 (tbM0_0.view.readAt (Elt F) (Rect.unit (s := S350) (k0_off13 i) S1.size (k0_off13_inb i)).toLoadRect xt0 (Shape.Idx.first (numel1_S1.symm ▸ Nat.one_pos))) hW4 (hW4.le.trans (hle _))
      refine tile_step arg7.view _ (auxAt (BND x0 x1) x1 x2 W) 3 192 256 rfl rfl _ _ _ ?_ (blk4 (BND x0 x1) x1 x2 W) rfl ?_
      · exact payA_aux arg9.view fs0 harg3 harg5 harg4 x0 x1 x2 W 3 (tbM0_0.view.readAt (Elt F) (Rect.unit (s := S350) (k0_off10 i) S1.size (k0_off10_inb i)).toLoadRect xt0 (Shape.Idx.first (numel1_S1.symm ▸ Nat.one_pos))) hW3 (hW3.le.trans (hle _))
      refine tile_step arg7.view _ (auxAt (BND x0 x1) x1 x2 W) 2 128 192 rfl rfl _ _ _ ?_ (blk4 (BND x0 x1) x1 x2 W) rfl ?_
      · exact payA_aux arg9.view fs0 harg3 harg5 harg4 x0 x1 x2 W 2 (tbM0_0.view.readAt (Elt F) (Rect.unit (s := S350) (k0_off7 i) S1.size (k0_off7_inb i)).toLoadRect xt0 (Shape.Idx.first (numel1_S1.symm ▸ Nat.one_pos))) hW2 (hW2.le.trans (hle _))
      refine tile_step arg7.view _ (auxAt (BND x0 x1) x1 x2 W) 1 64 128 rfl rfl _ _ _ ?_ (blk4 (BND x0 x1) x1 x2 W) rfl ?_
      · exact payA_aux arg9.view fs0 harg3 harg5 harg4 x0 x1 x2 W 1 (tbM0_0.view.readAt (Elt F) (Rect.unit (s := S350) (k0_off4 i) S1.size (k0_off4_inb i)).toLoadRect xt0 (Shape.Idx.first (numel1_S1.symm ▸ Nat.one_pos))) hW1 (hW1.le.trans (hle _))
      refine tile_step arg7.view _ (auxAt (BND x0 x1) x1 x2 W) 0 0 64 rfl rfl _ _ _ ?_ (blk4 (BND x0 x1) x1 x2 W) rfl ?_
      · exact payA_aux arg9.view fs0 harg3 harg5 harg4 x0 x1 x2 W 0 (tbM0_0.view.readAt (Elt F) (Rect.unit (s := S350) (k0_off1 i) S1.size (k0_off1_inb i)).toLoadRect xt0 (Shape.Idx.first (numel1_S1.symm ▸ Nat.one_pos))) hW0 (hW0.le.trans (hle _))
      exact fun y hy => absurd hy (Nat.not_lt_zero _)
    isplitl [H5]
    · iexists _; isplitr; swap; · iexact H5
      ipureintro
      refine (View.read_writes_full arg8.view f5 inb_S1x1x1_S1x1x1_0_0_0 _ _).trans ?_
      exact pay_npart _ _ _
        (payA_pos arg9.view fs0 harg3 harg5 harg4 x0 x1 x2 W 0 (tbM0_0.view.readAt (Elt F) (Rect.unit (s := S350) (k0_off1 i) S1.size (k0_off1_inb i)).toLoadRect xt0 (Shape.Idx.first (numel1_S1.symm ▸ Nat.one_pos))) hW0 (hW0.le.trans (hle _)))
        (payA_pos arg9.view fs0 harg3 harg5 harg4 x0 x1 x2 W 1 (tbM0_0.view.readAt (Elt F) (Rect.unit (s := S350) (k0_off4 i) S1.size (k0_off4_inb i)).toLoadRect xt0 (Shape.Idx.first (numel1_S1.symm ▸ Nat.one_pos))) hW1 (hW1.le.trans (hle _)))
        (payA_pos arg9.view fs0 harg3 harg5 harg4 x0 x1 x2 W 2 (tbM0_0.view.readAt (Elt F) (Rect.unit (s := S350) (k0_off7 i) S1.size (k0_off7_inb i)).toLoadRect xt0 (Shape.Idx.first (numel1_S1.symm ▸ Nat.one_pos))) hW2 (hW2.le.trans (hle _)))
        (payA_pos arg9.view fs0 harg3 harg5 harg4 x0 x1 x2 W 3 (tbM0_0.view.readAt (Elt F) (Rect.unit (s := S350) (k0_off10 i) S1.size (k0_off10_inb i)).toLoadRect xt0 (Shape.Idx.first (numel1_S1.symm ▸ Nat.one_pos))) hW3 (hW3.le.trans (hle _)))
        (payA_pos arg9.view fs0 harg3 harg5 harg4 x0 x1 x2 W 4 (tbM0_0.view.readAt (Elt F) (Rect.unit (s := S350) (k0_off13 i) S1.size (k0_off13_inb i)).toLoadRect xt0 (Shape.Idx.first (numel1_S1.symm ▸ Nat.one_pos))) hW4 (hW4.le.trans (hle _)))
        (payA_pos arg9.view fs0 harg3 harg5 harg4 x0 x1 x2 W 5 (tbM0_0.view.readAt (Elt F) (Rect.unit (s := S350) (k0_off16 i) S1.size (k0_off16_inb i)).toLoadRect xt0 (Shape.Idx.first (numel1_S1.symm ▸ Nat.one_pos))) hW5 (hW5.le.trans (hle _)))
        (payA_pos arg9.view fs0 harg3 harg5 harg4 x0 x1 x2 W 6 (tbM0_0.view.readAt (Elt F) (Rect.unit (s := S350) (k0_off19 i) S1.size (k0_off19_inb i)).toLoadRect xt0 (Shape.Idx.first (numel1_S1.symm ▸ Nat.one_pos))) hW6 (hW6.le.trans (hle _)))
        (payA_pos arg9.view fs0 harg3 harg5 harg4 x0 x1 x2 W 7 (tbM0_0.view.readAt (Elt F) (Rect.unit (s := S350) (k0_off22 i) S1.size (k0_off22_inb i)).toLoadRect xt0 (Shape.Idx.first (numel1_S1.symm ▸ Nat.one_pos))) hW7 (hW7.le.trans (hle _)))
        (payA_pos arg9.view fs0 harg3 harg5 harg4 x0 x1 x2 W 8 (tbM0_0.view.readAt (Elt F) (Rect.unit (s := S350) (k0_off25 i) S1.size (k0_off25_inb i)).toLoadRect xt0 (Shape.Idx.first (numel1_S1.symm ▸ Nat.one_pos))) hW8 (hW8.le.trans (hle _)))
        (payA_pos arg9.view fs0 harg3 harg5 harg4 x0 x1 x2 W 9 (tbM0_0.view.readAt (Elt F) (Rect.unit (s := S350) (k0_off28 i) S1.size (k0_off28_inb i)).toLoadRect xt0 (Shape.Idx.first (numel1_S1.symm ▸ Nat.one_pos))) hW9 (hW9.le.trans (hle _)))
        (payA_pos arg9.view fs0 harg3 harg5 harg4 x0 x1 x2 W 10 (tbM0_0.view.readAt (Elt F) (Rect.unit (s := S350) (k0_off31 i) S1.size (k0_off31_inb i)).toLoadRect xt0 (Shape.Idx.first (numel1_S1.symm ▸ Nat.one_pos))) hW10 (hW10.le.trans (hle _)))
        (payA_pos arg9.view fs0 harg3 harg5 harg4 x0 x1 x2 W 11 (tbM0_0.view.readAt (Elt F) (Rect.unit (s := S350) (k0_off34 i) S1.size (k0_off34_inb i)).toLoadRect xt0 (Shape.Idx.first (numel1_S1.symm ▸ Nat.one_pos))) hW11 (hW11.le.trans (hle _)))
        (payA_pos arg9.view fs0 harg3 harg5 harg4 x0 x1 x2 W 12 (tbM0_0.view.readAt (Elt F) (Rect.unit (s := S350) (k0_off37 i) S1.size (k0_off37_inb i)).toLoadRect xt0 (Shape.Idx.first (numel1_S1.symm ▸ Nat.one_pos))) hW12 (hW12.le.trans (hle _)))
        (payA_pos arg9.view fs0 harg3 harg5 harg4 x0 x1 x2 W 13 (tbM0_0.view.readAt (Elt F) (Rect.unit (s := S350) (k0_off40 i) S1.size (k0_off40_inb i)).toLoadRect xt0 (Shape.Idx.first (numel1_S1.symm ▸ Nat.one_pos))) hW13 (hW13.le.trans (hle _)))
    isplitl [HS0]
    · iexists _; isplitr; swap
      · iexists _; isplitr; swap; · iexact HS0
        ipureintro; rfl
      ipureintro
      intro y hy
      exact (bnd_read arg9.view fs0 (U0 harg3 x0) (U1 harg4 x1) y hy).trans (by rw [U0_eq, U1_eq])
    isplitl [HS1]
    · iexists _; isplitr; swap; · iexact HS1
      ipureintro
      exact (View.read_writes_full arg10.view fs1 inb_S100x80_S100x80_0_0 (k0_pay11 (U1 harg4 x1)) []).trans (by rw [U1_eq])
    iexact HT0

end Cert.KernelIdeal.Hand

end
-- ==== Proof.IRunB.lean ====
/- A run of the ideal kernel's body past the first point of an image: what it leaves. -/
module

public import proofs.«01_k».proof.Proof.IBlock

@[expose] public section

set_option maxRecDepth 16384

noncomputable section

namespace Cert.KernelIdeal.Hand

open Cert.KernelIdeal Cert.KernelIdeal.Gen Cert.KernelIdeal.Kit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1500000 in

theorem run_B (c : Dev nD) (i : grid0.Coords) (arg3 : Memref sig .tc .vmem S1x6x100 .f32) (harg3 : arg3.IsWhole) (arg4 : Memref sig .tc .vmem S1x100x5 .f32) (harg4 : arg4.IsWhole) (arg5 : Memref sig .tc .vmem S1x14x64x4 .f32) (harg5 : arg5.IsWhole) (arg6 : Memref sig .tc .vmem S1x896x80 .f32) (harg6 : arg6.IsWhole) (arg7 : Memref sig .tc .vmem S1x896x8 .f32) (harg7 : arg7.IsWhole) (arg8 : Memref sig .tc .vmem S1x1x1 .f32) (harg8 : arg8.IsWhole) (arg9 : Memref sig .tc .vmem S48x100 .f32) (harg9 : arg9.IsWhole) (arg10 : Memref sig .tc .vmem S100x80 .f32) (harg10 : arg10.IsWhole) (hc0 : ¬cond0_0 i) (hc1 : ¬cond0_1 i) (hc2 : cond0_2 i)
    (x0 : Vec F S1x6x100 .f32) (x1 : Vec F S1x100x5 .f32) (x2 : Vec F S1x14x64x4 .f32) (xt0 : TbBuf0 (F := F) c tbM0_0) (k0_hw1 : k0_chk1 (tbM0_0.view.readAt (Elt F) (Rect.unit (s := S350) (k0_off1 i) S1.size (k0_off1_inb i)).toLoadRect xt0 (Shape.Idx.first (numel1_S1.symm ▸ Nat.one_pos)))) (k0_hw2 : k0_chk2 (tbM0_0.view.readAt (Elt F) (Rect.unit (s := S350) (k0_off4 i) S1.size (k0_off4_inb i)).toLoadRect xt0 (Shape.Idx.first (numel1_S1.symm ▸ Nat.one_pos)))) (k0_hw3 : k0_chk3 (tbM0_0.view.readAt (Elt F) (Rect.unit (s := S350) (k0_off7 i) S1.size (k0_off7_inb i)).toLoadRect xt0 (Shape.Idx.first (numel1_S1.symm ▸ Nat.one_pos)))) (k0_hw4 : k0_chk4 (tbM0_0.view.readAt (Elt F) (Rect.unit (s := S350) (k0_off10 i) S1.size (k0_off10_inb i)).toLoadRect xt0 (Shape.Idx.first (numel1_S1.symm ▸ Nat.one_pos)))) (k0_hw5 : k0_chk5 (tbM0_0.view.readAt (Elt F) (Rect.unit (s := S350) (k0_off13 i) S1.size (k0_off13_inb i)).toLoadRect xt0 (Shape.Idx.first (numel1_S1.symm ▸ Nat.one_pos)))) (k0_hw6 : k0_chk6 (tbM0_0.view.readAt (Elt F) (Rect.unit (s := S350) (k0_off16 i) S1.size (k0_off16_inb i)).toLoadRect xt0 (Shape.Idx.first (numel1_S1.symm ▸ Nat.one_pos)))) (k0_hw7 : k0_chk7 (tbM0_0.view.readAt (Elt F) (Rect.unit (s := S350) (k0_off19 i) S1.size (k0_off19_inb i)).toLoadRect xt0 (Shape.Idx.first (numel1_S1.symm ▸ Nat.one_pos)))) (k0_hw8 : k0_chk8 (tbM0_0.view.readAt (Elt F) (Rect.unit (s := S350) (k0_off22 i) S1.size (k0_off22_inb i)).toLoadRect xt0 (Shape.Idx.first (numel1_S1.symm ▸ Nat.one_pos)))) (k0_hw9 : k0_chk9 (tbM0_0.view.readAt (Elt F) (Rect.unit (s := S350) (k0_off25 i) S1.size (k0_off25_inb i)).toLoadRect xt0 (Shape.Idx.first (numel1_S1.symm ▸ Nat.one_pos)))) (k0_hw10 : k0_chk10 (tbM0_0.view.readAt (Elt F) (Rect.unit (s := S350) (k0_off28 i) S1.size (k0_off28_inb i)).toLoadRect xt0 (Shape.Idx.first (numel1_S1.symm ▸ Nat.one_pos)))) (k0_hw11 : k0_chk11 (tbM0_0.view.readAt (Elt F) (Rect.unit (s := S350) (k0_off31 i) S1.size (k0_off31_inb i)).toLoadRect xt0 (Shape.Idx.first (numel1_S1.symm ▸ Nat.one_pos)))) (k0_hw12 : k0_chk12 (tbM0_0.view.readAt (Elt F) (Rect.unit (s := S350) (k0_off34 i) S1.size (k0_off34_inb i)).toLoadRect xt0 (Shape.Idx.first (numel1_S1.symm ▸ Nat.one_pos)))) (k0_hw13 : k0_chk13 (tbM0_0.view.readAt (Elt F) (Rect.unit (s := S350) (k0_off37 i) S1.size (k0_off37_inb i)).toLoadRect xt0 (Shape.Idx.first (numel1_S1.symm ▸ Nat.one_pos)))) (k0_hw14 : k0_chk14 (tbM0_0.view.readAt (Elt F) (Rect.unit (s := S350) (k0_off40 i) S1.size (k0_off40_inb i)).toLoadRect xt0 (Shape.Idx.first (numel1_S1.symm ▸ Nat.one_pos)))) (W : Fin 14 → ℕ) (hle : ∀ k, W k ≤ 4) (hW0 : BitVec.toNat (tbM0_0.view.readAt (Elt F) (Rect.unit (s := S350) (k0_off1 i) S1.size (k0_off1_inb i)).toLoadRect xt0 (Shape.Idx.first (numel1_S1.symm ▸ Nat.one_pos))) = W 0) (hW1 : BitVec.toNat (tbM0_0.view.readAt (Elt F) (Rect.unit (s := S350) (k0_off4 i) S1.size (k0_off4_inb i)).toLoadRect xt0 (Shape.Idx.first (numel1_S1.symm ▸ Nat.one_pos))) = W 1) (hW2 : BitVec.toNat (tbM0_0.view.readAt (Elt F) (Rect.unit (s := S350) (k0_off7 i) S1.size (k0_off7_inb i)).toLoadRect xt0 (Shape.Idx.first (numel1_S1.symm ▸ Nat.one_pos))) = W 2) (hW3 : BitVec.toNat (tbM0_0.view.readAt (Elt F) (Rect.unit (s := S350) (k0_off10 i) S1.size (k0_off10_inb i)).toLoadRect xt0 (Shape.Idx.first (numel1_S1.symm ▸ Nat.one_pos))) = W 3) (hW4 : BitVec.toNat (tbM0_0.view.readAt (Elt F) (Rect.unit (s := S350) (k0_off13 i) S1.size (k0_off13_inb i)).toLoadRect xt0 (Shape.Idx.first (numel1_S1.symm ▸ Nat.one_pos))) = W 4) (hW5 : BitVec.toNat (tbM0_0.view.readAt (Elt F) (Rect.unit (s := S350) (k0_off16 i) S1.size (k0_off16_inb i)).toLoadRect xt0 (Shape.Idx.first (numel1_S1.symm ▸ Nat.one_pos))) = W 5) (hW6 : BitVec.toNat (tbM0_0.view.readAt (Elt F) (Rect.unit (s := S350) (k0_off19 i) S1.size (k0_off19_inb i)).toLoadRect xt0 (Shape.Idx.first (numel1_S1.symm ▸ Nat.one_pos))) = W 6) (hW7 : BitVec.toNat (tbM0_0.view.readAt (Elt F) (Rect.unit (s := S350) (k0_off22 i) S1.size (k0_off22_inb i)).toLoadRect xt0 (Shape.Idx.first (numel1_S1.symm ▸ Nat.one_pos))) = W 7) (hW8 : BitVec.toNat (tbM0_0.view.readAt (Elt F) (Rect.unit (s := S350) (k0_off25 i) S1.size (k0_off25_inb i)).toLoadRect xt0 (Shape.Idx.first (numel1_S1.symm ▸ Nat.one_pos))) = W 8) (hW9 : BitVec.toNat (tbM0_0.view.readAt (Elt F) (Rect.unit (s := S350) (k0_off28 i) S1.size (k0_off28_inb i)).toLoadRect xt0 (Shape.Idx.first (numel1_S1.symm ▸ Nat.one_pos))) = W 9) (hW10 : BitVec.toNat (tbM0_0.view.readAt (Elt F) (Rect.unit (s := S350) (k0_off31 i) S1.size (k0_off31_inb i)).toLoadRect xt0 (Shape.Idx.first (numel1_S1.symm ▸ Nat.one_pos))) = W 10) (hW11 : BitVec.toNat (tbM0_0.view.readAt (Elt F) (Rect.unit (s := S350) (k0_off34 i) S1.size (k0_off34_inb i)).toLoadRect xt0 (Shape.Idx.first (numel1_S1.symm ▸ Nat.one_pos))) = W 11) (hW12 : BitVec.toNat (tbM0_0.view.readAt (Elt F) (Rect.unit (s := S350) (k0_off37 i) S1.size (k0_off37_inb i)).toLoadRect xt0 (Shape.Idx.first (numel1_S1.symm ▸ Nat.one_pos))) = W 12) (hW13 : BitVec.toNat (tbM0_0.view.readAt (Elt F) (Rect.unit (s := S350) (k0_off40 i) S1.size (k0_off40_inb i)).toLoadRect xt0 (Shape.Idx.first (numel1_S1.symm ▸ Nat.one_pos))) = W 13)
    (x5 : Vec F S1x1x1 .f32) (B : Vec F S48x100 .f32) (L : Vec F S100x80 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare x5 ∗ owns (c : Thread nD τ) arg9 fullShare B ∗ owns (c : Thread nD τ) arg10 fullShare L ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare (blk3 B L x2 W) ∗ owns (c : Thread nD τ) arg7 fullShare (blk4 B x1 x2 W) ∗ owns (c : Thread nD τ) arg8 fullShare (nadd B x2 W x5) ∗ owns (c : Thread nD τ) arg9 fullShare B ∗ owns (c : Thread nD τ) arg10 fullShare L ∗ tbPt0 c tbM0_0 xt0) -∗ K ⟨⟩))
          ⊢ wp frame (wpE (defs₀ (F := F)) Variants.none c none) E (cc0__fsaf_group i tbM0_0 htbM0_0 arg3 harg3 arg4 harg4 arg5 harg5 arg6 harg6 arg7 harg7 arg8 harg8 arg9 harg9 arg10 harg10) K := by
    intro E K
    simp only [cc0__fsaf_group_eq_skeleton]; unfold cc0__fsaf_group_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%fs0, %hfs0, HS0⟩, ⟨%fs1, %hfs1, HS1⟩, HT0, Hk⟩
    obtain rfl := harg3.eq_unread hf0; obtain rfl := harg4.eq_unread hf1; obtain rfl := harg5.eq_unread hf2
    sl_exec (disch := first | sl_exact hc0 | sl_exact hc1 | sl_exact hc2 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14)
    sl_step
    iapply Hk
    isplitl [H0]
    · iexists _; isplitr; · ipureintro; exact harg3.read_unread _
      iexact H0
    subst hfs0; subst hfs1; subst hf5
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      refine funext fun y => ?_
      have hy : (y 1).val < 896 := (y 1).isLt
      revert hy; revert y
      refine tile_step arg6.view _ (clsAt (arg9.view.read (Elt F) fs0) (arg10.view.read (Elt F) fs1) x2 W) 13 832 896 rfl rfl _ _ _ ?_ (blk3 (arg9.view.read (Elt F) fs0) (arg10.view.read (Elt F) fs1) x2 W) rfl ?_
      · exact pay_cls x2 W arg9.view fs0 arg10.view fs1 harg5 13 (tbM0_0.view.readAt (Elt F) (Rect.unit (s := S350) (k0_off40 i) S1.size (k0_off40_inb i)).toLoadRect xt0 (Shape.Idx.first (numel1_S1.symm ▸ Nat.one_pos))) hW13 (hW13.le.trans (hle _))
      refine tile_step arg6.view _ (clsAt (arg9.view.read (Elt F) fs0) (arg10.view.read (Elt F) fs1) x2 W) 12 768 832 rfl rfl _ _ _ ?_ (blk3 (arg9.view.read (Elt F) fs0) (arg10.view.read (Elt F) fs1) x2 W) rfl ?_
      · exact pay_cls x2 W arg9.view fs0 arg10.view fs1 harg5 12 (tbM0_0.view.readAt (Elt F) (Rect.unit (s := S350) (k0_off37 i) S1.size (k0_off37_inb i)).toLoadRect xt0 (Shape.Idx.first (numel1_S1.symm ▸ Nat.one_pos))) hW12 (hW12.le.trans (hle _))
      refine tile_step arg6.view _ (clsAt (arg9.view.read (Elt F) fs0) (arg10.view.read (Elt F) fs1) x2 W) 11 704 768 rfl rfl _ _ _ ?_ (blk3 (arg9.view.read (Elt F) fs0) (arg10.view.read (Elt F) fs1) x2 W) rfl ?_
      · exact pay_cls x2 W arg9.view fs0 arg10.view fs1 harg5 11 (tbM0_0.view.readAt (Elt F) (Rect.unit (s := S350) (k0_off34 i) S1.size (k0_off34_inb i)).toLoadRect xt0 (Shape.Idx.first (numel1_S1.symm ▸ Nat.one_pos))) hW11 (hW11.le.trans (hle _))
      refine tile_step arg6.view _ (clsAt (arg9.view.read (Elt F) fs0) (arg10.view.read (Elt F) fs1) x2 W) 10 640 704 rfl rfl _ _ _ ?_ (blk3 (arg9.view.read (Elt F) fs0) (arg10.view.read (Elt F) fs1) x2 W) rfl ?_
      · exact pay_cls x2 W arg9.view fs0 arg10.view fs1 harg5 10 (tbM0_0.view.readAt (Elt F) (Rect.unit (s := S350) (k0_off31 i) S1.size (k0_off31_inb i)).toLoadRect xt0 (Shape.Idx.first (numel1_S1.symm ▸ Nat.one_pos))) hW10 (hW10.le.trans (hle _))
      refine tile_step arg6.view _ (clsAt (arg9.view.read (Elt F) fs0) (arg10.view.read (Elt F) fs1) x2 W) 9 576 640 rfl rfl _ _ _ ?_ (blk3 (arg9.view.read (Elt F) fs0) (arg10.view.read (Elt F) fs1) x2 W) rfl ?_
      · exact pay_cls x2 W arg9.view fs0 arg10.view fs1 harg5 9 (tbM0_0.view.readAt (Elt F) (Rect.unit (s := S350) (k0_off28 i) S1.size (k0_off28_inb i)).toLoadRect xt0 (Shape.Idx.first (numel1_S1.symm ▸ Nat.one_pos))) hW9 (hW9.le.trans (hle _))
      refine tile_step arg6.view _ (clsAt (arg9.view.read (Elt F) fs0) (arg10.view.read (Elt F) fs1) x2 W) 8 512 576 rfl rfl _ _ _ ?_ (blk3 (arg9.view.read (Elt F) fs0) (arg10.view.read (Elt F) fs1) x2 W) rfl ?_
      · exact pay_cls x2 W arg9.view fs0 arg10.view fs1 harg5 8 (tbM0_0.view.readAt (Elt F) (Rect.unit (s := S350) (k0_off25 i) S1.size (k0_off25_inb i)).toLoadRect xt0 (Shape.Idx.first (numel1_S1.symm ▸ Nat.one_pos))) hW8 (hW8.le.trans (hle _))
      refine tile_step arg6.view _ (clsAt (arg9.view.read (Elt F) fs0) (arg10.view.read (Elt F) fs1) x2 W) 7 448 512 rfl rfl _ _ _ ?_ (blk3 (arg9.view.read (Elt F) fs0) (arg10.view.read (Elt F) fs1) x2 W) rfl ?_
      · exact pay_cls x2 W arg9.view fs0 arg10.view fs1 harg5 7 (tbM0_0.view.readAt (Elt F) (Rect.unit (s := S350) (k0_off22 i) S1.size (k0_off22_inb i)).toLoadRect xt0 (Shape.Idx.first (numel1_S1.symm ▸ Nat.one_pos))) hW7 (hW7.le.trans (hle _))
      refine tile_step arg6.view _ (clsAt (arg9.view.read (Elt F) fs0) (arg10.view.read (Elt F) fs1) x2 W) 6 384 448 rfl rfl _ _ _ ?_ (blk3 (arg9.view.read (Elt F) fs0) (arg10.view.read (Elt F) fs1) x2 W) rfl ?_
      · exact pay_cls x2 W arg9.view fs0 arg10.view fs1 harg5 6 (tbM0_0.view.readAt (Elt F) (Rect.unit (s := S350) (k0_off19 i) S1.size (k0_off19_inb i)).toLoadRect xt0 (Shape.Idx.first (numel1_S1.symm ▸ Nat.one_pos))) hW6 (hW6.le.trans (hle _))
      refine tile_step arg6.view _ (clsAt (arg9.view.read (Elt F) fs0) (arg10.view.read (Elt F) fs1) x2 W) 5 320 384 rfl rfl _ _ _ ?_ (blk3 (arg9.view.read (Elt F) fs0) (arg10.view.read (Elt F) fs1) x2 W) rfl ?_
      · exact pay_cls x2 W arg9.view fs0 arg10.view fs1 harg5 5 (tbM0_0.view.readAt (Elt F) (Rect.unit (s := S350) (k0_off16 i) S1.size (k0_off16_inb i)).toLoadRect xt0 (Shape.Idx.first (numel1_S1.symm ▸ Nat.one_pos))) hW5 (hW5.le.trans (hle _))
      refine tile_step arg6.view _ (clsAt (arg9.view.read (Elt F) fs0) (arg10.view.read (Elt F) fs1) x2 W) 4 256 320 rfl rfl _ _ _ ?_ (blk3 (arg9.view.read (Elt F) fs0) (arg10.view.read (Elt F) fs1) x2 W) rfl ?_
      · exact pay_cls x2 W arg9.view fs0 arg10.view fs1 harg5 4 (tbM0_0.view.readAt (Elt F) (Rect.unit (s := S350) (k0_off13 i) S1.size (k0_off13_inb i)).toLoadRect xt0 (Shape.Idx.first (numel1_S1.symm ▸ Nat.one_pos))) hW4 (hW4.le.trans (hle _))
      refine tile_step arg6.view _ (clsAt (arg9.view.read (Elt F) fs0) (arg10.view.read (Elt F) fs1) x2 W) 3 192 256 rfl rfl _ _ _ ?_ (blk3 (arg9.view.read (Elt F) fs0) (arg10.view.read (Elt F) fs1) x2 W) rfl ?_
      · exact pay_cls x2 W arg9.view fs0 arg10.view fs1 harg5 3 (tbM0_0.view.readAt (Elt F) (Rect.unit (s := S350) (k0_off10 i) S1.size (k0_off10_inb i)).toLoadRect xt0 (Shape.Idx.first (numel1_S1.symm ▸ Nat.one_pos))) hW3 (hW3.le.trans (hle _))
      refine tile_step arg6.view _ (clsAt (arg9.view.read (Elt F) fs0) (arg10.view.read (Elt F) fs1) x2 W) 2 128 192 rfl rfl _ _ _ ?_ (blk3 (arg9.view.read (Elt F) fs0) (arg10.view.read (Elt F) fs1) x2 W) rfl ?_
      · exact pay_cls x2 W arg9.view fs0 arg10.view fs1 harg5 2 (tbM0_0.view.readAt (Elt F) (Rect.unit (s := S350) (k0_off7 i) S1.size (k0_off7_inb i)).toLoadRect xt0 (Shape.Idx.first (numel1_S1.symm ▸ Nat.one_pos))) hW2 (hW2.le.trans (hle _))
      refine tile_step arg6.view _ (clsAt (arg9.view.read (Elt F) fs0) (arg10.view.read (Elt F) fs1) x2 W) 1 64 128 rfl rfl _ _ _ ?_ (blk3 (arg9.view.read (Elt F) fs0) (arg10.view.read (Elt F) fs1) x2 W) rfl ?_
      · exact pay_cls x2 W arg9.view fs0 arg10.view fs1 harg5 1 (tbM0_0.view.readAt (Elt F) (Rect.unit (s := S350) (k0_off4 i) S1.size (k0_off4_inb i)).toLoadRect xt0 (Shape.Idx.first (numel1_S1.symm ▸ Nat.one_pos))) hW1 (hW1.le.trans (hle _))
      refine tile_step arg6.view _ (clsAt (arg9.view.read (Elt F) fs0) (arg10.view.read (Elt F) fs1) x2 W) 0 0 64 rfl rfl _ _ _ ?_ (blk3 (arg9.view.read (Elt F) fs0) (arg10.view.read (Elt F) fs1) x2 W) rfl ?_
      · exact pay_cls x2 W arg9.view fs0 arg10.view fs1 harg5 0 (tbM0_0.view.readAt (Elt F) (Rect.unit (s := S350) (k0_off1 i) S1.size (k0_off1_inb i)).toLoadRect xt0 (Shape.Idx.first (numel1_S1.symm ▸ Nat.one_pos))) hW0 (hW0.le.trans (hle _))
      exact fun y hy => absurd hy (Nat.not_lt_zero _)
    isplitl [H4]
    · iexists _; isplitr; swap; · iexact H4
      ipureintro
      refine funext fun y => ?_
      have hy : (y 1).val < 896 := (y 1).isLt
      revert hy; revert y
      refine tile_step arg7.view _ (auxAt (arg9.view.read (Elt F) fs0) x1 x2 W) 13 832 896 rfl rfl _ _ _ ?_ (blk4 (arg9.view.read (Elt F) fs0) x1 x2 W) rfl ?_
      · exact pay_aux x1 x2 W arg9.view fs0 harg5 harg4 13 (tbM0_0.view.readAt (Elt F) (Rect.unit (s := S350) (k0_off40 i) S1.size (k0_off40_inb i)).toLoadRect xt0 (Shape.Idx.first (numel1_S1.symm ▸ Nat.one_pos))) hW13 (hW13.le.trans (hle _))
      refine tile_step arg7.view _ (auxAt (arg9.view.read (Elt F) fs0) x1 x2 W) 12 768 832 rfl rfl _ _ _ ?_ (blk4 (arg9.view.read (Elt F) fs0) x1 x2 W) rfl ?_
      · exact pay_aux x1 x2 W arg9.view fs0 harg5 harg4 12 (tbM0_0.view.readAt (Elt F) (Rect.unit (s := S350) (k0_off37 i) S1.size (k0_off37_inb i)).toLoadRect xt0 (Shape.Idx.first (numel1_S1.symm ▸ Nat.one_pos))) hW12 (hW12.le.trans (hle _))
      refine tile_step arg7.view _ (auxAt (arg9.view.read (Elt F) fs0) x1 x2 W) 11 704 768 rfl rfl _ _ _ ?_ (blk4 (arg9.view.read (Elt F) fs0) x1 x2 W) rfl ?_
      · exact pay_aux x1 x2 W arg9.view fs0 harg5 harg4 11 (tbM0_0.view.readAt (Elt F) (Rect.unit (s := S350) (k0_off34 i) S1.size (k0_off34_inb i)).toLoadRect xt0 (Shape.Idx.first (numel1_S1.symm ▸ Nat.one_pos))) hW11 (hW11.le.trans (hle _))
      refine tile_step arg7.view _ (auxAt (arg9.view.read (Elt F) fs0) x1 x2 W) 10 640 704 rfl rfl _ _ _ ?_ (blk4 (arg9.view.read (Elt F) fs0) x1 x2 W) rfl ?_
      · exact pay_aux x1 x2 W arg9.view fs0 harg5 harg4 10 (tbM0_0.view.readAt (Elt F) (Rect.unit (s := S350) (k0_off31 i) S1.size (k0_off31_inb i)).toLoadRect xt0 (Shape.Idx.first (numel1_S1.symm ▸ Nat.one_pos))) hW10 (hW10.le.trans (hle _))
      refine tile_step arg7.view _ (auxAt (arg9.view.read (Elt F) fs0) x1 x2 W) 9 576 640 rfl rfl _ _ _ ?_ (blk4 (arg9.view.read (Elt F) fs0) x1 x2 W) rfl ?_
      · exact pay_aux x1 x2 W arg9.view fs0 harg5 harg4 9 (tbM0_0.view.readAt (Elt F) (Rect.unit (s := S350) (k0_off28 i) S1.size (k0_off28_inb i)).toLoadRect xt0 (Shape.Idx.first (numel1_S1.symm ▸ Nat.one_pos))) hW9 (hW9.le.trans (hle _))
      refine tile_step arg7.view _ (auxAt (arg9.view.read (Elt F) fs0) x1 x2 W) 8 512 576 rfl rfl _ _ _ ?_ (blk4 (arg9.view.read (Elt F) fs0) x1 x2 W) rfl ?_
      · exact pay_aux x1 x2 W arg9.view fs0 harg5 harg4 8 (tbM0_0.view.readAt (Elt F) (Rect.unit (s := S350) (k0_off25 i) S1.size (k0_off25_inb i)).toLoadRect xt0 (Shape.Idx.first (numel1_S1.symm ▸ Nat.one_pos))) hW8 (hW8.le.trans (hle _))
      refine tile_step arg7.view _ (auxAt (arg9.view.read (Elt F) fs0) x1 x2 W) 7 448 512 rfl rfl _ _ _ ?_ (blk4 (arg9.view.read (Elt F) fs0) x1 x2 W) rfl ?_
      · exact pay_aux x1 x2 W arg9.view fs0 harg5 harg4 7 (tbM0_0.view.readAt (Elt F) (Rect.unit (s := S350) (k0_off22 i) S1.size (k0_off22_inb i)).toLoadRect xt0 (Shape.Idx.first (numel1_S1.symm ▸ Nat.one_pos))) hW7 (hW7.le.trans (hle _))
      refine tile_step arg7.view _ (auxAt (arg9.view.read (Elt F) fs0) x1 x2 W) 6 384 448 rfl rfl _ _ _ ?_ (blk4 (arg9.view.read (Elt F) fs0) x1 x2 W) rfl ?_
      · exact pay_aux x1 x2 W arg9.view fs0 harg5 harg4 6 (tbM0_0.view.readAt (Elt F) (Rect.unit (s := S350) (k0_off19 i) S1.size (k0_off19_inb i)).toLoadRect xt0 (Shape.Idx.first (numel1_S1.symm ▸ Nat.one_pos))) hW6 (hW6.le.trans (hle _))
      refine tile_step arg7.view _ (auxAt (arg9.view.read (Elt F) fs0) x1 x2 W) 5 320 384 rfl rfl _ _ _ ?_ (blk4 (arg9.view.read (Elt F) fs0) x1 x2 W) rfl ?_
      · exact pay_aux x1 x2 W arg9.view fs0 harg5 harg4 5 (tbM0_0.view.readAt (Elt F) (Rect.unit (s := S350) (k0_off16 i) S1.size (k0_off16_inb i)).toLoadRect xt0 (Shape.Idx.first (numel1_S1.symm ▸ Nat.one_pos))) hW5 (hW5.le.trans (hle _))
      refine tile_step arg7.view _ (auxAt (arg9.view.read (Elt F) fs0) x1 x2 W) 4 256 320 rfl rfl _ _ _ ?_ (blk4 (arg9.view.read (Elt F) fs0) x1 x2 W) rfl ?_
      · exact pay_aux x1 x2 W arg9.view fs0 harg5 harg4 4 (tbM0_0.view.readAt (Elt F) (Rect.unit (s := S350) (k0_off13 i) S1.size (k0_off13_inb i)).toLoadRect xt0 (Shape.Idx.first (numel1_S1.symm ▸ Nat.one_pos))) hW4 (hW4.le.trans (hle _))
      refine tile_step arg7.view _ (auxAt (arg9.view.read (Elt F) fs0) x1 x2 W) 3 192 256 rfl rfl _ _ _ ?_ (blk4 (arg9.view.read (Elt F) fs0) x1 x2 W) rfl ?_
      · exact pay_aux x1 x2 W arg9.view fs0 harg5 harg4 3 (tbM0_0.view.readAt (Elt F) (Rect.unit (s := S350) (k0_off10 i) S1.size (k0_off10_inb i)).toLoadRect xt0 (Shape.Idx.first (numel1_S1.symm ▸ Nat.one_pos))) hW3 (hW3.le.trans (hle _))
      refine tile_step arg7.view _ (auxAt (arg9.view.read (Elt F) fs0) x1 x2 W) 2 128 192 rfl rfl _ _ _ ?_ (blk4 (arg9.view.read (Elt F) fs0) x1 x2 W) rfl ?_
      · exact pay_aux x1 x2 W arg9.view fs0 harg5 harg4 2 (tbM0_0.view.readAt (Elt F) (Rect.unit (s := S350) (k0_off7 i) S1.size (k0_off7_inb i)).toLoadRect xt0 (Shape.Idx.first (numel1_S1.symm ▸ Nat.one_pos))) hW2 (hW2.le.trans (hle _))
      refine tile_step arg7.view _ (auxAt (arg9.view.read (Elt F) fs0) x1 x2 W) 1 64 128 rfl rfl _ _ _ ?_ (blk4 (arg9.view.read (Elt F) fs0) x1 x2 W) rfl ?_
      · exact pay_aux x1 x2 W arg9.view fs0 harg5 harg4 1 (tbM0_0.view.readAt (Elt F) (Rect.unit (s := S350) (k0_off4 i) S1.size (k0_off4_inb i)).toLoadRect xt0 (Shape.Idx.first (numel1_S1.symm ▸ Nat.one_pos))) hW1 (hW1.le.trans (hle _))
      refine tile_step arg7.view _ (auxAt (arg9.view.read (Elt F) fs0) x1 x2 W) 0 0 64 rfl rfl _ _ _ ?_ (blk4 (arg9.view.read (Elt F) fs0) x1 x2 W) rfl ?_
      · exact pay_aux x1 x2 W arg9.view fs0 harg5 harg4 0 (tbM0_0.view.readAt (Elt F) (Rect.unit (s := S350) (k0_off1 i) S1.size (k0_off1_inb i)).toLoadRect xt0 (Shape.Idx.first (numel1_S1.symm ▸ Nat.one_pos))) hW0 (hW0.le.trans (hle _))
      exact fun y hy => absurd hy (Nat.not_lt_zero _)
    isplitl [H5]
    · iexists _; isplitr; swap; · iexact H5
      ipureintro
      refine (View.read_writes_full arg8.view f5 inb_S1x1x1_S1x1x1_0_0_0 _ _).trans ?_
      exact pay_nadd _ _ _
        (pay_pos x2 W arg9.view fs0 harg5 0 (tbM0_0.view.readAt (Elt F) (Rect.unit (s := S350) (k0_off1 i) S1.size (k0_off1_inb i)).toLoadRect xt0 (Shape.Idx.first (numel1_S1.symm ▸ Nat.one_pos))) hW0 (hW0.le.trans (hle _)))
        (pay_pos x2 W arg9.view fs0 harg5 1 (tbM0_0.view.readAt (Elt F) (Rect.unit (s := S350) (k0_off4 i) S1.size (k0_off4_inb i)).toLoadRect xt0 (Shape.Idx.first (numel1_S1.symm ▸ Nat.one_pos))) hW1 (hW1.le.trans (hle _)))
        (pay_pos x2 W arg9.view fs0 harg5 2 (tbM0_0.view.readAt (Elt F) (Rect.unit (s := S350) (k0_off7 i) S1.size (k0_off7_inb i)).toLoadRect xt0 (Shape.Idx.first (numel1_S1.symm ▸ Nat.one_pos))) hW2 (hW2.le.trans (hle _)))
        (pay_pos x2 W arg9.view fs0 harg5 3 (tbM0_0.view.readAt (Elt F) (Rect.unit (s := S350) (k0_off10 i) S1.size (k0_off10_inb i)).toLoadRect xt0 (Shape.Idx.first (numel1_S1.symm ▸ Nat.one_pos))) hW3 (hW3.le.trans (hle _)))
        (pay_pos x2 W arg9.view fs0 harg5 4 (tbM0_0.view.readAt (Elt F) (Rect.unit (s := S350) (k0_off13 i) S1.size (k0_off13_inb i)).toLoadRect xt0 (Shape.Idx.first (numel1_S1.symm ▸ Nat.one_pos))) hW4 (hW4.le.trans (hle _)))
        (pay_pos x2 W arg9.view fs0 harg5 5 (tbM0_0.view.readAt (Elt F) (Rect.unit (s := S350) (k0_off16 i) S1.size (k0_off16_inb i)).toLoadRect xt0 (Shape.Idx.first (numel1_S1.symm ▸ Nat.one_pos))) hW5 (hW5.le.trans (hle _)))
        (pay_pos x2 W arg9.view fs0 harg5 6 (tbM0_0.view.readAt (Elt F) (Rect.unit (s := S350) (k0_off19 i) S1.size (k0_off19_inb i)).toLoadRect xt0 (Shape.Idx.first (numel1_S1.symm ▸ Nat.one_pos))) hW6 (hW6.le.trans (hle _)))
        (pay_pos x2 W arg9.view fs0 harg5 7 (tbM0_0.view.readAt (Elt F) (Rect.unit (s := S350) (k0_off22 i) S1.size (k0_off22_inb i)).toLoadRect xt0 (Shape.Idx.first (numel1_S1.symm ▸ Nat.one_pos))) hW7 (hW7.le.trans (hle _)))
        (pay_pos x2 W arg9.view fs0 harg5 8 (tbM0_0.view.readAt (Elt F) (Rect.unit (s := S350) (k0_off25 i) S1.size (k0_off25_inb i)).toLoadRect xt0 (Shape.Idx.first (numel1_S1.symm ▸ Nat.one_pos))) hW8 (hW8.le.trans (hle _)))
        (pay_pos x2 W arg9.view fs0 harg5 9 (tbM0_0.view.readAt (Elt F) (Rect.unit (s := S350) (k0_off28 i) S1.size (k0_off28_inb i)).toLoadRect xt0 (Shape.Idx.first (numel1_S1.symm ▸ Nat.one_pos))) hW9 (hW9.le.trans (hle _)))
        (pay_pos x2 W arg9.view fs0 harg5 10 (tbM0_0.view.readAt (Elt F) (Rect.unit (s := S350) (k0_off31 i) S1.size (k0_off31_inb i)).toLoadRect xt0 (Shape.Idx.first (numel1_S1.symm ▸ Nat.one_pos))) hW10 (hW10.le.trans (hle _)))
        (pay_pos x2 W arg9.view fs0 harg5 11 (tbM0_0.view.readAt (Elt F) (Rect.unit (s := S350) (k0_off34 i) S1.size (k0_off34_inb i)).toLoadRect xt0 (Shape.Idx.first (numel1_S1.symm ▸ Nat.one_pos))) hW11 (hW11.le.trans (hle _)))
        (pay_pos x2 W arg9.view fs0 harg5 12 (tbM0_0.view.readAt (Elt F) (Rect.unit (s := S350) (k0_off37 i) S1.size (k0_off37_inb i)).toLoadRect xt0 (Shape.Idx.first (numel1_S1.symm ▸ Nat.one_pos))) hW12 (hW12.le.trans (hle _)))
        (pay_pos x2 W arg9.view fs0 harg5 13 (tbM0_0.view.readAt (Elt F) (Rect.unit (s := S350) (k0_off40 i) S1.size (k0_off40_inb i)).toLoadRect xt0 (Shape.Idx.first (numel1_S1.symm ▸ Nat.one_pos))) hW13 (hW13.le.trans (hle _)))
        (full_read arg8.view f5 ![0, 0, 0] (by decide) inb_S1x1x1_S1x1x1_0_0_0)
    isplitl [HS0]
    · iexists _; isplitr; swap; · iexact HS0
      ipureintro; rfl
    isplitl [HS1]
    · iexists _; isplitr; swap; · iexact HS1
      ipureintro; rfl
    iexact HT0

end Cert.KernelIdeal.Hand

end
-- ==== Proof.ITable.lean ====
/- The prefetched table of the tiles' levels: it is the host's constant, its words are at most 4, so the
   row offsets the body computes from them are inside the scratch of bounds. -/
module

public import proofs.«01_k».proof.Proof.IKit

@[expose] public section

noncomputable section

namespace Cert.KernelIdeal.Hand

open Idealize.ShloMosaic Idealize.ShloMosaic.TcCoe Idealize.ShloMosaic.Tactic
open Cert.KernelIdeal Cert.KernelIdeal.Gen Cert.KernelIdeal.Kit

variable {F : FTy → Type} [FloatOps F]
variable (m : (ℓ : Loc nD τ sig) → Buf (Elt F) ℓ)

/-- The region finds the table as the host's constant. -/
theorem tbl_eq : tbl m 0 = fun i => lit1 (S350.rowMajor i) := by
  show StableHlo.after (List.flatten [hostOps0]) (fun b => m (0, b)) (Proc.devRef .tc main_c) = _
  simp only [List.flatten_cons, List.flatten_nil, List.append_nil]
  after_results
  rfl

/-- Every tile's level is at most 4. -/
theorem lit1_le : ∀ i : Fin 350, (lit1 i).toNat ≤ 4 := by decide +kernel

/-- Any word the body loads from the table is at most 4. -/
theorem word_le (R : Rect S350) (x : R.toLoadRect.shape.Idx) :
    (tbM0_0.view.readAt (Elt F) R.toLoadRect (tbl m 0) x).toNat ≤ 4 := by
  rw [tbl_eq]
  exact lit1_le _

/-- Four rows at a level's offset, and four at the offset twenty rows further, are inside the scratch. -/
theorem chk_of_le (w : BitVec 32) (h : w.toNat ≤ 4) : k0_chk1 w := by
  rw [show w = BitVec.ofNat 32 w.toNat by simp]
  generalize w.toNat = k at h
  obtain rfl | rfl | rfl | rfl | rfl : k = 0 ∨ k = 1 ∨ k = 2 ∨ k = 3 ∨ k = 4 := by omega
  all_goals decide

/-- The side condition of the pipeline's index maps: none reads the table. -/
theorem ok : Ok m := trivial

theorem hyps : Hyps m (ok m) :=
  Hyps.of (fun _ _ => chk_of_le _ (word_le m _ _)) (fun _ _ => chk_of_le _ (word_le m _ _))
    (fun _ _ => chk_of_le _ (word_le m _ _)) (fun _ _ => chk_of_le _ (word_le m _ _))
    (fun _ _ => chk_of_le _ (word_le m _ _)) (fun _ _ => chk_of_le _ (word_le m _ _))
    (fun _ _ => chk_of_le _ (word_le m _ _)) (fun _ _ => chk_of_le _ (word_le m _ _))
    (fun _ _ => chk_of_le _ (word_le m _ _)) (fun _ _ => chk_of_le _ (word_le m _ _))
    (fun _ _ => chk_of_le _ (word_le m _ _)) (fun _ _ => chk_of_le _ (word_le m _ _))
    (fun _ _ => chk_of_le _ (word_le m _ _)) (fun _ _ => chk_of_le _ (word_le m _ _))

end Cert.KernelIdeal.Hand

end
-- ==== Proof.IValue.lean ====
/- The ideal kernel's run: what its five results hold. -/
module

public import proofs.«01_k».proof.Proof.IRunA
public import proofs.«01_k».proof.Proof.IRunB
public import proofs.«01_k».proof.Proof.ITable
public import Idealize.ShloMosaic.Lib.Pipeline.ValueKit

@[expose] public section

set_option maxRecDepth 16384

noncomputable section

namespace Cert.KernelIdeal.Hand

open Cert.KernelIdeal Cert.KernelIdeal.Gen Cert.KernelIdeal.Kit

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The image of a point. -/
def imgN (n : ℕ) : Fin 8 := ⟨n / 25 % 8, Nat.mod_lt _ (by omega)⟩
/-- The group of tiles of a point. -/
def grpN (n : ℕ) : Fin 25 := ⟨n % 25, Nat.mod_lt _ (by omega)⟩

/-- The rows of an image. -/
def X0 (c : Dev nD) (b : Fin 8) : Vec F S1x6x100 .f32 :=
  fun y => (V m c main_v3 : S8x6x100.Idx → Elt F .f32) (ValueIdx.ix3 b (y 1) (y 2))
/-- The boxes of an image. -/
def X1 (c : Dev nD) (b : Fin 8) : Vec F S1x100x5 .f32 :=
  fun y => (V m c main_arg1 : S8x100x5.Idx → Elt F .f32) (ValueIdx.ix3 b (y 1) (y 2))
/-- The constants of a group of tiles. -/
def X2 (c : Dev nD) (g : Fin 25) : Vec F S1x14x64x4 .f32 :=
  fun y => (V m c main_cst : S25x14x64x4.Idx → Elt F .f32) (ValueIdx.ix4 g (y 1) (y 2) (y 3))
/-- The levels of the tiles of a group. -/
def Wt (g : Fin 25) (k : Fin 14) : ℕ := (lit1 ⟨g.val * 14 + k.val, by omega⟩).toNat

theorem Wt_le (g : Fin 25) (k : Fin 14) : Wt g k ≤ 4 := lit1_le _

/-- The bounds of an image. -/
def BN (c : Dev nD) (b : Fin 8) : Vec F S48x100 .f32 := BND (X0 m c b) (X1 m c b)
/-- The labels of an image as rows of zeros and ones. -/
def LN (c : Dev nD) (b : Fin 8) : Vec F S100x80 .f32 := k0_pay11 (X1 m c b)

/-- The running count of an image after its groups up to `n`. -/
def cnt (c : Dev nD) (b : Fin 8) : ℕ → Vec F S1x1x1 .f32
  | 0 => npart (BN m c b) (X2 m c (grpN 0)) (Wt (grpN 0))
  | n + 1 => nadd (BN m c b) (X2 m c (grpN (n + 1))) (Wt (grpN (n + 1))) (cnt c b n)

/-- The classification block of an image's group. -/
def O3 (c : Dev nD) (b : Fin 8) (g : Fin 25) : Vec F S1x896x80 .f32 := blk3 (BN m c b) (LN m c b) (X2 m c g) (Wt g)
/-- The other block of an image's group. -/
def O4 (c : Dev nD) (b : Fin 8) (g : Fin 25) : Vec F S1x896x8 .f32 := blk4 (BN m c b) (X1 m c b) (X2 m c g) (Wt g)

/-- What a core holds past the first point of an image: the scratch at the image's bounds and labels. -/
def Held (c : Dev nD) (n : ℕ) : sProp 𝕄 :=
  iprop(((∃ d, ⌜∀ y : S48x100.Idx, (y 0).val < 41 → d y = BN m c (imgN n) y⌝ ∗ owns (c : Thread nD τ) scM0_0 fullShare d)
    ∗ owns (c : Thread nD τ) scM0_1 fullShare (LN m c (imgN n))) ∗ (∃ r, prngReg c r))

/-- What a core holds between points. -/
def Inv (c : Dev nD) (n : ℕ) : sProp 𝕄 := if n % 25 = 0 then Pipeline.ΦA spec0 c else Held m c n

theorem Held_weaken (c : Dev nD) (n : ℕ) : Held m c n ⊢ (Pipeline.ΦA spec0 c : sProp 𝕄) := by
  rw [PhiA0_eq]; unfold Held
  iintro ⟨⟨⟨%d, -, H0⟩, H1⟩, Hg⟩
  isplitl [H0 H1]
  · isplitl [H0]
    · iexists _; iexact H0
    iexists _; iexact H1
  iexact Hg

theorem Inv_of_held (c : Dev nD) (n : ℕ) : Held m c n ⊢ Inv m c n := by
  unfold Inv; split
  · exact Held_weaken m c n
  · exact .rfl

/-- The proof data: each output's buffer at its block, the count at the running count, the scratch tracked. -/
def dats (_ : Fin 1) (c : Dev nD) : Dat τ (Elt F) Unit ℕ (UR sig nD τ) ℕ (cfgM m (ok m)) c where
  A w := V m c (Pipeline.arrRef spec0 w)
  after w t := match w with
    | ⟨0, _⟩ => iblk m (ok m) c 0 t
    | ⟨1, _⟩ => iblk m (ok m) c 1 t
    | ⟨2, _⟩ => iblk m (ok m) c 2 t
    | ⟨3, _⟩ => O3 m c (imgN t.val) (grpN t.val)
    | ⟨4, _⟩ => O4 m c (imgN t.val) (grpN t.val)
    | ⟨5, _⟩ => cnt m c (imgN t.val) (t.val % 25)
  Φ t := iprop(Inv m c t.val ∗ Pipeline.ΦT pre0 (tbl m) c)
  q _ := fullShare
  owed _ := 0

theorem A_eq (c : Dev nD) (w : Fin (cfgM m (ok m)).W) : (dats m 0 c).A w = V m c (Pipeline.arrRef spec0 w) := by
  dsimp only [dats]

theorem after_0 (c : Dev nD) (t : Fin (cfgM m (ok m)).N) : (dats m 0 c).after 0 t = iblk m (ok m) c 0 t := by dsimp only [dats]; try rfl
theorem after_1 (c : Dev nD) (t : Fin (cfgM m (ok m)).N) : (dats m 0 c).after 1 t = iblk m (ok m) c 1 t := by dsimp only [dats]; try rfl
theorem after_2 (c : Dev nD) (t : Fin (cfgM m (ok m)).N) : (dats m 0 c).after 2 t = iblk m (ok m) c 2 t := by dsimp only [dats]; try rfl
theorem after_3 (c : Dev nD) (t : Fin (cfgM m (ok m)).N) : (dats m 0 c).after 3 t = O3 m c (imgN t.val) (grpN t.val) := by dsimp only [dats]; try rfl
theorem after_4 (c : Dev nD) (t : Fin (cfgM m (ok m)).N) : (dats m 0 c).after 4 t = O4 m c (imgN t.val) (grpN t.val) := by dsimp only [dats]; try rfl
theorem after_5 (c : Dev nD) (t : Fin (cfgM m (ok m)).N) : (dats m 0 c).after 5 t = cnt m c (imgN t.val) (t.val % 25) := by dsimp only [dats]; try rfl

theorem live_5 (i : grid0.Coords) : idle0 5 i = false := by
  simp only [idle0, k0_cond2, k0_cond3]
  exact (by decide : ∀ g : Fin 25,
    (!(Scalar.cmpi .ne (Scalar.extui (Scalar.cmpi .eq (BitVec.ofNat 32 g.val) 0#32)) 0#32 == 1#1) &&
      !(Scalar.cmpi .ne (Scalar.extui (Scalar.cmpi .ne (BitVec.ofNat 32 g.val) 0#32)) 0#32 == 1#1)) = false) (i 1)

theorem live (t : Fin (cfgM m (ok m)).N) (w : Fin 6) : (cfgM m (ok m)).idle w (grid0.coords t) = false :=
  match w with | 0 => rfl | 1 => rfl | 2 => rfl | 3 => rfl | 4 => rfl | 5 => live_5 _

theorem before_5 (c : Dev nD) (t : Fin (cfgM m (ok m)).N) (ht : t.val % 25 ≠ 0) (d) :
    (dats m 0 c).before 5 t d = cnt m c (imgN (t.val - 1)) ((t.val - 1) % 25) := by
  have hfl : ((cfgM m (ok m)).win 5).flush ⟨t.val - 1, Nat.lt_of_le_of_lt (Nat.sub_le _ _) t.isLt⟩ = false := by
    rw [← Bool.not_eq_true]
    refine (not_congr (flush0_5 (adm m (ok m)) _)).mpr ?_
    show ¬ (t.val - 1) % 25 = 24
    omega
  exact ((dats m 0 c).before_out_kept 5 rfl t (by omega) hfl (fun i => live_5 i) (fun _ _ => rfl) d).trans (after_5 m c _)

section Blocks

theorem coords_0 (t : Fin grid0.N) : (grid0.coords t 0).val = t.val / 25 % 8 := Pipeline.Grid.coords_val t 0 (by decide) rfl
theorem coords_1 (t : Fin grid0.N) : (grid0.coords t 1).val = t.val % 25 :=
  (Pipeline.Grid.coords_val t 1 (by decide) rfl : _ = t.val / 1 % 25).trans (by rw [Nat.div_one])

theorem tr_0 : ∀ t : Fin grid0.N, cc0_transform_0 (grid0.coords t) = ![(grid0.coords t 0).val, 0, 0] := by decide +kernel
theorem tr_1 : ∀ t : Fin grid0.N, cc0_transform_1 (grid0.coords t) = ![(grid0.coords t 0).val, 0, 0] := by decide +kernel
theorem tr_2 : ∀ t : Fin grid0.N, cc0_transform_2 (grid0.coords t) = ![(grid0.coords t 1).val, 0, 0, 0] := by decide +kernel
theorem tr_3 : ∀ t : Fin grid0.N, cc0_transform_3 (grid0.coords t) = ![(grid0.coords t 0).val, (grid0.coords t 1).val, 0] := by decide +kernel
theorem tr_4 : ∀ t : Fin grid0.N, cc0_transform_4 (grid0.coords t) = ![(grid0.coords t 0).val, (grid0.coords t 1).val, 0] := by decide +kernel
theorem tr_5 : ∀ t : Fin grid0.N, cc0_transform_5 (grid0.coords t) = ![(grid0.coords t 0).val, 0, 0] := by decide +kernel

theorem index_0 (t : Fin (cfgM m (ok m)).N) : ((cfgM m (ok m)).win 0).index t = ![t.val / 25 % 8, 0, 0] :=
  (tr_0 t).trans (by rw [coords_0])
theorem index_1 (t : Fin (cfgM m (ok m)).N) : ((cfgM m (ok m)).win 1).index t = ![t.val / 25 % 8, 0, 0] :=
  (tr_1 t).trans (by rw [coords_0])
theorem index_2 (t : Fin (cfgM m (ok m)).N) : ((cfgM m (ok m)).win 2).index t = ![t.val % 25, 0, 0, 0] :=
  (tr_2 t).trans (by rw [coords_1])
theorem index_3 (t : Fin (cfgM m (ok m)).N) : ((cfgM m (ok m)).win 3).index t = ![t.val / 25 % 8, t.val % 25, 0] :=
  (tr_3 t).trans (by rw [coords_0, coords_1])
theorem index_4 (t : Fin (cfgM m (ok m)).N) : ((cfgM m (ok m)).win 4).index t = ![t.val / 25 % 8, t.val % 25, 0] :=
  (tr_4 t).trans (by rw [coords_0, coords_1])
theorem index_5 (t : Fin (cfgM m (ok m)).N) : ((cfgM m (ok m)).win 5).index t = ![t.val / 25 % 8, 0, 0] :=
  (tr_5 t).trans (by rw [coords_0])

theorem iblk_0 (c : Dev nD) (t : Fin (cfgM m (ok m)).N) : iblk m (ok m) c 0 t = X0 m c (imgN t.val) := by
  funext y
  unfold iblk X0
  show V m c main_v3 ((((cfgM m (ok m)).win 0).blk t).view.emb y) = _
  congr 1
  blk_ext [index_0 m t]
  all_goals rfl
theorem iblk_1 (c : Dev nD) (t : Fin (cfgM m (ok m)).N) : iblk m (ok m) c 1 t = X1 m c (imgN t.val) := by
  funext y
  unfold iblk X1
  show V m c main_arg1 ((((cfgM m (ok m)).win 1).blk t).view.emb y) = _
  congr 1
  blk_ext [index_1 m t]
  all_goals rfl
theorem iblk_2 (c : Dev nD) (t : Fin (cfgM m (ok m)).N) : iblk m (ok m) c 2 t = X2 m c (grpN t.val) := by
  funext y
  unfold iblk X2
  show V m c main_cst ((((cfgM m (ok m)).win 2).blk t).view.emb y) = _
  congr 1
  blk_ext [index_2 m t]
  all_goals rfl

/-- The table's word at a position. -/
theorem word_at (off : Fin 1 → ℕ) (hin) (i : Fin 350) (h : off 0 = i.val) :
    tbM0_0.view.readAt (Elt F) (Rect.unit (s := S350) off S1.size hin).toLoadRect (tbl m 0) (Shape.Idx.first (numel1_S1.symm ▸ Nat.one_pos)) = lit1 i := by
  rw [tbl_eq]
  show lit1 (S350.rowMajor _) = lit1 i
  congr 1
  apply Fin.ext
  rw [Shape.rowMajor_val_one]
  show off 0 + 1 * 0 = i.val
  rw [h]; rfl

theorem word_0 (t : Fin grid0.N) :
    BitVec.toNat (tbM0_0.view.readAt (Elt F) (Rect.unit (s := S350) (k0_off1 (grid0.coords t)) S1.size (k0_off1_inb (grid0.coords t))).toLoadRect (tbl m 0) (Shape.Idx.first (numel1_S1.symm ▸ Nat.one_pos))) = Wt (grpN t.val) 0 :=
  congrArg BitVec.toNat (word_at m _ _ ⟨(grpN t.val).val * 14 + 0, by have := (grpN t.val).isLt; omega⟩
    ((by decide +kernel : ∀ t : Fin grid0.N, k0_off1 (grid0.coords t) 0 = t.val % 25 * 14 + 0) t))
theorem word_1 (t : Fin grid0.N) :
    BitVec.toNat (tbM0_0.view.readAt (Elt F) (Rect.unit (s := S350) (k0_off4 (grid0.coords t)) S1.size (k0_off4_inb (grid0.coords t))).toLoadRect (tbl m 0) (Shape.Idx.first (numel1_S1.symm ▸ Nat.one_pos))) = Wt (grpN t.val) 1 :=
  congrArg BitVec.toNat (word_at m _ _ ⟨(grpN t.val).val * 14 + 1, by have := (grpN t.val).isLt; omega⟩
    ((by decide +kernel : ∀ t : Fin grid0.N, k0_off4 (grid0.coords t) 0 = t.val % 25 * 14 + 1) t))
theorem word_2 (t : Fin grid0.N) :
    BitVec.toNat (tbM0_0.view.readAt (Elt F) (Rect.unit (s := S350) (k0_off7 (grid0.coords t)) S1.size (k0_off7_inb (grid0.coords t))).toLoadRect (tbl m 0) (Shape.Idx.first (numel1_S1.symm ▸ Nat.one_pos))) = Wt (grpN t.val) 2 :=
  congrArg BitVec.toNat (word_at m _ _ ⟨(grpN t.val).val * 14 + 2, by have := (grpN t.val).isLt; omega⟩
    ((by decide +kernel : ∀ t : Fin grid0.N, k0_off7 (grid0.coords t) 0 = t.val % 25 * 14 + 2) t))
theorem word_3 (t : Fin grid0.N) :
    BitVec.toNat (tbM0_0.view.readAt (Elt F) (Rect.unit (s := S350) (k0_off10 (grid0.coords t)) S1.size (k0_off10_inb (grid0.coords t))).toLoadRect (tbl m 0) (Shape.Idx.first (numel1_S1.symm ▸ Nat.one_pos))) = Wt (grpN t.val) 3 :=
  congrArg BitVec.toNat (word_at m _ _ ⟨(grpN t.val).val * 14 + 3, by have := (grpN t.val).isLt; omega⟩
    ((by decide +kernel : ∀ t : Fin grid0.N, k0_off10 (grid0.coords t) 0 = t.val % 25 * 14 + 3) t))
theorem word_4 (t : Fin grid0.N) :
    BitVec.toNat (tbM0_0.view.readAt (Elt F) (Rect.unit (s := S350) (k0_off13 (grid0.coords t)) S1.size (k0_off13_inb (grid0.coords t))).toLoadRect (tbl m 0) (Shape.Idx.first (numel1_S1.symm ▸ Nat.one_pos))) = Wt (grpN t.val) 4 :=
  congrArg BitVec.toNat (word_at m _ _ ⟨(grpN t.val).val * 14 + 4, by have := (grpN t.val).isLt; omega⟩
    ((by decide +kernel : ∀ t : Fin grid0.N, k0_off13 (grid0.coords t) 0 = t.val % 25 * 14 + 4) t))
theorem word_5 (t : Fin grid0.N) :
    BitVec.toNat (tbM0_0.view.readAt (Elt F) (Rect.unit (s := S350) (k0_off16 (grid0.coords t)) S1.size (k0_off16_inb (grid0.coords t))).toLoadRect (tbl m 0) (Shape.Idx.first (numel1_S1.symm ▸ Nat.one_pos))) = Wt (grpN t.val) 5 :=
  congrArg BitVec.toNat (word_at m _ _ ⟨(grpN t.val).val * 14 + 5, by have := (grpN t.val).isLt; omega⟩
    ((by decide +kernel : ∀ t : Fin grid0.N, k0_off16 (grid0.coords t) 0 = t.val % 25 * 14 + 5) t))
theorem word_6 (t : Fin grid0.N) :
    BitVec.toNat (tbM0_0.view.readAt (Elt F) (Rect.unit (s := S350) (k0_off19 (grid0.coords t)) S1.size (k0_off19_inb (grid0.coords t))).toLoadRect (tbl m 0) (Shape.Idx.first (numel1_S1.symm ▸ Nat.one_pos))) = Wt (grpN t.val) 6 :=
  congrArg BitVec.toNat (word_at m _ _ ⟨(grpN t.val).val * 14 + 6, by have := (grpN t.val).isLt; omega⟩
    ((by decide +kernel : ∀ t : Fin grid0.N, k0_off19 (grid0.coords t) 0 = t.val % 25 * 14 + 6) t))
theorem word_7 (t : Fin grid0.N) :
    BitVec.toNat (tbM0_0.view.readAt (Elt F) (Rect.unit (s := S350) (k0_off22 (grid0.coords t)) S1.size (k0_off22_inb (grid0.coords t))).toLoadRect (tbl m 0) (Shape.Idx.first (numel1_S1.symm ▸ Nat.one_pos))) = Wt (grpN t.val) 7 :=
  congrArg BitVec.toNat (word_at m _ _ ⟨(grpN t.val).val * 14 + 7, by have := (grpN t.val).isLt; omega⟩
    ((by decide +kernel : ∀ t : Fin grid0.N, k0_off22 (grid0.coords t) 0 = t.val % 25 * 14 + 7) t))
theorem word_8 (t : Fin grid0.N) :
    BitVec.toNat (tbM0_0.view.readAt (Elt F) (Rect.unit (s := S350) (k0_off25 (grid0.coords t)) S1.size (k0_off25_inb (grid0.coords t))).toLoadRect (tbl m 0) (Shape.Idx.first (numel1_S1.symm ▸ Nat.one_pos))) = Wt (grpN t.val) 8 :=
  congrArg BitVec.toNat (word_at m _ _ ⟨(grpN t.val).val * 14 + 8, by have := (grpN t.val).isLt; omega⟩
    ((by decide +kernel : ∀ t : Fin grid0.N, k0_off25 (grid0.coords t) 0 = t.val % 25 * 14 + 8) t))
theorem word_9 (t : Fin grid0.N) :
    BitVec.toNat (tbM0_0.view.readAt (Elt F) (Rect.unit (s := S350) (k0_off28 (grid0.coords t)) S1.size (k0_off28_inb (grid0.coords t))).toLoadRect (tbl m 0) (Shape.Idx.first (numel1_S1.symm ▸ Nat.one_pos))) = Wt (grpN t.val) 9 :=
  congrArg BitVec.toNat (word_at m _ _ ⟨(grpN t.val).val * 14 + 9, by have := (grpN t.val).isLt; omega⟩
    ((by decide +kernel : ∀ t : Fin grid0.N, k0_off28 (grid0.coords t) 0 = t.val % 25 * 14 + 9) t))
theorem word_10 (t : Fin grid0.N) :
    BitVec.toNat (tbM0_0.view.readAt (Elt F) (Rect.unit (s := S350) (k0_off31 (grid0.coords t)) S1.size (k0_off31_inb (grid0.coords t))).toLoadRect (tbl m 0) (Shape.Idx.first (numel1_S1.symm ▸ Nat.one_pos))) = Wt (grpN t.val) 10 :=
  congrArg BitVec.toNat (word_at m _ _ ⟨(grpN t.val).val * 14 + 10, by have := (grpN t.val).isLt; omega⟩
    ((by decide +kernel : ∀ t : Fin grid0.N, k0_off31 (grid0.coords t) 0 = t.val % 25 * 14 + 10) t))
theorem word_11 (t : Fin grid0.N) :
    BitVec.toNat (tbM0_0.view.readAt (Elt F) (Rect.unit (s := S350) (k0_off34 (grid0.coords t)) S1.size (k0_off34_inb (grid0.coords t))).toLoadRect (tbl m 0) (Shape.Idx.first (numel1_S1.symm ▸ Nat.one_pos))) = Wt (grpN t.val) 11 :=
  congrArg BitVec.toNat (word_at m _ _ ⟨(grpN t.val).val * 14 + 11, by have := (grpN t.val).isLt; omega⟩
    ((by decide +kernel : ∀ t : Fin grid0.N, k0_off34 (grid0.coords t) 0 = t.val % 25 * 14 + 11) t))
theorem word_12 (t : Fin grid0.N) :
    BitVec.toNat (tbM0_0.view.readAt (Elt F) (Rect.unit (s := S350) (k0_off37 (grid0.coords t)) S1.size (k0_off37_inb (grid0.coords t))).toLoadRect (tbl m 0) (Shape.Idx.first (numel1_S1.symm ▸ Nat.one_pos))) = Wt (grpN t.val) 12 :=
  congrArg BitVec.toNat (word_at m _ _ ⟨(grpN t.val).val * 14 + 12, by have := (grpN t.val).isLt; omega⟩
    ((by decide +kernel : ∀ t : Fin grid0.N, k0_off37 (grid0.coords t) 0 = t.val % 25 * 14 + 12) t))
theorem word_13 (t : Fin grid0.N) :
    BitVec.toNat (tbM0_0.view.readAt (Elt F) (Rect.unit (s := S350) (k0_off40 (grid0.coords t)) S1.size (k0_off40_inb (grid0.coords t))).toLoadRect (tbl m 0) (Shape.Idx.first (numel1_S1.symm ▸ Nat.one_pos))) = Wt (grpN t.val) 13 :=
  congrArg BitVec.toNat (word_at m _ _ ⟨(grpN t.val).val * 14 + 13, by have := (grpN t.val).isLt; omega⟩
    ((by decide +kernel : ∀ t : Fin grid0.N, k0_off40 (grid0.coords t) 0 = t.val % 25 * 14 + 13) t))

end Blocks

theorem before_0 (c : Dev nD) (t : Fin (cfgM m (ok m)).N) (d) : (dats m 0 c).before 0 t d = X0 m c (imgN t.val) :=
  (before0_0_of m (ok m) (dats m 0 c) (A_eq m c 0) (after_0 m c) t d).trans (iblk_0 m c t)
theorem before_1 (c : Dev nD) (t : Fin (cfgM m (ok m)).N) (d) : (dats m 0 c).before 1 t d = X1 m c (imgN t.val) :=
  (before0_1_of m (ok m) (dats m 0 c) (A_eq m c 1) (after_1 m c) t d).trans (iblk_1 m c t)
theorem before_2 (c : Dev nD) (t : Fin (cfgM m (ok m)).N) (d) : (dats m 0 c).before 2 t d = X2 m c (grpN t.val) :=
  (before0_2_of m (ok m) (dats m 0 c) (A_eq m c 2) (after_2 m c) t d).trans (iblk_2 m c t)

theorem leaves_of (c : Dev nD) (t : Fin (cfgM m (ok m)).N) (w : Fin (cfgM m (ok m)).W) (h : (cfgM m (ok m)).idle w ((cfgM m (ok m)).grid.coords t) = false) :
    (dats m 0 c).leavesExact w t
      = owns (c : Thread nD τ) (((cfgM m (ok m)).win w).stage ((cfgM m (ok m)).slots t w)) fullShare ((dats m 0 c).after w t) := by
  unfold Dat.leavesExact; rw [h]
theorem leaves_0 (c : Dev nD) (t : Fin (cfgM m (ok m)).N) : (dats m 0 c).leavesExact 0 t
    = owns (c : Thread nD τ) (ms0_0 m (ok m) t) fullShare (X0 m c (imgN t.val)) := by
  have h := live m t 0
  have e : (dats m 0 c).after 0 t = X0 m c (imgN t.val) := (after_0 m c t).trans (iblk_0 m c t)
  exact (leaves_of m c t _ h).trans (congrArg (fun x => owns (c : Thread nD τ) (ms0_0 m (ok m) t) fullShare x) e)
theorem leaves_1 (c : Dev nD) (t : Fin (cfgM m (ok m)).N) : (dats m 0 c).leavesExact 1 t
    = owns (c : Thread nD τ) (ms0_1 m (ok m) t) fullShare (X1 m c (imgN t.val)) := by
  have h := live m t 1
  have e : (dats m 0 c).after 1 t = X1 m c (imgN t.val) := (after_1 m c t).trans (iblk_1 m c t)
  exact (leaves_of m c t _ h).trans (congrArg (fun x => owns (c : Thread nD τ) (ms0_1 m (ok m) t) fullShare x) e)
theorem leaves_2 (c : Dev nD) (t : Fin (cfgM m (ok m)).N) : (dats m 0 c).leavesExact 2 t
    = owns (c : Thread nD τ) (ms0_2 m (ok m) t) fullShare (X2 m c (grpN t.val)) := by
  have h := live m t 2
  have e : (dats m 0 c).after 2 t = X2 m c (grpN t.val) := (after_2 m c t).trans (iblk_2 m c t)
  exact (leaves_of m c t _ h).trans (congrArg (fun x => owns (c : Thread nD τ) (ms0_2 m (ok m) t) fullShare x) e)
theorem leaves_3 (c : Dev nD) (t : Fin (cfgM m (ok m)).N) : (dats m 0 c).leavesExact 3 t
    = owns (c : Thread nD τ) (ms0_3 m (ok m) t) fullShare (O3 m c (imgN t.val) (grpN t.val)) := by
  have h := live m t 3
  have e : (dats m 0 c).after 3 t = O3 m c (imgN t.val) (grpN t.val) := after_3 m c t
  exact (leaves_of m c t _ h).trans (congrArg (fun x => owns (c : Thread nD τ) (ms0_3 m (ok m) t) fullShare x) e)
theorem leaves_4 (c : Dev nD) (t : Fin (cfgM m (ok m)).N) : (dats m 0 c).leavesExact 4 t
    = owns (c : Thread nD τ) (ms0_4 m (ok m) t) fullShare (O4 m c (imgN t.val) (grpN t.val)) := by
  have h := live m t 4
  have e : (dats m 0 c).after 4 t = O4 m c (imgN t.val) (grpN t.val) := after_4 m c t
  exact (leaves_of m c t _ h).trans (congrArg (fun x => owns (c : Thread nD τ) (ms0_4 m (ok m) t) fullShare x) e)
theorem leaves_5 (c : Dev nD) (t : Fin (cfgM m (ok m)).N) : (dats m 0 c).leavesExact 5 t
    = owns (c : Thread nD τ) (ms0_5 m (ok m) t) fullShare (cnt m c (imgN t.val) (t.val % 25)) := by
  have h := live m t 5
  have e : (dats m 0 c).after 5 t = cnt m c (imgN t.val) (t.val % 25) := after_5 m c t
  exact (leaves_of m c t _ h).trans (congrArg (fun x => owns (c : Thread nD τ) (ms0_5 m (ok m) t) fullShare x) e)

/-- What a point's end leaves is what the next point finds. -/
theorem Inv_step (c : Dev nD) (n : ℕ) : Held m c n ⊢ Inv m c (n + 1) := by
  unfold Inv; split
  · exact Held_weaken m c n
  · rename_i h
    have e : imgN (n + 1) = imgN n := by unfold imgN; apply Fin.ext; show (n + 1) / 25 % 8 = n / 25 % 8; omega
    unfold Held; rw [e]

def bodyPre (c : Dev nD) (t : Fin (cfgM m (ok m)).N) : sProp 𝕄 :=
  iprop((dats m 0 c).Φ t.castSucc ∗ (dats m 0 c).owesAt () t.castSucc
    ∗ (∃ d, owns (c : Thread nD τ) (ms0_0 m (ok m) t) fullShare ((dats m 0 c).before 0 t d))
    ∗ (∃ d, owns (c : Thread nD τ) (ms0_1 m (ok m) t) fullShare ((dats m 0 c).before 1 t d))
    ∗ (∃ d, owns (c : Thread nD τ) (ms0_2 m (ok m) t) fullShare ((dats m 0 c).before 2 t d))
    ∗ (∃ d, owns (c : Thread nD τ) (ms0_3 m (ok m) t) fullShare ((dats m 0 c).before 3 t d))
    ∗ (∃ d, owns (c : Thread nD τ) (ms0_4 m (ok m) t) fullShare ((dats m 0 c).before 4 t d))
    ∗ (∃ d, owns (c : Thread nD τ) (ms0_5 m (ok m) t) fullShare ((dats m 0 c).before 5 t d)))

def bodyPost (c : Dev nD) (t : Fin (cfgM m (ok m)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem Phi_at (c : Dev nD) (t : Fin ((cfgM m (ok m)).N + 1)) : (dats m 0 c).Φ t = iprop(Inv m c t.val ∗ Pipeline.ΦT pre0 (tbl m) c) := by
  dsimp only [dats]

theorem owes_at (c : Dev nD) (t t' : Fin ((cfgM m (ok m)).N + 1)) : (dats m 0 c).owesAt () t = (dats m 0 c).owesAt () t' := by
  unfold Dat.owesAt; dsimp only [dats]; rfl

theorem Phi_to (c : Dev nD) (t : Fin ((cfgM m (ok m)).N + 1)) (n : ℕ) (h : t.val = n) :
    (dats m 0 c).Φ t = iprop(Inv m c n ∗ Pipeline.ΦT pre0 (tbl m) c) := by
  rw [Phi_at, h]

/-- The conditions of a first point. -/
theorem first_conds (t : Fin grid0.N) (h : t.val % 25 = 0) : cond0_0 (grid0.coords t) ∧ cond0_1 (grid0.coords t) ∧ ¬ cond0_2 (grid0.coords t) :=
  ⟨(hcond0_0 t).mpr h, (hcond0_1 t).mpr h, fun h' => absurd ((hcond0_2 t).mp h') (by omega)⟩
/-- The conditions of a later point. -/
theorem later_conds (t : Fin grid0.N) (h : t.val % 25 ≠ 0) : ¬ cond0_0 (grid0.coords t) ∧ ¬ cond0_1 (grid0.coords t) ∧ cond0_2 (grid0.coords t) :=
  ⟨fun h' => h ((hcond0_0 t).mp h'), fun h' => h ((hcond0_1 t).mp h'), (hcond0_2 t).mpr (by omega)⟩

set_option maxHeartbeats 1600000 in
theorem sound_body (c : Dev nD) (t : Fin (cfgM m (ok m)).N) :
    bodyPre m c t ⊢ wp frame (wpE (defs₀ (F := F)) Variants.none c none) Set.univ (bodyAt0 (adm m (ok m)) t) (fun _ => bodyPost m c t) := by
  unfold bodyPre bodyPost bodyAt0
  rw [leaves_0, leaves_1, leaves_2, leaves_3, leaves_4, leaves_5]
  simp only [before_0, before_1, before_2]
  rw [show (dats m 0 c).owesAt () t.succ = (dats m 0 c).owesAt () t.castSucc from owes_at m c _ _]
  rw [show (dats m 0 c).Φ t.castSucc = iprop(Inv m c t.val ∗ Pipeline.ΦT pre0 (tbl m) c) from Phi_to m c _ _ (Fin.val_castSucc t),
    show (dats m 0 c).Φ t.succ = iprop(Inv m c (t.val + 1) ∗ Pipeline.ΦT pre0 (tbl m) c) from
      Phi_to m c _ _ (Fin.val_succ t), PhiT0_eq]
  have hN : t.val < 200 := lt_of_lt_of_eq t.isLt (show (cfgM m (ok m)).N = 200 from N_0)
  by_cases h0 : t.val % 25 = 0
  · rw [show Inv m c t.val = Pipeline.ΦA spec0 c from if_pos h0, PhiA0_eq]
    iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
    iapply ((run_A c (grid0.coords t) _ _ _ _ _ _ _ _ _ _ _ _ _ _ _ _ (first_conds t h0).1 (first_conds t h0).2.1 (first_conds t h0).2.2 (X0 m c (imgN t.val)) (X1 m c (imgN t.val)) (X2 m c (grpN t.val)) (tbl m 0) (Hyps.c0 (hyps m) c t) (Hyps.c1 (hyps m) c t) (Hyps.c2 (hyps m) c t) (Hyps.c3 (hyps m) c t) (Hyps.c4 (hyps m) c t) (Hyps.c5 (hyps m) c t) (Hyps.c6 (hyps m) c t) (Hyps.c7 (hyps m) c t) (Hyps.c8 (hyps m) c t) (Hyps.c9 (hyps m) c t) (Hyps.c10 (hyps m) c t) (Hyps.c11 (hyps m) c t) (Hyps.c12 (hyps m) c t) (Hyps.c13 (hyps m) c t) (Wt (grpN t.val)) (Wt_le _) (word_0 m t) (word_1 m t) (word_2 m t) (word_3 m t) (word_4 m t) (word_5 m t) (word_6 m t) (word_7 m t) (word_8 m t) (word_9 m t) (word_10 m t) (word_11 m t) (word_12 m t) (word_13 m t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HT0]; · iexact HT0
    iintro ⟨H0, H1, H2, H3, H4, H5, ⟨%d, %hd, HS0⟩, HS1, HT0⟩
    isplitl [HS0 HS1 Hg HT0]
    · isplitl [HS0 HS1 Hg]
      · iapply (Inv_step m c t.val)
        unfold Held
        isplitl [HS0 HS1]
        · isplitl [HS0]
          · iexists d; isplitr
            · ipureintro; exact hd
            iexact HS0
          iexact HS1
        iexact Hg
      iexact HT0
    isplitl [Ho]; · iexact Ho
    isplitl [H0]; · iexact H0
    isplitl [H1]; · iexact H1
    isplitl [H2]; · iexact H2
    isplitl [H3]; · iexact H3
    isplitl [H4]; · iexact H4
    rw [h0, show cnt m c (imgN t.val) 0 = npart (BND (X0 m c (imgN t.val)) (X1 m c (imgN t.val))) (X2 m c (grpN t.val)) (Wt (grpN t.val)) from by
      rw [show grpN t.val = grpN 0 from Fin.ext h0]; rfl]
    iexact H5
  · rw [show Inv m c t.val = Held m c t.val from if_neg h0]
    simp only [before_5 m c t h0]
    unfold Held
    iintro ⟨⟨⟨⟨⟨%d, %hd, HS0⟩, HS1⟩, Hg⟩, HT0⟩, Ho, ⟨%d0, H0⟩, ⟨%d1, H1⟩, ⟨%d2, H2⟩, ⟨%d3, H3⟩, ⟨%d4, H4⟩, ⟨%d5, H5⟩⟩
    iapply ((run_B c (grid0.coords t) _ _ _ _ _ _ _ _ _ _ _ _ _ _ _ _ (later_conds t h0).1 (later_conds t h0).2.1 (later_conds t h0).2.2 (X0 m c (imgN t.val)) (X1 m c (imgN t.val)) (X2 m c (grpN t.val)) (tbl m 0) (Hyps.c0 (hyps m) c t) (Hyps.c1 (hyps m) c t) (Hyps.c2 (hyps m) c t) (Hyps.c3 (hyps m) c t) (Hyps.c4 (hyps m) c t) (Hyps.c5 (hyps m) c t) (Hyps.c6 (hyps m) c t) (Hyps.c7 (hyps m) c t) (Hyps.c8 (hyps m) c t) (Hyps.c9 (hyps m) c t) (Hyps.c10 (hyps m) c t) (Hyps.c11 (hyps m) c t) (Hyps.c12 (hyps m) c t) (Hyps.c13 (hyps m) c t) (Wt (grpN t.val)) (Wt_le _) (word_0 m t) (word_1 m t) (word_2 m t) (word_3 m t) (word_4 m t) (word_5 m t) (word_6 m t) (word_7 m t) (word_8 m t) (word_9 m t) (word_10 m t) (word_11 m t) (word_12 m t) (word_13 m t) (cnt m c (imgN (t.val - 1)) ((t.val - 1) % 25)) d (LN m c (imgN t.val))) Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [HS0]; · iexact HS0
    isplitl [HS1]; · iexact HS1
    isplitl [HT0]; · iexact HT0
    rw [blk3_congr hd _ _ _ (Wt_le _), blk4_congr hd _ _ _ (Wt_le _), nadd_congr hd _ _ (Wt_le _)]
    iintro ⟨H0, H1, H2, H3, H4, H5, HS0, HS1, HT0⟩
    isplitl [HS0 HS1 Hg HT0]
    · isplitl [HS0 HS1 Hg]
      · iapply (Inv_step m c t.val)
        unfold Held
        isplitl [HS0 HS1]
        · isplitl [HS0]
          · iexists d; isplitr
            · ipureintro; exact hd
            iexact HS0
          iexact HS1
        iexact Hg
      iexact HT0
    isplitl [Ho]; · iexact Ho
    isplitl [H0]; · iexact H0
    isplitl [H1]; · iexact H1
    isplitl [H2]; · iexact H2
    isplitl [H3]; · iexact H3
    isplitl [H4]; · iexact H4
    rw [show cnt m c (imgN t.val) (t.val % 25) = nadd (BN m c (imgN t.val)) (X2 m c (grpN t.val)) (Wt (grpN t.val)) (cnt m c (imgN (t.val - 1)) ((t.val - 1) % 25)) from by
      obtain ⟨k, hk⟩ : ∃ k, t.val % 25 = k + 1 := ⟨t.val % 25 - 1, by omega⟩
      rw [hk, show grpN t.val = grpN (k + 1) from Fin.ext (by show t.val % 25 = (k + 1) % 25; omega),
        show imgN (t.val - 1) = imgN t.val from Fin.ext (by show (t.val - 1) / 25 % 8 = t.val / 25 % 8; omega),
        show (t.val - 1) % 25 = k by omega]
      rfl]
    iexact H5

theorem defs₀_row (t : Fin (cfgM m (ok m)).N) :
    defs₀ (F := F) .tc (cfgM m (ok m)).body ((cfgM m (ok m)).bodyArgs t ((cfgM m (ok m)).slots t)) = bodyAt0 (adm m (ok m)) t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

set_option backward.isDefEq.respectTransparency.types false in
set_option maxHeartbeats 800000 in
/-- The run: every final state has each array at what the points left of it, and the host's later lines applied. -/
theorem run : θ_run defs (onTc (τ := τ) (main (F := F))) (s₀ m ρ)
    (fun r => Pipeline.FramePost (Pipeline.pin pcfgs fun _ => adm m (ok m)) (dats m) 0 (Pipeline.afterTail pcfgs (fun _ => adm m (ok m)) (dats m) 0 (V0 m) [hostOps1]) r ∧ r.2.sem = fun _ => 0) :=
  Pipeline.θ_run_frameP_around_track (Q' := _) pcfgs (fun _ => adm m (ok m)) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m)
    (hin := fun c => by
      rw [Phi_at]
      exact (show Inv m c 0 = Pipeline.ΦA spec0 c from if_pos (by decide)) ▸ .rfl)
    (hout := fun c => by
      rw [Phi_at, show Inv m c (Fin.last (cfgM m (ok m)).N).val = Pipeline.ΦA spec0 c from if_pos (by rw [Fin.val_last, show (cfgM m (ok m)).N = 200 from N_0])]
      iintro ⟨H, -⟩
      iexact H)

end Cert.KernelIdeal.Hand
-- ==== Proof.IFinal.lean ====
/- The five results of the ideal kernel's run. -/
module

public import proofs.«01_k».proof.Proof.IValue

public import Idealize.ShloMosaic.Lib.Pipeline.ValueKit

@[expose] public section

set_option maxRecDepth 16384

noncomputable section

namespace Cert.KernelIdeal.Hand

open Cert.KernelIdeal Cert.KernelIdeal.Gen Cert.KernelIdeal.Kit

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The classifications: each image's block of the location's group, at the location's place in it. -/
def R3 (c : Dev nD) : S8x21824x80.Idx → Elt F .f32 := fun y =>
  O3 m c (y 0) ⟨(y 1).val / 896, by have h : (y 1).val < 21824 := (y 1).isLt; omega⟩ (ValueIdx.ix3 (0 : Fin 1) ⟨(y 1).val % 896, Nat.mod_lt _ (by omega)⟩ (y 2))
/-- The other block's results, likewise. -/
def R4 (c : Dev nD) : S8x21824x8.Idx → Elt F .f32 := fun y =>
  O4 m c (y 0) ⟨(y 1).val / 896, by have h : (y 1).val < 21824 := (y 1).isLt; omega⟩ (ValueIdx.ix3 (0 : Fin 1) ⟨(y 1).val % 896, Nat.mod_lt _ (by omega)⟩ (y 2))
/-- The counts. -/
def R5 (c : Dev nD) : S8x1x1.Idx → Elt F .f32 := fun y => cnt m c (y 0) 24 (ValueIdx.ix3 (0 : Fin 1) (0 : Fin 1) (0 : Fin 1))

/-- The pipeline at a table of zeros: its windows do not read the table. -/
def a0 : pcfg0 (F := Ideal).Adm := ⟨fun k => match k with | ⟨0, _⟩ => fun _ => (0#32 : BitVec 32), trivial⟩
theorem cov_3 : ((cfg0 a0).win 3).Covers := by decide +kernel
theorem cov_4 : ((cfg0 a0).win 4).Covers := by decide +kernel
theorem cov_5 : ((cfg0 a0).win 5).Covers := by decide +kernel

theorem O3_eq (c : Dev nD) {b b' : Fin 8} {g g' : Fin 25} {y y' : S1x896x80.Idx} (hb : b = b') (hg : g = g') (hy : y = y') :
    O3 m c b g y = O3 m c b' g' y' := by rw [hb, hg, hy]
theorem O4_eq (c : Dev nD) {b b' : Fin 8} {g g' : Fin 25} {y y' : S1x896x8.Idx} (hb : b = b') (hg : g = g') (hy : y = y') :
    O4 m c b g y = O4 m c b' g' y' := by rw [hb, hg, hy]

theorem cnt_eq (c : Dev nD) {b b' : Fin 8} {n : ℕ} {y y' : S1x1x1.Idx} (hb : b = b') (hy : y = y') :
    cnt m c b n y = cnt m c b' n y' := by rw [hb, hy]

theorem final_3 (c : Dev nD) : (dats m 0 c).arrAt 3 (cfgM m (ok m)).N = R3 m c := by
  refine (dats m 0 c).arrAt_eq_of_covers 3 _ cov_3 fun t hf y => ?_
  blk_simp
  rw [after_3]
  have e0 : ((((cfgM m (ok m)).win 3).blk t).view.emb y (0 : Fin 3) : ℕ) = t.val / 25 % 8 * 1 + (y (0 : Fin 3)).val := by blk_simp [index_3 m t]
  have e1 : ((((cfgM m (ok m)).win 3).blk t).view.emb y (1 : Fin 3) : ℕ) = t.val % 25 * 896 + (y (1 : Fin 3)).val := by blk_simp [index_3 m t]
  have e2 : ((((cfgM m (ok m)).win 3).blk t).view.emb y (2 : Fin 3) : ℕ) = 0 * 80 + (y (2 : Fin 3)).val := by blk_simp [index_3 m t]
  have h1 : (y (1 : Fin 3)).val < 896 := lt_of_lt_of_le (y (1 : Fin 3)).isLt (((cfgM m (ok m)).win 3).xsize_le _ (1 : Fin 3))
  have h0 : (y (0 : Fin 3)).val < 1 := lt_of_lt_of_le (y (0 : Fin 3)).isLt (((cfgM m (ok m)).win 3).xsize_le _ (0 : Fin 3))
  refine O3_eq m c (Fin.ext ?_) (Fin.ext ?_) (funext fun a => Fin.ext ?_)
  · refine Eq.trans ?_ e0.symm; show t.val / 25 % 8 = _; omega
  · refine Eq.trans ?_ (congrArg (· / 896) e1.symm); show t.val % 25 = (t.val % 25 * 896 + (y (1 : Fin 3)).val) / 896; omega
  · match a with
    | ⟨0, _⟩ => show (y (0 : Fin 3)).val = 0; omega
    | ⟨1, _⟩ => refine Eq.trans ?_ (congrArg (· % 896) e1.symm); show (y (1 : Fin 3)).val = (t.val % 25 * 896 + (y (1 : Fin 3)).val) % 896; omega
    | ⟨2, _⟩ => refine Eq.trans ?_ e2.symm; show (y (2 : Fin 3)).val = _; omega

theorem final_4 (c : Dev nD) : (dats m 0 c).arrAt 4 (cfgM m (ok m)).N = R4 m c := by
  refine (dats m 0 c).arrAt_eq_of_covers 4 _ cov_4 fun t hf y => ?_
  blk_simp
  rw [after_4]
  have e0 : ((((cfgM m (ok m)).win 4).blk t).view.emb y (0 : Fin 3) : ℕ) = t.val / 25 % 8 * 1 + (y (0 : Fin 3)).val := by blk_simp [index_4 m t]
  have e1 : ((((cfgM m (ok m)).win 4).blk t).view.emb y (1 : Fin 3) : ℕ) = t.val % 25 * 896 + (y (1 : Fin 3)).val := by blk_simp [index_4 m t]
  have e2 : ((((cfgM m (ok m)).win 4).blk t).view.emb y (2 : Fin 3) : ℕ) = 0 * 8 + (y (2 : Fin 3)).val := by blk_simp [index_4 m t]
  have h1 : (y (1 : Fin 3)).val < 896 := lt_of_lt_of_le (y (1 : Fin 3)).isLt (((cfgM m (ok m)).win 4).xsize_le _ (1 : Fin 3))
  have h0 : (y (0 : Fin 3)).val < 1 := lt_of_lt_of_le (y (0 : Fin 3)).isLt (((cfgM m (ok m)).win 4).xsize_le _ (0 : Fin 3))
  refine O4_eq m c (Fin.ext ?_) (Fin.ext ?_) (funext fun a => Fin.ext ?_)
  · refine Eq.trans ?_ e0.symm; show t.val / 25 % 8 = _; omega
  · refine Eq.trans ?_ (congrArg (· / 896) e1.symm); show t.val % 25 = (t.val % 25 * 896 + (y (1 : Fin 3)).val) / 896; omega
  · match a with
    | ⟨0, _⟩ => show (y (0 : Fin 3)).val = 0; omega
    | ⟨1, _⟩ => refine Eq.trans ?_ (congrArg (· % 896) e1.symm); show (y (1 : Fin 3)).val = (t.val % 25 * 896 + (y (1 : Fin 3)).val) % 896; omega
    | ⟨2, _⟩ => refine Eq.trans ?_ e2.symm; show (y (2 : Fin 3)).val = _; omega

theorem final_5 (c : Dev nD) : (dats m 0 c).arrAt 5 (cfgM m (ok m)).N = R5 m c := by
  refine (dats m 0 c).arrAt_eq_of_covers 5 _ cov_5 fun t hf y => ?_
  blk_simp
  rw [after_5]
  have ht : t.val % 25 = 24 := (flush0_5 (adm m (ok m)) t).mp hf
  have e0 : ((((cfgM m (ok m)).win 5).blk t).view.emb y (0 : Fin 3) : ℕ) = t.val / 25 % 8 * 1 + (y (0 : Fin 3)).val := by blk_simp [index_5 m t]
  have h0 : (y (0 : Fin 3)).val < 1 := (y (0 : Fin 3)).isLt
  have h1 : (y (1 : Fin 3)).val < 1 := (y (1 : Fin 3)).isLt
  have h2 : (y (2 : Fin 3)).val < 1 := (y (2 : Fin 3)).isLt
  rw [ht]
  have eb : imgN t.val = (((cfgM m (ok m)).win 5).blk t).view.emb y (0 : Fin 3) := Fin.ext (by
    refine Eq.trans ?_ e0.symm; show t.val / 25 % 8 = _; omega)
  refine cnt_eq m c eb (funext fun a => Fin.ext ?_)
  match a with
  | ⟨0, _⟩ => show (y (0 : Fin 3)).val = 0; omega
  | ⟨1, _⟩ => show (y (1 : Fin 3)).val = 0; omega
  | ⟨2, _⟩ => show (y (2 : Fin 3)).val = 0; omega

/-- One column of the other block, as a mask. -/
def H8 (A : Vec F S8x21824x8 .f32) : Vec F S8x21824 .i1 :=
  cmpf .une (shapeCast S8x21824 (extractStridedSlice S8x21824x1 ![0, 0, 4] A slices_S8x21824x8_S8x21824x1_0_0_4) shapeCasts_S8x21824x1_S8x21824)
    (broadcastInDim S8x21824 ![] bcast_S_S8x21824 (constant S_ .f32 0x00000000#32))
/-- The counts, as a row. -/
def H9 (A : Vec F S8x1x1 .f32) : Vec F S8 .f32 := shapeCast S8 A shapeCasts_S8x1x1_S8
/-- The first four columns. -/
def H10 (A : Vec F S8x21824x8 .f32) : Vec F S8x21824x4 .f32 := extractStridedSlice S8x21824x4 ![0, 0, 0] A slices_S8x21824x8_S8x21824x4_0_0_0
/-- The next column, as a mask. -/
def H14 (A : Vec F S8x21824x8 .f32) : Vec F S8x21824 .i1 :=
  cmpf .une (shapeCast S8x21824 (extractStridedSlice S8x21824x1 ![0, 0, 5] A slices_S8x21824x8_S8x21824x1_0_0_5) shapeCasts_S8x21824x1_S8x21824)
    (broadcastInDim S8x21824 ![] bcast_S_S8x21824 (constant S_ .f32 0x00000000#32))

/-- The buffers when the host's later lines start. -/
def VT (c : Dev nD) : Valuation τ sig (Elt F) :=
  Pipeline.withArrays spec0 c (V0 m c) fun w => (dats m 0 c).arrAt w (cfgM m (ok m)).N

theorem VT_4 (c : Dev nD) : VT m c (Proc.devRef .tc main_v4_1) = R4 m c :=
  (Pipeline.withArrays_arr spec0 (launch0 (F := F)).win.arr_inj c (V0 m c) _ 4).trans (final_4 m c)
theorem VT_5 (c : Dev nD) : VT m c (Proc.devRef .tc main_v4_2) = R5 m c :=
  (Pipeline.withArrays_arr spec0 (launch0 (F := F)).win.arr_inj c (V0 m c) _ 5).trans (final_5 m c)

theorem tail_8 (c : Dev nD) : StableHlo.after hostOps1 (VT m c) (Proc.devRef .tc main_v8) = H8 (R4 m c) := by
  after_results
  rw [VT_4]; rfl
theorem tail_9 (c : Dev nD) : StableHlo.after hostOps1 (VT m c) (Proc.devRef .tc main_v9) = H9 (R5 m c) := by
  after_results
  rw [VT_5]; rfl
theorem tail_10 (c : Dev nD) : StableHlo.after hostOps1 (VT m c) (Proc.devRef .tc main_v10) = H10 (R4 m c) := by
  after_results
  rw [VT_4]; rfl
theorem tail_14 (c : Dev nD) : StableHlo.after hostOps1 (VT m c) (Proc.devRef .tc main_v14) = H14 (R4 m c) := by
  after_results
  rw [VT_4]; rfl

/-- The run's results, and the arguments unchanged. -/
theorem results : θ_run defs (onTc (τ := τ) (main (F := F))) ⟨m, fun _ => 0, ρ⟩ (fun r => (∀ c : Dev nD,
      r.2.mem ((c.tc : Thread nD τ).loc main_v4_0) = R3 m c
      ∧ r.2.mem ((c.tc : Thread nD τ).loc main_v8) = H8 (R4 m c)
      ∧ r.2.mem ((c.tc : Thread nD τ).loc main_v9) = H9 (R5 m c)
      ∧ r.2.mem ((c.tc : Thread nD τ).loc main_v10) = H10 (R4 m c)
      ∧ r.2.mem ((c.tc : Thread nD τ).loc main_v14) = H14 (R4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c => by
    have tl : ∀ b : Ref sig .tc, Pipeline.afterTail pcfgs (fun _ => adm m (ok m)) (dats m) 0 (V0 m) [hostOps1] c b
        = StableHlo.after hostOps1 (VT m c) (Proc.devRef .tc b) := fun b => by
      unfold Pipeline.afterTail VT
      rw [List.flatten_cons, List.flatten_nil, List.append_nil]
    refine ⟨(Pipeline.FramePost.out_eq h.1 c 3).trans (final_3 m c),
      (Pipeline.FramePost.rest_eq h.1 c main_v8 (by decide : main_v8 ∈ Pipeline.restRefs sig spec0)).trans ((tl _).trans (tail_8 m c)),
      (Pipeline.FramePost.rest_eq h.1 c main_v9 (by decide : main_v9 ∈ Pipeline.restRefs sig spec0)).trans ((tl _).trans (tail_9 m c)),
      (Pipeline.FramePost.rest_eq h.1 c main_v10 (by decide : main_v10 ∈ Pipeline.restRefs sig spec0)).trans ((tl _).trans (tail_10 m c)),
      (Pipeline.FramePost.rest_eq h.1 c main_v14 (by decide : main_v14 ∈ Pipeline.restRefs sig spec0)).trans ((tl _).trans (tail_14 m c)),
      (Pipeline.FramePost.rest_eq h.1 c main_arg0 (by decide : main_arg0 ∈ Pipeline.restRefs sig spec0)).trans (W_main_arg0 m (ok m) (dats m) c),
      (Pipeline.FramePost.in_eq h.1 c 1 rfl).trans ((A_eq m c 1).trans (V_main_arg1 m c)),
      (Pipeline.FramePost.rest_eq h.1 c main_arg2 (by decide : main_arg2 ∈ Pipeline.restRefs sig spec0)).trans (W_main_arg2 m (ok m) (dats m) c)⟩, h.2⟩) (run m ρ)

end Cert.KernelIdeal.Hand
-- ==== Proof.Tables.lean ====
/- Every location's level, cell and centre in closed form, and whole numbers as float patterns. -/
module

public import Idealize.ShloMosaic.PureOps.Ideal
public import Idealize.ShloMosaic.PureOps.Ideal.Laws

@[expose] public section

set_option maxRecDepth 16384

noncomputable section

namespace Cert.Tables

open Idealize.ShloMosaic

/-- The level of a location. -/
def lvl (l : ℕ) : ℕ := if l < 16384 then 0 else if l < 20480 then 1 else if l < 21504 then 2 else if l < 21760 then 3 else 4
/-- The number of the first location of a level. -/
def fst : ℕ → ℕ
  | 0 => 0 | 1 => 16384 | 2 => 20480 | 3 => 21504 | _ => 21760
/-- The side of a level's square. -/
def side : ℕ → ℕ
  | 0 => 128 | 1 => 64 | 2 => 32 | 3 => 16 | _ => 8
/-- The stride of a level. -/
def strd : ℕ → ℕ
  | 0 => 8 | 1 => 16 | 2 => 32 | 3 => 64 | _ => 128
/-- The column of a location. -/
def xs (l : ℕ) : ℕ := (l - fst (lvl l)) % side (lvl l)
/-- The row of a location. -/
def ys (l : ℕ) : ℕ := (l - fst (lvl l)) / side (lvl l)
/-- What the table of locations holds in column `c`. -/
def entry (l : ℕ) : ℕ → ℕ
  | 0 => xs l
  | 1 => ys l
  | 2 => (2 * xs l + 1) * (strd (lvl l) / 2)
  | _ => (2 * ys l + 1) * (strd (lvl l) / 2)

/-- The pattern `w` is that of the whole number `n`. -/
def isNat (w : BitVec 32) (n : ℕ) : Bool :=
  (decide (w.toNat = 0) && decide (n = 0)) ||
    (decide (127 ≤ w.toNat / 2 ^ 23) && (decide (w.toNat / 2 ^ 23 ≤ 150) &&
      decide (2 ^ 23 + w.toNat % 2 ^ 23 = n * 2 ^ (150 - w.toNat / 2 ^ 23))))

theorem ofBits_of_isNat (w : BitVec 32) (n : ℕ) (h : isNat w n = true) : Ideal.ofBits .f32 w = ((n : ℝ) : EReal) := by
  have hs : w.extractLsb' 31 1 = BitVec.ofNat 1 (w.toNat / 2 ^ 31) := by
    apply BitVec.eq_of_toNat_eq; simp [BitVec.extractLsb'_toNat, Nat.shiftRight_eq_div_pow]
  have he : (w.extractLsb' 23 8).toNat = w.toNat / 2 ^ 23 % 2 ^ 8 := by
    simp [BitVec.extractLsb'_toNat, Nat.shiftRight_eq_div_pow]
  have hf : (w.extractLsb' 0 23).toNat = w.toNat % 2 ^ 23 := by
    simp [BitVec.extractLsb'_toNat]
  simp only [isNat, Bool.or_eq_true, Bool.and_eq_true, decide_eq_true_eq] at h
  rcases h with ⟨h0, rfl⟩ | ⟨h1, h2, h3⟩
  · have : w = 0#32 := BitVec.eq_of_toNat_eq h0
    subst this
    simp [Ideal.ofBits, Ideal.ieee]
  · have hneg : w.toNat / 2 ^ 31 = 0 := by omega
    have hex : w.toNat / 2 ^ 23 % 2 ^ 8 = w.toNat / 2 ^ 23 := by omega
    show Ideal.ieee 8 23 w = _
    unfold Ideal.ieee
    simp only [he, hf, hex, show (8 + 23 : ℕ) = 31 from rfl, show w.extractLsb' (23 + 8) 1 = BitVec.ofNat 1 (w.toNat / 2 ^ 31) from hs,
      hs, hneg]
    generalize w.toNat / 2 ^ 23 = e at *
    generalize w.toNat % 2 ^ 23 = f at *
    rw [if_neg (by omega), if_neg (by omega), h3]
    congr 1
    simp only [Nat.cast_mul, Nat.cast_pow, Nat.cast_ofNat]
    have : ((e : ℤ) - (2 ^ (8 - 1) - 1 : ℤ) - (23 : ℤ)) = -((150 - e : ℕ) : ℤ) := by
      push_cast [h2]; omega
    rw [this, zpow_neg, zpow_natCast]
    have h2' : (2 : ℝ) ^ (150 - e) ≠ 0 := by positivity
    simp [h2']

theorem lvl_tile (t r : ℕ) (hr : r < 64) : lvl (t * 64 + r) = lvl (t * 64) := by
  unfold lvl; split_ifs <;> omega

end Cert.Tables

end
-- ==== Proof.Spec.lean ====
/- The regions of the boxes as predicates on the extended reals, and the choice of the smallest box. -/
module

public import proofs.«01_k».proof.Proof.Tables
public import Idealize.ShloMosaic.PureOps
public import Idealize.ShloMosaic.PureOps.Ideal
public import Idealize.ShloMosaic.PureOps.Ideal.Laws

@[expose] public section

noncomputable section

namespace Cert.Spec

open Idealize.ShloMosaic Cert.Tables

/-- One over a level's stride. -/
def inv (d : ℕ) : ℝ := 1 / (strd d : ℝ)
/-- The scale of a region: 0 the positive one, 1 the ignored one. -/
def scl : ℕ → ℝ
  | 0 => 13421773 / 67108864 | _ => 1 / 2
/-- The centre of a projected interval. -/
def ctr (d : ℕ) (a b : EReal) : EReal := (a * (inv d : ℝ) + b * (inv d : ℝ)) * ((1 / 2 : ℝ) : EReal)
/-- Half the extent of the scaled interval. -/
def half (s d : ℕ) (a b : EReal) : EReal := (b * (inv d : ℝ) - a * (inv d : ℝ)) * (scl s : ℝ) * ((1 / 2 : ℝ) : EReal)
/-- The lower bound. -/
def lo (s d : ℕ) (a b : EReal) : EReal :=
  min (((side d - 1 : ℕ) : ℝ) : EReal) (max ((0 : ℕ) : ℝ) (Ideal.liftRound Int.floor (ctr d a b - half s d a b)))
/-- The upper bound before it is kept above the lower one. -/
def hiF (s d : ℕ) (a b : EReal) : EReal :=
  min ((side d : ℝ) : EReal) (max ((1 : ℕ) : ℝ) (Ideal.liftRound Int.ceil (ctr d a b + half s d a b)))
/-- The upper bound. -/
def hi (s d : ℕ) (a b : EReal) : EReal := max (hiF s d a b) (lo s d a b + 1)
/-- A coordinate lies in the scaled interval. -/
def Cell (s d : ℕ) (a b x : EReal) : Prop := lo s d a b ≤ x ∧ x < hi s d a b

theorem side_pos (d : ℕ) : 1 ≤ side d := by unfold side; split <;> omega
theorem side_le (d : ℕ) : side d ≤ 128 := by unfold side; split <;> omega
theorem strd_pos (d : ℕ) : 1 ≤ strd d := by unfold strd; split <;> omega
theorem inv_pos (d : ℕ) : 0 < inv d := by
  have : (1 : ℝ) ≤ strd d := by exact_mod_cast strd_pos d
  unfold inv; positivity

theorem liftRound_cases (f : ℝ → ℤ) (v : EReal) :
    Ideal.liftRound f v = ⊥ ∨ Ideal.liftRound f v = ⊤ ∨ ∃ z : ℤ, Ideal.liftRound f v = ((z : ℝ) : EReal) := by
  induction v with
  | bot => exact .inl rfl
  | top => exact .inr (.inl rfl)
  | coe r => exact .inr (.inr ⟨f r, rfl⟩)

theorem coe_min (a b : ℝ) : ((min a b : ℝ) : EReal) = min (a : EReal) b := EReal.coe_strictMono.monotone.map_min
theorem coe_max (a b : ℝ) : ((max a b : ℝ) : EReal) = max (a : EReal) b := EReal.coe_strictMono.monotone.map_max

/-- A rounded value held between two whole numbers is one of the whole numbers between. -/
theorem clamp_int (p q : ℕ) (h : p ≤ q) (z : ℤ) :
    min ((q : ℝ) : EReal) (max ((p : ℝ) : EReal) ((z : ℝ) : EReal)) = (((min (q : ℤ) (max p z) : ℤ) : ℝ) : EReal) := by
  rw [← coe_max, ← coe_min]; push_cast; rfl

theorem clamp_nat (p q : ℕ) (h : p ≤ q) (f : ℝ → ℤ) (v : EReal) :
    ∃ n : ℕ, p ≤ n ∧ n ≤ q ∧ min ((q : ℝ) : EReal) (max ((p : ℝ) : EReal) (Ideal.liftRound f v)) = ((n : ℝ) : EReal) := by
  have hpq : ((p : ℝ) : EReal) ≤ (q : ℝ) := by exact_mod_cast h
  rcases liftRound_cases f v with e | e | ⟨z, e⟩ <;> rw [e]
  · exact ⟨p, le_refl _, h, by rw [max_bot_right, min_eq_right hpq]⟩
  · exact ⟨q, h, le_refl _, by rw [max_top_right, min_top_right]⟩
  · refine ⟨(min (q : ℤ) (max p z)).toNat, by omega, by omega, ?_⟩
    rw [clamp_int p q h]
    congr 1
    exact_mod_cast (Int.toNat_of_nonneg (by omega : 0 ≤ min (q : ℤ) (max p z))).symm

theorem lo_nat (s d : ℕ) (a b : EReal) : ∃ n : ℕ, n + 1 ≤ side d ∧ lo s d a b = ((n : ℝ) : EReal) := by
  obtain ⟨n, _, h, e⟩ := clamp_nat 0 (side d - 1) (by omega) Int.floor (ctr d a b - half s d a b)
  have := side_pos d
  exact ⟨n, by omega, e⟩
theorem hiF_nat (s d : ℕ) (a b : EReal) : ∃ n : ℕ, n ≤ side d ∧ hiF s d a b = ((n : ℝ) : EReal) := by
  obtain ⟨n, _, h, e⟩ := clamp_nat 1 (side d) (side_pos d) Int.ceil (ctr d a b + half s d a b)
  exact ⟨n, h, e⟩

theorem lo_nonneg (s d : ℕ) (a b : EReal) : 0 ≤ lo s d a b := by
  obtain ⟨n, _, e⟩ := lo_nat s d a b
  rw [e]; exact_mod_cast Nat.zero_le n

/-- Nothing negative lies in an interval. -/
theorem not_cell_neg (s d : ℕ) (a b : EReal) : ¬ Cell s d a b ((-1 : ℝ) : EReal) := fun h => by
  have := (lo_nonneg s d a b).trans h.1
  have h2 : (0 : ℝ) ≤ -1 := by exact_mod_cast this
  norm_num at h2

theorem top_mul_pos {r : ℝ} (h : 0 < r) : (⊤ : EReal) * (r : EReal) = ⊤ := EReal.top_mul_coe_of_pos h
theorem bot_mul_pos {r : ℝ} (h : 0 < r) : (⊥ : EReal) * (r : EReal) = ⊥ := EReal.bot_mul_coe_of_pos h

/-- An interval with its ends in order is real, or its extent is infinite. -/
theorem extent (d : ℕ) (a b : EReal) (h : 0 ≤ b - a) :
    (∃ u v : ℝ, u ≤ v ∧ a = u ∧ b = v) ∨ b * (inv d : ℝ) - a * (inv d : ℝ) = ⊤ := by
  have hi := inv_pos d
  induction a with
  | top => induction b with
    | bot => simp at h
    | top => simp at h
    | coe r => simp at h
  | bot => induction b with
    | bot => simp at h
    | top => right; rw [top_mul_pos hi, bot_mul_pos hi]; rfl
    | coe r => right; rw [bot_mul_pos hi, ← EReal.coe_mul]; exact EReal.coe_sub_bot _
  | coe u => induction b with
    | bot => simp at h
    | top => right; rw [top_mul_pos hi, ← EReal.coe_mul]; exact EReal.top_sub_coe _
    | coe v =>
      left
      rw [← EReal.coe_sub] at h
      have : (0 : ℝ) ≤ v - u := by exact_mod_cast h
      exact ⟨u, v, by linarith, rfl, rfl⟩

theorem half_top (s d : ℕ) (a b : EReal) (h : b * (inv d : ℝ) - a * (inv d : ℝ) = ⊤) : half s d a b = ⊤ := by
  have hs : 0 < scl s := by unfold scl; split <;> norm_num
  unfold half; rw [h, top_mul_pos hs, top_mul_pos (by norm_num)]

/-- The lower bound as an integer. -/
def loI (d : ℕ) (c h : ℝ) : ℤ := min ((side d - 1 : ℕ) : ℤ) (max ((0 : ℕ) : ℤ) ⌊c - h⌋)
/-- The upper bound as an integer. -/
def hiI (d : ℕ) (c h : ℝ) : ℤ := min ((side d : ℕ) : ℤ) (max ((1 : ℕ) : ℤ) ⌈c + h⌉)

theorem bounds_mono (d : ℕ) (c h h' : ℝ) (h0 : 0 ≤ h) (hle : h ≤ h') (hz : h = 0 → h' = 0) :
    loI d c h' ≤ loI d c h ∧ max (hiI d c h) (loI d c h + 1) ≤ max (hiI d c h') (loI d c h' + 1) := by
  have hs := side_pos d
  have f1 : ⌊c - h'⌋ ≤ ⌊c - h⌋ := Int.floor_le_floor (by linarith)
  have g1 : ⌈c + h⌉ ≤ ⌈c + h'⌉ := Int.ceil_le_ceil (by linarith)
  rcases h0.eq_or_lt with e | e
  · have e' := hz e.symm
    rw [← e, e']; exact ⟨le_refl _, le_refl _⟩
  · have k : ⌊c - h⌋ < ⌈c + h⌉ := by
      have a1 := Int.floor_le (c - h)
      have a2 := Int.le_ceil (c + h)
      have : ((⌊c - h⌋ : ℤ) : ℝ) < ((⌈c + h⌉ : ℤ) : ℝ) := by linarith
      exact_mod_cast this
    unfold loI hiI
    generalize ⌊c - h⌋ = x1 at *
    generalize ⌊c - h'⌋ = x2 at *
    generalize ⌈c + h⌉ = x3 at *
    generalize ⌈c + h'⌉ = x4 at *
    omega

/-- The positive region lies in the ignored one. -/
theorem cell_mono (d : ℕ) (a b x : EReal) (h : 0 ≤ b - a) (hc : Cell 0 d a b x) : Cell 1 d a b x := by
  rcases extent d a b h with ⟨u, v, huv, rfl, rfl⟩ | ht
  · have hp := inv_pos d
    have hctr : ctr d u v = (((u * inv d + v * inv d) * (1 / 2) : ℝ) : EReal) := by
      unfold ctr; push_cast; rfl
    have hhalf : ∀ s, half s d u v = (((v * inv d - u * inv d) * scl s * (1 / 2) : ℝ) : EReal) := by
      intro s; unfold half; push_cast; rfl
    have hw : 0 ≤ v * inv d - u * inv d := by nlinarith
    generalize v * inv d - u * inv d = w at *
    generalize (u * inv d + v * inv d) * (1 / 2) = c at *
    have hlo : ∀ s, lo s d u v = (((loI d c (w * scl s * (1 / 2)) : ℤ) : ℝ) : EReal) := by
      intro s; unfold lo loI; rw [hctr, hhalf, ← EReal.coe_sub]
      exact clamp_int 0 _ (by omega) _
    have hhi : ∀ s, hi s d u v = (((max (hiI d c (w * scl s * (1 / 2))) (loI d c (w * scl s * (1 / 2)) + 1) : ℤ) : ℝ) : EReal) := by
      intro s
      have e1 : hiF s d u v = (((hiI d c (w * scl s * (1 / 2)) : ℤ) : ℝ) : EReal) := by
        unfold hiF hiI; rw [hctr, hhalf, ← EReal.coe_add]
        exact clamp_int 1 _ (side_pos d) _
      unfold Spec.hi
      rw [e1, hlo, ← EReal.coe_one, ← EReal.coe_add, ← coe_max]; push_cast; rfl
    have s0 : scl 0 = 13421773 / 67108864 := rfl
    have s1 : scl 1 = 1 / 2 := rfl
    obtain ⟨m1, m2⟩ := bounds_mono d c (w * scl 0 * (1 / 2)) (w * scl 1 * (1 / 2))
      (by rw [s0]; positivity) (by rw [s0, s1]; nlinarith)
      (by rw [s0, s1]; intro e; have : w = 0 := by linarith
          rw [this]; ring)
    refine ⟨le_trans ?_ hc.1, lt_of_lt_of_le hc.2 ?_⟩
    · rw [hlo, hlo]; exact_mod_cast m1
    · rw [hhi, hhi]; exact_mod_cast m2
  · have e : lo 1 d a b = lo 0 d a b := by unfold lo; rw [half_top 1 d a b ht, half_top 0 d a b ht]
    have e' : hiF 1 d a b = hiF 0 d a b := by unfold hiF; rw [half_top 1 d a b ht, half_top 0 d a b ht]
    unfold Cell Spec.hi at *
    rw [e, e']; exact hc

/-! ## The choice -/

section Choice
variable (A : Fin 100 → EReal)

/-- One box comes before another: it is smaller, or as large and earlier. -/
def Before (i j : Fin 100) : Prop := A i < A j ∨ (A i = A j ∧ i < j)

open Classical in
/-- How many boxes come before one. -/
def rk (j : Fin 100) : ℕ := (Finset.univ.filter fun i => Before A i j).card

variable {A}

theorem before_irrefl (i : Fin 100) : ¬ Before A i i := fun h => h.elim (lt_irrefl _) fun h => lt_irrefl _ h.2
theorem before_trans {i j k : Fin 100} (h : Before A i j) (h' : Before A j k) : Before A i k := by
  rcases h with h | ⟨h, q⟩ <;> rcases h' with h' | ⟨h', q'⟩
  · exact .inl (h.trans h')
  · exact .inl (h' ▸ h)
  · exact .inl (h ▸ h')
  · exact .inr ⟨h.trans h', q.trans q'⟩
theorem before_total {i j : Fin 100} (h : i ≠ j) : Before A i j ∨ Before A j i := by
  rcases lt_trichotomy (A i) (A j) with q | q | q
  · exact .inl (.inl q)
  · rcases lt_or_gt_of_ne h with r | r
    · exact .inl (.inr ⟨q, r⟩)
    · exact .inr (.inr ⟨q.symm, r⟩)
  · exact .inr (.inl q)

theorem rk_lt (j : Fin 100) : rk A j < 100 := by
  classical
  have : rk A j < (Finset.univ : Finset (Fin 100)).card := by
    unfold rk
    exact Finset.card_lt_card ⟨Finset.filter_subset _ _, fun h => before_irrefl j (Finset.mem_filter.1 (h (Finset.mem_univ j))).2⟩
  simpa using this
theorem rk_mono {i j : Fin 100} (h : Before A i j) : rk A i < rk A j := by
  classical
  unfold rk
  refine Finset.card_lt_card ⟨fun k hk => ?_, fun hs => ?_⟩
  · have := (Finset.mem_filter.1 hk).2
    exact Finset.mem_filter.2 ⟨Finset.mem_univ _, before_trans this h⟩
  · exact before_irrefl i (Finset.mem_filter.1 (hs (Finset.mem_filter.2 ⟨Finset.mem_univ i, h⟩))).2
theorem rk_inj {i j : Fin 100} (h : rk A i = rk A j) : i = j := by
  by_contra hne
  rcases before_total (A := A) hne with q | q <;> have := rk_mono q <;> omega

open Classical in
/-- What a box contributes to the least rank. -/
def key (A : Fin 100 → EReal) (P I : Fin 100 → Prop) (j : Fin 100) : EReal :=
  if I j then if P j then ((rk A j : ℝ) : EReal) else ((1000 : ℝ) : EReal) else ((1000000000 : ℝ) : EReal)

/-- A location's chosen box. -/
def Chosen (A : Fin 100 → EReal) (P : Fin 100 → Prop) (s : Fin 100) : Prop := P s ∧ ∀ j, P j → j ≠ s → Before A s j

theorem rk_coe_lt (j : Fin 100) : ((rk A j : ℝ) : EReal) < ((1000 : ℝ) : EReal) := by
  have : (rk A j : ℝ) < 100 := by exact_mod_cast rk_lt j
  exact_mod_cast (by linarith : (rk A j : ℝ) < 1000)

theorem least_key {P I : Fin 100 → Prop} (hPI : ∀ j, P j → I j) {v : EReal} (h : IsLeast (Set.range (key A P I)) v) :
    (∃ s, Chosen A P s ∧ v = ((rk A s : ℝ) : EReal)) ∨ ((∀ j, ¬ P j) ∧ (∃ j, I j) ∧ v = ((1000 : ℝ) : EReal)) ∨
      ((∀ j, ¬ I j) ∧ (∀ j, ¬ P j) ∧ v = ((1000000000 : ℝ) : EReal)) := by
  classical
  obtain ⟨⟨s, hs⟩, hle⟩ := h
  have hle : ∀ j, v ≤ key A P I j := fun j => hle ⟨j, rfl⟩
  have big : ((1000 : ℝ) : EReal) < ((1000000000 : ℝ) : EReal) := by exact_mod_cast (by norm_num : (1000 : ℝ) < 1000000000)
  by_cases hI : I s
  · by_cases hP : P s
    · left
      have hv : v = ((rk A s : ℝ) : EReal) := by rw [← hs]; simp [key, hI, hP]
      refine ⟨s, ⟨hP, fun j hj hne => ?_⟩, hv⟩
      refine (before_total (A := A) hne).elim (fun q => ?_) id
      have h1 := hle j
      rw [hv] at h1
      simp only [key, hPI j hj, hj, if_true] at h1
      have h2 : rk A s ≤ rk A j := by exact_mod_cast h1
      have := rk_mono q
      omega
    · right; left
      have hv : v = ((1000 : ℝ) : EReal) := by rw [← hs]; simp [key, hI, hP]
      refine ⟨fun j hj => ?_, ⟨s, hI⟩, hv⟩
      have h1 := hle j
      simp only [key, hPI j hj, hj, if_true] at h1
      exact absurd (rk_coe_lt j) (not_lt.2 (hv ▸ h1))
  · right; right
    have hv : v = ((1000000000 : ℝ) : EReal) := by rw [← hs]; simp [key, hI]
    have hn : ∀ j, ¬ I j := fun j hj => by
      have h1 := hle j
      rw [hv] at h1
      by_cases hP : P j
      · simp only [key, hj, hP, if_true] at h1
        exact absurd ((rk_coe_lt j).trans big) (not_lt.2 h1)
      · simp only [key, hj, hP, if_true, if_false] at h1
        exact absurd big (not_lt.2 h1)
    exact ⟨hn, fun j hj => hn j (hPI j hj), hv⟩

open Classical in
/-- The area of a box that a location lies in, and 1e7 for the others. -/
def areaOf (A : Fin 100 → EReal) (P : Fin 100 → Prop) (j : Fin 100) : EReal := if P j then A j else ((10000000 : ℝ) : EReal)

open Classical in
/-- The number of a box that has the smallest area, and 100 for the others. -/
def idxOf (A : Fin 100 → EReal) (P : Fin 100 → Prop) (v : EReal) (j : Fin 100) : ℕ := if areaOf A P j = v then j.val else 100

theorem least_idx {P : Fin 100 → Prop} (hA : ∀ j, A j < ((10000000 : ℝ) : EReal)) {v : EReal} {n : ℕ} {s : Fin 100}
    (hs : Chosen A P s) (hv : IsLeast (Set.range (areaOf A P)) v) (hn : IsLeast (Set.range (idxOf A P v)) n) : n = s.val := by
  classical
  have hvs : v = A s := by
    obtain ⟨⟨j, hj⟩, hle⟩ := hv
    have h1 : v ≤ A s := by have := hle ⟨s, rfl⟩; simpa [areaOf, hs.1] using this
    refine le_antisymm h1 ?_
    rw [← hj]
    by_cases hP : P j
    · simp only [areaOf, hP, if_true]
      by_cases hjs : j = s
      · rw [hjs]
      · rcases hs.2 j hP hjs with q | q
        · exact q.le
        · exact q.1.le
    · simp only [areaOf, hP, if_false]
      exact (hA s).le
  obtain ⟨⟨j, hj⟩, hle⟩ := hn
  have h1 : n ≤ s.val := by
    have := hle ⟨s, rfl⟩
    simpa [idxOf, areaOf, hs.1, hvs] using this
  refine le_antisymm h1 ?_
  rw [← hj]
  unfold idxOf
  split
  · rename_i he
    by_cases hP : P j
    · simp only [areaOf, hP, if_true] at he
      by_cases hjs : j = s
      · rw [hjs]
      · rcases hs.2 j hP hjs with q | q
        · rw [he, hvs] at q; exact absurd q (lt_irrefl _)
        · exact le_of_lt q.2
    · simp only [areaOf, hP, if_false] at he
      have := hA s
      rw [he, hvs] at this
      exact absurd this (lt_irrefl _)
  · exact le_of_lt s.isLt

theorem idx_lt {P : Fin 100 → Prop} {v : EReal} {n : ℕ}
    (hv : IsLeast (Set.range (areaOf A P)) v) (hn : IsLeast (Set.range (idxOf A P v)) n) : n < 100 := by
  classical
  obtain ⟨⟨j, hj⟩, _⟩ := hv
  have := hn.2 ⟨j, rfl⟩
  simp only [idxOf, hj, if_true] at this
  exact lt_of_le_of_lt this j.isLt

end Choice

/-! ## Folds as least and greatest elements -/

theorem fold_min_least {n : ℕ} (f : Fin (n + 1) → EReal) : IsLeast (Set.range f) (Finset.univ.fold min ⊤ f) := by
  refine ⟨?_, ?_⟩
  · rcases (Finset.fold_min_le (s := Finset.univ) (f := f) (b := ⊤) (Finset.univ.fold min ⊤ f)).1 le_rfl with h | ⟨x, hx, h⟩
    · exact ⟨0, le_antisymm (le_top.trans h) ((Finset.le_fold_min _).1 le_rfl |>.2 0 (Finset.mem_univ 0))⟩
    · exact ⟨x, le_antisymm h ((Finset.le_fold_min _).1 le_rfl |>.2 x (Finset.mem_univ x))⟩
  · rintro _ ⟨x, rfl⟩
    exact (Finset.le_fold_min _).1 le_rfl |>.2 x (Finset.mem_univ x)

theorem fold_max_greatest {n : ℕ} (f : Fin (n + 1) → EReal) : IsGreatest (Set.range f) (Finset.univ.fold max ⊥ f) := by
  refine ⟨?_, ?_⟩
  · rcases (Finset.le_fold_max (s := Finset.univ) (f := f) (b := ⊥) (Finset.univ.fold max ⊥ f)).1 le_rfl with h | ⟨x, hx, h⟩
    · exact ⟨0, le_antisymm ((Finset.fold_max_le _).1 le_rfl |>.2 0 (Finset.mem_univ 0)) (h.trans bot_le)⟩
    · exact ⟨x, le_antisymm ((Finset.fold_max_le _).1 le_rfl |>.2 x (Finset.mem_univ x)) h⟩
  · rintro _ ⟨x, rfl⟩
    exact (Finset.fold_max_le _).1 le_rfl |>.2 x (Finset.mem_univ x)

end Cert.Spec

end
-- ==== Proof.Words.lean ====
/- The float constants and the bits of comparisons at the extended reals. -/
module

public import proofs.«01_k».proof.Proof.Spec
public import Idealize.ShloMosaic.Lib.ValueIdx
public import Idealize.ShloMosaic.Lib.Pipeline.Value

@[expose] public section

noncomputable section

namespace Cert.Words

open Idealize.ShloMosaic Cert.Tables

/-- A normal pattern's value from its two fields. -/
theorem ofBits_norm (w : BitVec 32) (e f : ℕ) (hw : w.toNat = e * 2 ^ 23 + f) (h1 : 1 ≤ e) (h2 : e ≤ 254) (hf : f < 2 ^ 23) :
    Ideal.ofBits .f32 w = (((2 ^ 23 + f : ℕ) * (2 : ℝ) ^ ((e : ℤ) - 150) : ℝ) : EReal) := by
  have hs : w.extractLsb' 31 1 = 0#1 := by
    apply BitVec.eq_of_toNat_eq; simp [BitVec.extractLsb'_toNat, Nat.shiftRight_eq_div_pow]; omega
  have he : (w.extractLsb' 23 8).toNat = e := by
    simp [BitVec.extractLsb'_toNat, Nat.shiftRight_eq_div_pow]; omega
  have hf' : (w.extractLsb' 0 23).toNat = f := by
    simp [BitVec.extractLsb'_toNat]; omega
  show Ideal.ieee 8 23 w = _
  unfold Ideal.ieee
  simp only [he, hf', show (8 + 23 : ℕ) = 31 from rfl, hs]
  rw [if_neg (by omega), if_neg (by omega)]
  congr 1
  have : ((e : ℤ) - (2 ^ (8 - 1) - 1 : ℤ) - ((23 : ℕ) : ℤ)) = (e : ℤ) - 150 := by norm_num; ring
  rw [this]; simp

theorem w_half : Ideal.ofBits .f32 0x3F000000#32 = ((1 / 2 : ℝ) : EReal) := by
  rw [ofBits_norm _ 126 0 (by decide) (by omega) (by omega) (by omega)]; congr 1; norm_num
theorem w_quarter : Ideal.ofBits .f32 0x3E800000#32 = ((1 / 4 : ℝ) : EReal) := by
  rw [ofBits_norm _ 125 0 (by decide) (by omega) (by omega) (by omega)]; congr 1; norm_num
theorem w_fifth : Ideal.ofBits .f32 0x3E4CCCCD#32 = ((13421773 / 67108864 : ℝ) : EReal) := by
  rw [ofBits_norm _ 124 5033165 (by decide) (by omega) (by omega) (by omega)]; congr 1; norm_num
theorem w_one : Ideal.ofBits .f32 0x3F800000#32 = ((1 : ℝ) : EReal) := by
  rw [ofBits_norm _ 127 0 (by decide) (by omega) (by omega) (by omega)]; congr 1; norm_num
theorem w_two : Ideal.ofBits .f32 0x40000000#32 = ((2 : ℝ) : EReal) := by
  rw [ofBits_norm _ 128 0 (by decide) (by omega) (by omega) (by omega)]; congr 1; norm_num
theorem w_four : Ideal.ofBits .f32 0x40800000#32 = ((4 : ℝ) : EReal) := by
  rw [ofBits_norm _ 129 0 (by decide) (by omega) (by omega) (by omega)]; congr 1; norm_num
theorem w_thousand : Ideal.ofBits .f32 0x447A0000#32 = ((1000 : ℝ) : EReal) := by
  rw [ofBits_norm _ 136 7995392 (by decide) (by omega) (by omega) (by omega)]; congr 1; norm_num
theorem w_1e9 : Ideal.ofBits .f32 0x4E6E6B28#32 = ((1000000000 : ℝ) : EReal) := by
  rw [ofBits_norm _ 156 7236392 (by decide) (by omega) (by omega) (by omega)]; congr 1; norm_num
theorem w_1e7 : Ideal.ofBits .f32 0x4B189680#32 = ((10000000 : ℝ) : EReal) := by
  rw [ofBits_norm _ 150 1611392 (by decide) (by omega) (by omega) (by omega)]; congr 1; norm_num
theorem w_neg : Ideal.ofBits .f32 0xBF800000#32 = ((-1 : ℝ) : EReal) := by
  simp [Ideal.ofBits, Ideal.ieee]; norm_num
  rw [← EReal.coe_mul]; norm_num
theorem w_zero : Ideal.ofBits .f32 0x00000000#32 = ((0 : ℝ) : EReal) := by simp
theorem w_top : Ideal.ofBits .f32 0x7F800000#32 = ⊤ := by simp [Ideal.ofBits, Ideal.ieee]
theorem w_bot : Ideal.ofBits .f32 0xFF800000#32 = ⊥ := by simp [Ideal.ofBits, Ideal.ieee]

/-! ## Bits -/

theorem oge_iff (x y : EReal) : Ideal.cmp .oge x y = 1#1 ↔ y ≤ x := by
  by_cases h : y ≤ x <;> simp [Ideal.cmp, h]
theorem olt_iff (x y : EReal) : Ideal.cmp .olt x y = 1#1 ↔ x < y := by
  by_cases h : x < y <;> simp [Ideal.cmp, h]
theorem oeq_iff (x y : EReal) : Ideal.cmp .oeq x y = 1#1 ↔ x = y := by
  by_cases h : x = y <;> simp [Ideal.cmp, h]
theorem une_iff (x y : EReal) : Ideal.cmp .une x y = 1#1 ↔ x ≠ y := by
  by_cases h : x = y <;> simp [Ideal.cmp, h]
theorem and_iff (a b : BitVec 1) : IntOp.andi a b = 1#1 ↔ a = 1#1 ∧ b = 1#1 := by
  revert a b; decide
theorem or_iff (a b : BitVec 1) : IntOp.ori a b = 1#1 ↔ a = 1#1 ∨ b = 1#1 := by
  revert a b; decide
/-- Two bits are equal when they are one together. -/
theorem bit_ext {a b : BitVec 1} (h : a = 1#1 ↔ b = 1#1) : a = b := by
  revert a b; decide

theorem select_iff {α : Type} {c : BitVec 1} {P : Prop} [Decidable P] (h : c = 1#1 ↔ P) (a b : α) : Scalar.select c a b = if P then a else b := by
  unfold Scalar.select
  by_cases hP : P
  · rw [if_pos (show c = 1 from h.2 hP), if_pos hP]
  · rw [if_neg (show ¬ c = 1 from fun q => hP (h.1 q)), if_neg hP]

theorem sitofp_bit {c : BitVec 1} {P : Prop} [Decidable P] (h : c = 1#1 ↔ P) :
    (FloatOps.sitofp .f32 (c.setWidth 32) : Ideal .f32) = if P then ((1 : ℝ) : EReal) else ((0 : ℝ) : EReal) := by
  by_cases hP : P
  · rw [if_pos hP, h.2 hP]; simp [FloatOps.sitofp]
  · rw [if_neg hP, (BitVec.eq_zero_or_eq_one c).resolve_right fun q => hP (h.1 q)]; simp [FloatOps.sitofp]

theorem uitofp_bit {c : BitVec 1} {P : Prop} [Decidable P] (h : c = 1#1 ↔ P) :
    (FloatOps.uitofp .f32 c : Ideal .f32) = if P then ((1 : ℝ) : EReal) else ((0 : ℝ) : EReal) := by
  by_cases hP : P
  · rw [if_pos hP, h.2 hP]; simp [FloatOps.uitofp]
  · rw [if_neg hP, (BitVec.eq_zero_or_eq_one c).resolve_right fun q => hP (h.1 q)]; simp [FloatOps.uitofp]

/-! ## Small integer words -/

theorem toInt_small (a : ℕ) (ha : a < 2 ^ 31) : (BitVec.ofNat 32 a).toInt = a := by
  rw [BitVec.toInt_eq_toNat_of_lt (by rw [BitVec.toNat_ofNat]; omega), BitVec.toNat_ofNat]; omega

theorem slt_iff (a b : ℕ) (ha : a < 2 ^ 31) (hb : b < 2 ^ 31) :
    IntOp.cmpi .slt (BitVec.ofNat 32 a) (BitVec.ofNat 32 b) = 1#1 ↔ a < b := by
  have : (BitVec.ofNat 32 a).slt (BitVec.ofNat 32 b) = decide (a < b) := by
    rw [BitVec.slt_eq_decide, toInt_small a ha, toInt_small b hb]; simp
  show BitVec.ofBool ((BitVec.ofNat 32 a).slt (BitVec.ofNat 32 b)) = _ ↔ _
  rw [this]; by_cases h : a < b <;> simp [h]

theorem sge_iff (a b : ℕ) (ha : a < 2 ^ 31) (hb : b < 2 ^ 31) :
    IntOp.cmpi .sge (BitVec.ofNat 32 a) (BitVec.ofNat 32 b) = 1#1 ↔ b ≤ a := by
  have : (BitVec.ofNat 32 b).sle (BitVec.ofNat 32 a) = decide (b ≤ a) := by
    rw [BitVec.sle_eq_decide, toInt_small a ha, toInt_small b hb]; simp
  show BitVec.ofBool ((BitVec.ofNat 32 b).sle (BitVec.ofNat 32 a)) = _ ↔ _
  rw [this]; by_cases h : b ≤ a <;> simp [h]

theorem eq_iff (x y : BitVec 32) : IntOp.cmpi .eq x y = 1#1 ↔ x = y := by
  show BitVec.ofBool (x == y) = _ ↔ _
  by_cases h : x = y
  · simp [h]
  · have : (x == y) = false := by simpa using h
    simp [this, h]

theorem maxsi_small (a b : ℕ) (ha : a < 2 ^ 31) (hb : b < 2 ^ 31) :
    IntOp.maxsi (BitVec.ofNat 32 a) (BitVec.ofNat 32 b) = BitVec.ofNat 32 (max a b) := by
  unfold IntOp.maxsi
  rw [BitVec.slt_eq_decide, toInt_small a ha, toInt_small b hb]
  by_cases h : b < a
  · rw [if_pos (by simpa using h), max_eq_left h.le]
  · rw [if_neg (by simpa using h), max_eq_right (by omega)]

theorem minsi_small (a b : ℕ) (ha : a < 2 ^ 31) (hb : b < 2 ^ 31) :
    IntOp.minsi (BitVec.ofNat 32 a) (BitVec.ofNat 32 b) = BitVec.ofNat 32 (min a b) := by
  unfold IntOp.minsi
  rw [BitVec.slt_eq_decide, toInt_small a ha, toInt_small b hb]
  by_cases h : a < b
  · rw [if_pos (by simpa using h), min_eq_left h.le]
  · rw [if_neg (by simpa using h), min_eq_right (by omega)]

theorem sitofp_small (a : ℕ) (ha : a < 2 ^ 31) : (FloatOps.sitofp .f32 (BitVec.ofNat 32 a) : Ideal .f32) = ((a : ℝ) : EReal) := by
  show (((BitVec.ofNat 32 a).toInt : ℝ) : EReal) = _
  rw [toInt_small a ha]; simp

theorem fptosi_small (n : ℕ) (h : n < 2 ^ 31) : (Ideal.fptosi 32 (((n : ℝ) : EReal))) = BitVec.ofNat 32 n := by
  show Ideal.fptosi 32 ((n : ℝ) : EReal) = _
  unfold Ideal.fptosi
  have : Ideal.toIntClamped (-(2 ^ (32 - 1) : ℕ)) ((2 ^ (32 - 1) : ℕ) - 1) ((n : ℝ) : EReal) = n := by
    show max _ (min _ (if (0 : ℝ) ≤ (n : ℝ) then ⌊(n : ℝ)⌋ else ⌈(n : ℝ)⌉)) = _
    rw [if_pos (by positivity), Int.floor_natCast]
    push_cast; omega
  rw [this]; simp

end Cert.Words

end
-- ==== Proof.Pre.lean ====
/- What the precondition says of each box. -/
module

public import proofs.«01_k».proof.Pre_boxes_tame
public import proofs.«01_k».proof.Proof.Words
public import Idealize.ShloMosaic.Lib.ReduceAll
public import Idealize.ShloMosaic.Lib.ValueIdx

@[expose] public section

set_option maxRecDepth 16384

noncomputable section

namespace Cert.Pre_boxes_tame.Hand

open Cert.Pre_boxes_tame Idealize.ShloMosaic Idealize.ShloMosaic.TcCoe Cert.Words
open Cert.Pre_boxes_tame.Facts

variable [Cert.Pre_boxes_tame.Facts]
variable (x0 : IVec S8x100 32) (x1 : FVec Ideal S8x100x5 .f32) (x2 : IVec S8x5x2 32) (b : Fin 8) (j : Fin 100)

theorem col (k : Fin 5) (h : S8x100x5.Slices ![0, 0, k.val] S8x100x1) (hc : S8x100x1.numel = S8x100.numel) :
    shapeCast S8x100 (extractStridedSlice S8x100x1 ![0, 0, k.val] x1 h) hc (ValueIdx.ix2 b j) = x1 (ValueIdx.ix3 b j k) := by
  refine (shapeCast_apply _ _ _ (ValueIdx.ix3 b j 0) ?_).trans ?_
  · rw [Shape.rowMajor_val_two, Shape.rowMajor_val_three]
    show (b.val * 100 + j.val) * 1 + 0 = b.val * 100 + j.val
    omega
  · exact extractStridedSlice_apply _ _ _ _ _ fun a => match a with
      | ⟨0, _⟩ => by show b.val = 0 + b.val; omega
      | ⟨1, _⟩ => by show j.val = 0 + j.val; omega
      | ⟨2, _⟩ => by show k.val = k.val + 0; omega

instance : Subsingleton S_.Idx := ⟨fun _ _ => funext fun a => a.elim0⟩

/-- Widths and heights are not negative, areas stay below ten million, labels are whole. -/
theorem box_of (h : fn (F := Ideal) x0 x1 x2 = fun _ => 1#1) :
    (0 ≤ x1 (ValueIdx.ix3 b j 2) - x1 (ValueIdx.ix3 b j 0) ∧ 0 ≤ x1 (ValueIdx.ix3 b j 3) - x1 (ValueIdx.ix3 b j 1))
    ∧ (x1 (ValueIdx.ix3 b j 2) - x1 (ValueIdx.ix3 b j 0)) * (x1 (ValueIdx.ix3 b j 3) - x1 (ValueIdx.ix3 b j 1)) < ((10000000 : ℝ) : EReal)
    ∧ x1 (ValueIdx.ix3 b j 4) = Ideal.liftRound Int.floor (x1 (ValueIdx.ix3 b j 4)) := by
  have c0 := col x1 b j 0 slices_S8x100x5_S8x100x1_0_0_0 shapeCasts_S8x100x1_S8x100
  have c1 := col x1 b j 1 slices_S8x100x5_S8x100x1_0_0_1 shapeCasts_S8x100x1_S8x100
  have c2 := col x1 b j 2 slices_S8x100x5_S8x100x1_0_0_2 shapeCasts_S8x100x1_S8x100
  have c3 := col x1 b j 3 slices_S8x100x5_S8x100x1_0_0_3 shapeCasts_S8x100x1_S8x100
  have c4 := col x1 b j 4 slices_S8x100x5_S8x100x1_0_0_4 shapeCasts_S8x100x1_S8x100
  have e := congrFun h fun a => a.elim0
  have e1 := Host.reduce_andi_all _ _ _ _ _ e (ValueIdx.ix2 b j)
  have e2 : IntOp.andi (IntOp.andi (IntOp.andi
      (Ideal.cmp .oge (shapeCast S8x100 (extractStridedSlice S8x100x1 ![0, 0, 2] x1 slices_S8x100x5_S8x100x1_0_0_2) shapeCasts_S8x100x1_S8x100 (ValueIdx.ix2 b j)
        - shapeCast S8x100 (extractStridedSlice S8x100x1 ![0, 0, 0] x1 slices_S8x100x5_S8x100x1_0_0_0) shapeCasts_S8x100x1_S8x100 (ValueIdx.ix2 b j)) (Ideal.ofBits .f32 0x00000000#32))
      (Ideal.cmp .oge (shapeCast S8x100 (extractStridedSlice S8x100x1 ![0, 0, 3] x1 slices_S8x100x5_S8x100x1_0_0_3) shapeCasts_S8x100x1_S8x100 (ValueIdx.ix2 b j)
        - shapeCast S8x100 (extractStridedSlice S8x100x1 ![0, 0, 1] x1 slices_S8x100x5_S8x100x1_0_0_1) shapeCasts_S8x100x1_S8x100 (ValueIdx.ix2 b j)) (Ideal.ofBits .f32 0x00000000#32)))
      (Ideal.cmp .olt ((shapeCast S8x100 (extractStridedSlice S8x100x1 ![0, 0, 2] x1 slices_S8x100x5_S8x100x1_0_0_2) shapeCasts_S8x100x1_S8x100 (ValueIdx.ix2 b j)
        - shapeCast S8x100 (extractStridedSlice S8x100x1 ![0, 0, 0] x1 slices_S8x100x5_S8x100x1_0_0_0) shapeCasts_S8x100x1_S8x100 (ValueIdx.ix2 b j))
        * (shapeCast S8x100 (extractStridedSlice S8x100x1 ![0, 0, 3] x1 slices_S8x100x5_S8x100x1_0_0_3) shapeCasts_S8x100x1_S8x100 (ValueIdx.ix2 b j)
        - shapeCast S8x100 (extractStridedSlice S8x100x1 ![0, 0, 1] x1 slices_S8x100x5_S8x100x1_0_0_1) shapeCasts_S8x100x1_S8x100 (ValueIdx.ix2 b j))) (Ideal.ofBits .f32 0x4B189680#32)))
      (Ideal.cmp .oeq (shapeCast S8x100 (extractStridedSlice S8x100x1 ![0, 0, 4] x1 slices_S8x100x5_S8x100x1_0_0_4) shapeCasts_S8x100x1_S8x100 (ValueIdx.ix2 b j))
        (Ideal.liftRound Int.floor (shapeCast S8x100 (extractStridedSlice S8x100x1 ![0, 0, 4] x1 slices_S8x100x5_S8x100x1_0_0_4) shapeCasts_S8x100x1_S8x100 (ValueIdx.ix2 b j)))) = 1#1 := e1
  rw [and_iff, and_iff, and_iff, oge_iff, oge_iff, olt_iff, oeq_iff, w_zero, w_1e7] at e2
  rw [show shapeCast S8x100 (extractStridedSlice S8x100x1 ![0, 0, 0] x1 slices_S8x100x5_S8x100x1_0_0_0) shapeCasts_S8x100x1_S8x100 (ValueIdx.ix2 b j) = _ from c0,
    show shapeCast S8x100 (extractStridedSlice S8x100x1 ![0, 0, 1] x1 slices_S8x100x5_S8x100x1_0_0_1) shapeCasts_S8x100x1_S8x100 (ValueIdx.ix2 b j) = _ from c1,
    show shapeCast S8x100 (extractStridedSlice S8x100x1 ![0, 0, 2] x1 slices_S8x100x5_S8x100x1_0_0_2) shapeCasts_S8x100x1_S8x100 (ValueIdx.ix2 b j) = _ from c2,
    show shapeCast S8x100 (extractStridedSlice S8x100x1 ![0, 0, 3] x1 slices_S8x100x5_S8x100x1_0_0_3) shapeCasts_S8x100x1_S8x100 (ValueIdx.ix2 b j) = _ from c3,
    show shapeCast S8x100 (extractStridedSlice S8x100x1 ![0, 0, 4] x1 slices_S8x100x5_S8x100x1_0_0_4) shapeCasts_S8x100x1_S8x100 (ValueIdx.ix2 b j) = _ from c4] at e2
  exact ⟨e2.1.1, e2.1.2, e2.2⟩

end Cert.Pre_boxes_tame.Hand

end
-- ==== Proof.KTile.lean ====
/- What one tile of the ideal kernel computes, read at an index over the extended reals. -/
module

public import proofs.«01_k».proof.Proof.IBound
public import proofs.«01_k».proof.Proof.Words

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx
open Cert.Spec Cert.Words

section Layout
variable {α : Type}

theorem col_bc (v : S64x1.Idx → α) (r : Fin 64) (j : Fin 100) :
    broadcastTo S64x100 v broadcasts_S64x1_S64x100 (ix2 r j) = v (ix2 r 0) :=
  broadcastTo_apply _ _ _ _ fun a => match a with | ⟨0, _⟩ => rfl | ⟨1, _⟩ => rfl
theorem row_bc (v : S1x100.Idx → α) (r : Fin 64) (j : Fin 100) :
    broadcastTo S64x100 v broadcasts_S1x100_S64x100 (ix2 r j) = v (ix2 0 j) :=
  broadcastTo_apply _ _ _ _ fun a => match a with | ⟨0, _⟩ => rfl | ⟨1, _⟩ => rfl
theorem col_cast (v : S64.Idx → α) (r : Fin 64) : shapeCast S64x1 v shapeCasts_S64_S64x1 (ix2 r 0) = v (ix1 r) :=
  shapeCast_apply _ _ _ _ (by rw [Shape.rowMajor_val_one, Shape.rowMajor_val_two]; show r.val = r.val * 1 + 0; omega)
theorem lead_cast (v : S64x80.Idx → α) (r : Fin 64) (k : Fin 80) :
    shapeCast S1x64x80 v shapeCasts_S64x80_S1x64x80 (ValueIdx.ix3 0 r k) = v (ix2 r k) :=
  shapeCast_apply _ _ _ _ (by rw [Shape.rowMajor_val_two, Shape.rowMajor_val_three]; show r.val * 80 + k.val = (0 * 64 + r.val) * 80 + k.val; omega)
theorem lead_cast8 (v : S64x8.Idx → α) (r : Fin 64) (k : Fin 8) :
    shapeCast S1x64x8 v shapeCasts_S64x8_S1x64x8 (ValueIdx.ix3 0 r k) = v (ix2 r k) :=
  shapeCast_apply _ _ _ _ (by rw [Shape.rowMajor_val_two, Shape.rowMajor_val_three]; show r.val * 8 + k.val = (0 * 64 + r.val) * 8 + k.val; omega)
theorem meta_cast (v : Vec Ideal S1x1x64x4 .f32) (r : Fin 64) (k : Fin 4) :
    k0_pay167 v (ix2 r k) = v (ValueIdx.ix4 0 0 r k) :=
  shapeCast_apply _ _ _ _ (by
    rw [Shape.rowMajor_val_two, Shape.rowMajor_val_four]
    show ((0 * 1 + 0) * 64 + r.val) * 4 + k.val = r.val * 4 + k.val; omega)
theorem box_cast (v : Vec Ideal S1x100x5 .f32) (j : Fin 100) (k : Fin 5) :
    k0_pay155 v (ix2 j k) = v (ValueIdx.ix3 0 j k) :=
  shapeCast_apply _ _ _ _ (by
    rw [Shape.rowMajor_val_two, Shape.rowMajor_val_three]
    show (0 * 100 + j.val) * 5 + k.val = j.val * 5 + k.val; omega)
end Layout

variable (v5 : Vec Ideal S1x100 .f32) (p q : Vec Ideal S4x100 .f32) (mt : Vec Ideal S1x1x64x4 .f32)

/-- A location of a tile lies in the region of a box that the four rows bound. -/
def Ins (r : Fin 64) (j : Fin 100) : Prop :=
  ((p (ix2 0 j) ≤ mt (ValueIdx.ix4 0 0 r 0) ∧ mt (ValueIdx.ix4 0 0 r 0) < p (ix2 2 j)) ∧
    p (ix2 1 j) ≤ mt (ValueIdx.ix4 0 0 r 1)) ∧ mt (ValueIdx.ix4 0 0 r 1) < p (ix2 3 j)

/-- The bits the kernel computes for it. -/
def insV : IVec S64x100 1 :=
  andi (andi (andi
    (cmpf .oge (broadcastTo S64x100 (k0_pay168 mt) broadcasts_S64x1_S64x100)
      (broadcastTo S64x100 (extractStridedSlice S1x100 ![0, 0] p slices_S4x100_o0_0_S1x100) broadcasts_S1x100_S64x100))
    (cmpf .olt (broadcastTo S64x100 (k0_pay168 mt) broadcasts_S64x1_S64x100)
      (broadcastTo S64x100 (extractStridedSlice S1x100 ![2, 0] p slices_S4x100_o2_0_S1x100) broadcasts_S1x100_S64x100)))
    (cmpf .oge (broadcastTo S64x100 (k0_pay169 mt) broadcasts_S64x1_S64x100)
      (broadcastTo S64x100 (extractStridedSlice S1x100 ![1, 0] p slices_S4x100_o1_0_S1x100) broadcasts_S1x100_S64x100)))
    (cmpf .olt (broadcastTo S64x100 (k0_pay169 mt) broadcasts_S64x1_S64x100)
      (broadcastTo S64x100 (extractStridedSlice S1x100 ![3, 0] p slices_S4x100_o3_0_S1x100) broadcasts_S1x100_S64x100))

theorem col0 (r : Fin 64) : k0_pay168 mt (ix2 r 0) = mt (ValueIdx.ix4 0 0 r 0) := by
  unfold k0_pay168
  rw [extractStridedSlice_apply _ _ _ _ (ix2 r 0) (fun a => match a with | ⟨0, _⟩ => by show r.val = 0 + r.val; omega | ⟨1, _⟩ => rfl)]
  exact meta_cast mt r 0
theorem col1 (r : Fin 64) : k0_pay169 mt (ix2 r 0) = mt (ValueIdx.ix4 0 0 r 1) := by
  unfold k0_pay169
  rw [extractStridedSlice_apply _ _ _ _ (ix2 r 1) (fun a => match a with | ⟨0, _⟩ => by show r.val = 0 + r.val; omega | ⟨1, _⟩ => rfl)]
  exact meta_cast mt r 1

theorem prow (o : ℕ) (ho : o < 4) (h : S4x100.Slices ![o, 0] S1x100) (j : Fin 100) :
    extractStridedSlice S1x100 ![o, 0] p h (ix2 0 j) = p (ix2 ⟨o, ho⟩ j) :=
  extractStridedSlice_apply _ _ _ _ _ fun a => match a with
    | ⟨0, _⟩ => by show o = o + 0; omega
    | ⟨1, _⟩ => by show j.val = 0 + j.val; omega

theorem insV_iff (r : Fin 64) (j : Fin 100) : insV p mt (ix2 r j) = 1#1 ↔ Ins p mt r j := by
  show IntOp.andi (IntOp.andi (IntOp.andi (Ideal.cmp .oge _ _) (Ideal.cmp .olt _ _)) (Ideal.cmp .oge _ _)) (Ideal.cmp .olt _ _) = _ ↔ _
  rw [and_iff, and_iff, and_iff, oge_iff, oge_iff, olt_iff, olt_iff]
  simp only [col_bc, row_bc, col0, col1]
  rw [prow p 0 (by omega), prow p 1 (by omega), prow p 2 (by omega), prow p 3 (by omega)]
  rfl

open Classical in
/-- What a box contributes to a location's least rank. -/
def tKey (r : Fin 64) (j : Fin 100) : EReal :=
  if Ins q mt r j then if Ins p mt r j then v5 (ix2 0 j) else ((1000 : ℝ) : EReal) else ((1000000000 : ℝ) : EReal)

/-- The least of a row. -/
theorem min_red (src : FVec Ideal S64x100 .f32) (r : Fin 64) :
    multiReduction .minimumf [1] S64 src 0x7F800000#32 reduces_S64x100_S64 (.inl rfl) rfl (ix1 r)
      = (Finset.univ : Finset (Fin 100)).fold min ⊤ fun j => src (ix2 r j) := by
  refine (multiReduction_minimumf_eq_fold src _ _ _ _ _).trans ?_
  refine (reduces_S64x100_S64.fold_filter_drop_single _ _ src _).trans ?_
  show Finset.fold min (Ideal.ofBits .f32 0x7F800000#32) _ _ = _
  rw [w_top]
  refine congrArg (fun f => Finset.fold min ⊤ f Finset.univ) (funext fun (j : Fin 100) => ?_)
  exact congrArg src (funext fun a => match a with | ⟨0, _⟩ => rfl | ⟨1, _⟩ => rfl)

open Classical in
theorem tSel_least (r : Fin 64) : IsLeast (Set.range (tKey v5 p q mt r)) (tSel v5 p q mt (ix2 r 0)) := by
  have e : tSel v5 p q mt (ix2 r 0) = (Finset.univ : Finset (Fin 100)).fold min ⊤ (tKey v5 p q mt r) := by
    unfold tSel k0_pay170
    refine (col_cast _ r).trans ?_
    refine (min_red (select (insV q mt) (select (insV p mt) (broadcastTo S64x100 (shapeCast S1x100 v5 shapeCasts_S1x100_S1x100) broadcasts_S1x100_S64x100)
        (broadcast S64x100 (Scalar.ofBits .f32 0x447A0000#32 : Ideal .f32))) (broadcast S64x100 (Scalar.ofBits .f32 0x4E6E6B28#32 : Ideal .f32))) r).trans ?_
    refine congrArg (fun f => Finset.fold min ⊤ f Finset.univ) (funext fun (j : Fin 100) => ?_)
    show Scalar.select (insV q mt (ix2 r j)) (Scalar.select (insV p mt (ix2 r j)) (broadcastTo S64x100 _ _ (ix2 r j))
      (Ideal.ofBits .f32 0x447A0000#32)) (Ideal.ofBits .f32 0x4E6E6B28#32) = _
    rw [select_iff (insV_iff q mt r j), select_iff (insV_iff p mt r j), row_bc, shapeCast_self, w_thousand, w_1e9]
    rfl
  rw [e]; exact fold_min_least _

theorem tOne_apply (r : Fin 64) (j : Fin 100) :
    tOne v5 p q mt (ix2 r j) = if v5 (ix2 0 j) = tSel v5 p q mt (ix2 r 0) then ((1 : ℝ) : EReal) else ((0 : ℝ) : EReal) := by
  show FloatOps.sitofp .f32 ((Ideal.cmp .oeq (broadcastTo S64x100 v5 broadcasts_S1x100_S64x100 (ix2 r j))
    (broadcastTo S64x100 (tSel v5 p q mt) broadcasts_S64x1_S64x100 (ix2 r j))).setWidth 32) = _
  rw [row_bc, col_bc]
  exact sitofp_bit (oeq_iff _ _)

theorem tPos_apply (r : Fin 64) :
    tPos v5 p q mt (ix2 r 0) = if tSel v5 p q mt (ix2 r 0) < ((1000 : ℝ) : EReal) then ((1 : ℝ) : EReal) else ((0 : ℝ) : EReal) := by
  show FloatOps.sitofp .f32 ((Ideal.cmp .olt (tSel v5 p q mt (ix2 r 0)) (Ideal.ofBits .f32 0x447A0000#32)).setWidth 32) = _
  rw [w_thousand]
  exact sitofp_bit (olt_iff _ _)

theorem tCls_apply (lm : Vec Ideal S100x80 .f32) (r : Fin 64) (k : Fin 80) :
    tCls v5 lm p q mt (ValueIdx.ix3 0 r k) = ∑ j : Fin 100, tOne v5 p q mt (ix2 r j) * tPos v5 p q mt (ix2 r 0) * lm (ix2 j k) := by
  show shapeCast S1x64x80 (FloatOps.matmul dot_S64x100_S100x80_S64x80_1_0_0_1_n_n none
    (mulf (tOne v5 p q mt) (broadcastTo S64x100 (tPos v5 p q mt) broadcasts_S64x1_S64x100)) lm (constant S64x80 .f32 0x00000000#32)) _ _ = _
  rw [lead_cast, Ideal.matmul_constant_zero_apply,
    ← Equiv.sum_comp (contrEquiv1 dot_S64x100_S100x80_S64x80_1_0_0_1_n_n 100 rfl rfl).symm]
  refine Finset.sum_congr rfl fun j _ => ?_
  have h1 : dot_S64x100_S100x80_S64x80_1_0_0_1_n_n.lhsIdx (ix2 r k) ((contrEquiv1 dot_S64x100_S100x80_S64x80_1_0_0_1_n_n 100 rfl rfl).symm j)
      = ix2 r j := funext fun a => Fin.ext (match a with | ⟨0, _⟩ => rfl | ⟨1, _⟩ => rfl)
  have h2 : dot_S64x100_S100x80_S64x80_1_0_0_1_n_n.rhsIdx (ix2 r k) ((contrEquiv1 dot_S64x100_S100x80_S64x80_1_0_0_1_n_n 100 rfl rfl).symm j)
      = ix2 j k := funext fun a => Fin.ext (match a with | ⟨0, _⟩ => rfl | ⟨1, _⟩ => rfl)
  rw [h1, h2, mulf_apply, col_bc]

/-- The coordinates of the chosen box. -/
theorem coords_apply (x1 : Vec Ideal S1x100x5 .f32) (o : FVec Ideal S64x100 .f32) (r : Fin 64) (k : Fin 4) :
    (FloatOps.matmul dot_S64x100_S100x4_S64x4_1_0_0_1_n_n (some .fp32) o (k0_pay173 (k0_pay155 x1)) (constant S64x4 .f32 0x00000000#32) : FVec Ideal S64x4 .f32) (ix2 r k)
      = ∑ j : Fin 100, o (ix2 r j) * x1 (ValueIdx.ix3 0 j (k.castLE (by omega))) := by
  rw [Ideal.matmul_constant_zero_apply,
    ← Equiv.sum_comp (contrEquiv1 dot_S64x100_S100x4_S64x4_1_0_0_1_n_n 100 rfl rfl).symm]
  refine Finset.sum_congr rfl fun j _ => ?_
  have h1 : dot_S64x100_S100x4_S64x4_1_0_0_1_n_n.lhsIdx (ix2 r k) ((contrEquiv1 dot_S64x100_S100x4_S64x4_1_0_0_1_n_n 100 rfl rfl).symm j)
      = ix2 r j := funext fun a => Fin.ext (match a with | ⟨0, _⟩ => rfl | ⟨1, _⟩ => rfl)
  have h2 : dot_S64x100_S100x4_S64x4_1_0_0_1_n_n.rhsIdx (ix2 r k) ((contrEquiv1 dot_S64x100_S100x4_S64x4_1_0_0_1_n_n 100 rfl rfl).symm j)
      = ix2 j k := funext fun a => Fin.ext (match a with | ⟨0, _⟩ => rfl | ⟨1, _⟩ => rfl)
  rw [h1, h2]
  congr 1
  unfold k0_pay173
  rw [extractStridedSlice_apply _ _ _ _ (ix2 j (k.castLE (by omega))) (fun a => match a with
    | ⟨0, _⟩ => by show j.val = 0 + j.val; omega | ⟨1, _⟩ => by show k.val = 0 + k.val; omega)]
  exact box_cast x1 j _

end Cert.KernelIdeal.Hand

end
-- ==== Proof.KRows.lean ====
/- The other targets of a tile, the rows of bounds, the ranks and the labels, read at an index. -/
module

public import proofs.«01_k».proof.Proof.KTile

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx
open Cert.Spec Cert.Words Cert.Tables

section Aux
variable (v5 : Vec Ideal S1x100 .f32) (x1 : Vec Ideal S1x100x5 .f32) (p q : Vec Ideal S4x100 .f32) (mt : Vec Ideal S1x1x64x4 .f32)

/-- The centres, twice over. -/
theorem ctr_cat (v : FVec Ideal S64x2 .f32) (r : Fin 64) (k : Fin 4) :
    concatenate S64x4 1 [⟨S64x2, v⟩, ⟨S64x2, v⟩] concatenates_S64x2_S64x2_S64x4_d1 (ix2 r k)
      = v (ix2 r ⟨k.val % 2, by omega⟩) := by
  by_cases hk : k.val < 2
  · exact concatenate_apply_piece (t := S64x4) 1 [⟨S64x2, v⟩, ⟨S64x2, v⟩] _ _ 0 (by show 0 < 2; decide) S64x2 v rfl rfl 0 rfl _
      (fun b hb => match b with | ⟨0, _⟩ => rfl | ⟨1, _⟩ => absurd rfl hb) (by show 0 + k.val % 2 = k.val; omega)
  · exact concatenate_apply_piece (t := S64x4) 1 [⟨S64x2, v⟩, ⟨S64x2, v⟩] _ _ 1 (by show 1 < 2; decide) S64x2 v rfl rfl 2 rfl _
      (fun b hb => match b with | ⟨0, _⟩ => rfl | ⟨1, _⟩ => absurd rfl hb) (by show 2 + k.val % 2 = k.val; omega)

theorem ctr_col (r : Fin 64) (k : Fin 2) :
    extractStridedSlice S64x2 ![0, 2] (k0_pay167 mt) slices_S64x4_o0_2_S64x2 (ix2 r k) = mt (ValueIdx.ix4 0 0 r ⟨2 + k.val, by omega⟩) := by
  rw [extractStridedSlice_apply _ _ _ _ (ix2 r ⟨2 + k.val, by omega⟩) (fun a => match a with
    | ⟨0, _⟩ => by show r.val = 0 + r.val; omega | ⟨1, _⟩ => rfl)]
  exact meta_cast mt r _

/-- The sign of a column: the first two count up from the corner, the others down to it. -/
theorem sgn_apply (r : Fin 64) (k : Fin 4) :
    (broadcastTo S64x4 (select (cmpi .slt (iota .tc S1x4 32 [1] iota_S1x4_d1_w32) (broadcast S1x4 2#32))
      (broadcast S1x4 (Scalar.ofBits .f32 0x3F800000#32 : Ideal .f32)) (broadcast S1x4 (Scalar.ofBits .f32 0xBF800000#32 : Ideal .f32)))
      broadcasts_S1x4_S64x4 (ix2 r k) : EReal) = if k.val < 2 then ((1 : ℝ) : EReal) else ((-1 : ℝ) : EReal) := by
  refine (broadcastTo_apply _ _ _ (ix2 0 k) (fun a => match a with | ⟨0, _⟩ => rfl | ⟨1, _⟩ => rfl)).trans ?_
  show Scalar.select (IntOp.cmpi .slt (iota .tc S1x4 32 [1] iota_S1x4_d1_w32 (ix2 0 k)) (BitVec.ofNat 32 2))
    (Ideal.ofBits .f32 0x3F800000#32) (Ideal.ofBits .f32 0xBF800000#32) = _
  rw [iota_single_apply, w_one, w_neg]
  exact select_iff (slt_iff k.val 2 (by omega) (by omega)) _ _

theorem four_bc (v : FVec Ideal S64x1 .f32) (r : Fin 64) (k : Fin 4) :
    broadcastTo S64x4 v broadcasts_S64x1_S64x4 (ix2 r k) = v (ix2 r 0) :=
  broadcastTo_apply _ _ _ _ fun a => match a with | ⟨0, _⟩ => rfl | ⟨1, _⟩ => rfl

theorem tAux_ltrb (r : Fin 64) (k : Fin 4) :
    tAux v5 x1 p q mt (ValueIdx.ix3 0 r (k.castLE (by omega)))
      = (mt (ValueIdx.ix4 0 0 r ⟨2 + k.val % 2, by omega⟩) - ∑ j : Fin 100, tOne v5 p q mt (ix2 r j) * x1 (ValueIdx.ix3 0 j (k.castLE (by omega))))
          * (if k.val < 2 then ((1 : ℝ) : EReal) else ((-1 : ℝ) : EReal)) * (tPos v5 p q mt (ix2 r 0) * ((1 / 4 : ℝ) : EReal)) := by
  unfold tAux k0_pay175
  refine (lead_cast8 _ r _).trans ?_
  refine (concatenate_apply_piece (t := S64x8) 1 _ _ _ 0 (by show 0 < 5; decide) S64x4 _ rfl rfl 0 rfl (ix2 r k)
      (fun b hb => match b with | ⟨0, _⟩ => rfl | ⟨1, _⟩ => absurd rfl hb) (by show 0 + k.val = k.val; omega)).trans ?_
  rw [mulf_apply, mulf_apply, subf_apply, four_bc, mulf_apply, sgn_apply, ctr_cat, ctr_col]
  rw [show broadcast S64x1 (Scalar.ofBits .f32 0x3E800000#32 : Ideal .f32) (ix2 r 0) = Ideal.ofBits .f32 0x3E800000#32 from rfl, w_quarter]
  exact congrArg (fun z => (mt (ValueIdx.ix4 0 0 r ⟨2 + k.val % 2, by omega⟩) - z) * (if k.val < 2 then ((1 : ℝ) : EReal) else ((-1 : ℝ) : EReal))
    * (tPos v5 p q mt (ix2 r 0) * ((1 / 4 : ℝ) : EReal))) (coords_apply x1 (tOne v5 p q mt) r k)

theorem tAux_cls (r : Fin 64) :
    tAux v5 x1 p q mt (ValueIdx.ix3 0 r 4)
      = ((1 : ℝ) : EReal) - (if tSel v5 p q mt (ix2 r 0) = ((1000 : ℝ) : EReal) then ((1 : ℝ) : EReal) else ((0 : ℝ) : EReal)) := by
  unfold tAux k0_pay175
  refine (lead_cast8 _ r _).trans ?_
  refine (concatenate_apply_piece (t := S64x8) 1 _ _ _ 1 (by show 1 < 5; decide) S64x1 _ rfl rfl 4 rfl (ix2 r 0)
      (fun b hb => match b with | ⟨0, _⟩ => rfl | ⟨1, _⟩ => absurd rfl hb) rfl).trans ?_
  show Ideal.ofBits .f32 0x3F800000#32 - FloatOps.sitofp .f32 ((Ideal.cmp .oeq (tSel v5 p q mt (ix2 r 0)) (Ideal.ofBits .f32 0x447A0000#32)).setWidth 32) = _
  rw [w_one, w_thousand, sitofp_bit (oeq_iff _ _)]

theorem tAux_pos (r : Fin 64) : tAux v5 x1 p q mt (ValueIdx.ix3 0 r 5) = tPos v5 p q mt (ix2 r 0) := by
  unfold tAux k0_pay175
  refine (lead_cast8 _ r _).trans ?_
  exact (concatenate_apply_piece (t := S64x8) 1 _ _ _ 2 (by show 2 < 5; decide) S64x1 _ rfl rfl 5 rfl (ix2 r 0)
      (fun b hb => match b with | ⟨0, _⟩ => rfl | ⟨1, _⟩ => absurd rfl hb) rfl)

end Aux

/-! ## The rows of bounds -/

section Rows
variable (u0 : Vec Ideal S1x6x100 .f32) (u1 : Vec Ideal S1x100x5 .f32)

theorem five (l : ℕ) : l = 0 ∨ l = 1 ∨ l = 2 ∨ l = 3 ∨ ∃ n, l = n + 4 := by
  by_cases h : l < 4
  · omega
  · exact .inr (.inr (.inr (.inr ⟨l - 4, by omega⟩)))
theorem w_inv (l : ℕ) : Ideal.ofBits .f32 (invW l) = ((Spec.inv l : ℝ) : EReal) := by
  obtain rfl | rfl | rfl | rfl | ⟨n, rfl⟩ := five l
  · exact (ofBits_norm (0x3E000000#32) 124 0 (by decide) (by omega) (by omega) (by omega)).trans (by congr 1; show _ = (1 : ℝ) / (8 : ℕ); norm_num)
  · exact (ofBits_norm (0x3D800000#32) 123 0 (by decide) (by omega) (by omega) (by omega)).trans (by congr 1; show _ = (1 : ℝ) / (16 : ℕ); norm_num)
  · exact (ofBits_norm (0x3D000000#32) 122 0 (by decide) (by omega) (by omega) (by omega)).trans (by congr 1; show _ = (1 : ℝ) / (32 : ℕ); norm_num)
  · exact (ofBits_norm (0x3C800000#32) 121 0 (by decide) (by omega) (by omega) (by omega)).trans (by congr 1; show _ = (1 : ℝ) / (64 : ℕ); norm_num)
  · exact (ofBits_norm (0x3C000000#32) 120 0 (by decide) (by omega) (by omega) (by omega)).trans (by congr 1; show _ = (1 : ℝ) / (128 : ℕ); norm_num)
theorem w_cap (l : ℕ) : Ideal.ofBits .f32 (capW l) = ((side l : ℝ) : EReal) := by
  obtain rfl | rfl | rfl | rfl | ⟨n, rfl⟩ := five l
  all_goals first
    | exact ofBits_of_isNat _ _ (by decide)
    | exact ofBits_of_isNat _ _ (show isNat 0x41000000#32 8 = true by decide)
    | exact ofBits_of_isNat _ _ (show isNat 0x40E00000#32 7 = true by decide)
theorem w_capm (l : ℕ) : Ideal.ofBits .f32 (capmW l) = (((side l - 1 : ℕ) : ℝ) : EReal) := by
  obtain rfl | rfl | rfl | rfl | ⟨n, rfl⟩ := five l
  all_goals first
    | exact ofBits_of_isNat _ _ (by decide)
    | exact ofBits_of_isNat _ _ (show isNat 0x41000000#32 8 = true by decide)
    | exact ofBits_of_isNat _ _ (show isNat 0x40E00000#32 7 = true by decide)
theorem w_lid (l : ℕ) (h : l ≤ 4) : Ideal.ofBits .f32 (lidW l) = ((l : ℝ) : EReal) :=
  ofBits_of_isNat _ _ (by obtain rfl | rfl | rfl | rfl | rfl : l = 0 ∨ l = 1 ∨ l = 2 ∨ l = 3 ∨ l = 4 := by omega
                          all_goals decide)
theorem w_scl (s : ℕ) : Ideal.ofBits .f32 (sclW s) = ((scl s : ℝ) : EReal) := by
  cases s with
  | zero => exact w_fifth
  | succ n => exact w_half

theorem rLo_apply (s l : ℕ) (a b : FVec Ideal S1x100 .f32) (y : S1x100.Idx) : rLo s l a b y = lo s l (a y) (b y) := by
  show min (Ideal.ofBits .f32 (capmW l)) (max (Ideal.ofBits .f32 0x00000000#32) (Ideal.liftRound Int.floor
    ((a y * Ideal.ofBits .f32 (invW l) + b y * Ideal.ofBits .f32 (invW l)) * Ideal.ofBits .f32 0x3F000000#32
      - (b y * Ideal.ofBits .f32 (invW l) - a y * Ideal.ofBits .f32 (invW l)) * Ideal.ofBits .f32 (sclW s) * Ideal.ofBits .f32 0x3F000000#32))) = _
  rw [w_capm, w_inv, w_half, w_scl, w_zero, ← Nat.cast_zero (R := ℝ)]
  rfl
theorem rHi_apply (s l : ℕ) (a b : FVec Ideal S1x100 .f32) (y : S1x100.Idx) : rHi s l a b y = Spec.hi s l (a y) (b y) := by
  show max (min (Ideal.ofBits .f32 (capW l)) (max (Ideal.ofBits .f32 0x3F800000#32) (Ideal.liftRound Int.ceil
    ((a y * Ideal.ofBits .f32 (invW l) + b y * Ideal.ofBits .f32 (invW l)) * Ideal.ofBits .f32 0x3F000000#32
      + (b y * Ideal.ofBits .f32 (invW l) - a y * Ideal.ofBits .f32 (invW l)) * Ideal.ofBits .f32 (sclW s) * Ideal.ofBits .f32 0x3F000000#32))))
      (rLo s l a b y + Ideal.ofBits .f32 0x3F800000#32) = _
  rw [rLo_apply, w_cap, w_inv, w_half, w_scl, w_one, EReal.coe_one]
  unfold Spec.hi hiF
  rw [Nat.cast_one, EReal.coe_one]
  rfl

theorem u0_row (o : ℕ) (ho : o < 6) (h : S6x100.Slices ![o, 0] S1x100) (j : Fin 100) :
    extractStridedSlice S1x100 ![o, 0] (k0_pay3 u0) h (ix2 0 j) = u0 (ValueIdx.ix3 0 ⟨o, ho⟩ j) := by
  rw [extractStridedSlice_apply _ _ _ _ (ix2 ⟨o, ho⟩ j) (fun a => match a with
    | ⟨0, _⟩ => by show o = o + 0; omega | ⟨1, _⟩ => by show j.val = 0 + j.val; omega)]
  exact shapeCast_apply _ _ _ _ (by
    rw [Shape.rowMajor_val_two, Shape.rowMajor_val_three]
    show (0 * 6 + o) * 100 + j.val = o * 100 + j.val; omega)

theorem u1_col (o : ℕ) (ho : o < 5) (h : S100x5.Slices ![0, o] S100x1) (i : Fin 100) :
    extractStridedSlice S100x1 ![0, o] (k0_pay9 u1) h (ix2 i 0) = u1 (ValueIdx.ix3 0 i ⟨o, ho⟩) := by
  rw [extractStridedSlice_apply _ _ _ _ (ix2 i ⟨o, ho⟩) (fun a => match a with
    | ⟨0, _⟩ => by show i.val = 0 + i.val; omega | ⟨1, _⟩ => by show o = o + 0; omega)]
  exact shapeCast_apply _ _ _ _ (by
    rw [Shape.rowMajor_val_two, Shape.rowMajor_val_three]
    show (0 * 100 + i.val) * 5 + o = i.val * 5 + o; omega)

/-- What four rows at a level's offset hold. -/
theorem bnd_rows (s w : ℕ) (hs : s < 2) (hw : w ≤ 4) (k : Fin 4) (j : Fin 100) :
    rowsB (BND u0 u1) (w * 4 + 20 * s) (ix2 k j) = bndRow u0 s w k.val (ix2 0 j) := by
  have hk := k.isLt
  have e : min (w * 4 + 20 * s + k.val) 47 = w * 4 + 20 * s + k.val := by omega
  have row : ∀ (m : ℕ) (hm : m < 48), m ≠ 40 → BND u0 u1 (ix2 ⟨m, hm⟩ j) = bndRow u0 (m / 20) (m % 20 / 4) (m % 4) (ix2 0 j) :=
    fun m hm h => if_neg h
  have e2 : (⟨min (w * 4 + 20 * s + k.val) 47, by omega⟩ : Fin 48) = ⟨w * 4 + 20 * s + k.val, by omega⟩ := Fin.ext e
  refine (congrArg (fun z => BND u0 u1 (ix2 z j)) e2).trans ((row _ _ (by omega)).trans ?_)
  rw [show (w * 4 + 20 * s + k.val) / 20 = s by omega, show (w * 4 + 20 * s + k.val) % 20 / 4 = w by omega,
    show (w * 4 + 20 * s + k.val) % 4 = k.val by omega]

theorem bnd_rank (j : Fin 100) : rankOf (BND u0 u1) (ix2 0 j) = k0_pay10 u0 u1 (ix2 0 j) := rfl

theorem bndRow_0 (s l : ℕ) (hl : l ≤ 4) (j : Fin 100) : bndRow u0 s l 0 (ix2 0 j)
    = if u0 (ValueIdx.ix3 0 5 j) = ((l : ℝ) : EReal) then lo s l (u0 (ValueIdx.ix3 0 0 j)) (u0 (ValueIdx.ix3 0 2 j)) else ((1000000000 : ℝ) : EReal) := by
  refine (congrFun (shapeCast_self (select (cmpf .oeq (k0_pay8 u0) (broadcast S1x100 (Scalar.ofBits .f32 (lidW l) : Ideal .f32)))
    (rLo s l (k0_pay4 u0) (k0_pay6 u0)) (broadcast S1x100 (Scalar.ofBits .f32 0x4E6E6B28#32 : Ideal .f32))) shapeCasts_S1x100_S1x100) (ix2 0 j)).trans ?_
  show Scalar.select (Ideal.cmp .oeq (k0_pay8 u0 (ix2 0 j)) (Ideal.ofBits .f32 (lidW l))) (rLo s l (k0_pay4 u0) (k0_pay6 u0) (ix2 0 j))
    (Ideal.ofBits .f32 0x4E6E6B28#32) = _
  rw [select_iff (oeq_iff _ _), w_lid l hl, w_1e9, rLo_apply, show k0_pay8 u0 (ix2 0 j) = _ from u0_row u0 5 (by omega) slices_S6x100_o5_0_S1x100 j,
    show k0_pay4 u0 (ix2 0 j) = _ from u0_row u0 0 (by omega) slices_S6x100_o0_0_S1x100 j, show k0_pay6 u0 (ix2 0 j) = _ from u0_row u0 2 (by omega) slices_S6x100_o2_0_S1x100 j]
  rfl
theorem bndRow_1 (s l : ℕ) (j : Fin 100) : bndRow u0 s l 1 (ix2 0 j) = lo s l (u0 (ValueIdx.ix3 0 1 j)) (u0 (ValueIdx.ix3 0 3 j)) := by
  refine (congrFun (shapeCast_self (rLo s l (k0_pay5 u0) (k0_pay7 u0)) shapeCasts_S1x100_S1x100) (ix2 0 j)).trans ?_
  rw [rLo_apply, show k0_pay5 u0 (ix2 0 j) = _ from u0_row u0 1 (by omega) slices_S6x100_o1_0_S1x100 j,
    show k0_pay7 u0 (ix2 0 j) = _ from u0_row u0 3 (by omega) slices_S6x100_o3_0_S1x100 j]
  rfl
theorem bndRow_2 (s l : ℕ) (j : Fin 100) : bndRow u0 s l 2 (ix2 0 j) = Spec.hi s l (u0 (ValueIdx.ix3 0 0 j)) (u0 (ValueIdx.ix3 0 2 j)) := by
  refine (congrFun (shapeCast_self (rHi s l (k0_pay4 u0) (k0_pay6 u0)) shapeCasts_S1x100_S1x100) (ix2 0 j)).trans ?_
  rw [rHi_apply, show k0_pay4 u0 (ix2 0 j) = _ from u0_row u0 0 (by omega) slices_S6x100_o0_0_S1x100 j,
    show k0_pay6 u0 (ix2 0 j) = _ from u0_row u0 2 (by omega) slices_S6x100_o2_0_S1x100 j]
  rfl
theorem bndRow_3 (s l : ℕ) (j : Fin 100) : bndRow u0 s l 3 (ix2 0 j) = Spec.hi s l (u0 (ValueIdx.ix3 0 1 j)) (u0 (ValueIdx.ix3 0 3 j)) := by
  refine (congrFun (shapeCast_self (rHi s l (k0_pay5 u0) (k0_pay7 u0)) shapeCasts_S1x100_S1x100) (ix2 0 j)).trans ?_
  rw [rHi_apply, show k0_pay5 u0 (ix2 0 j) = _ from u0_row u0 1 (by omega) slices_S6x100_o1_0_S1x100 j,
    show k0_pay7 u0 (ix2 0 j) = _ from u0_row u0 3 (by omega) slices_S6x100_o3_0_S1x100 j]
  rfl

/-! ## Ranks and labels -/

/-- A box's area. -/
def area1 (i : Fin 100) : EReal :=
  (u1 (ValueIdx.ix3 0 i 2) - u1 (ValueIdx.ix3 0 i 0)) * (u1 (ValueIdx.ix3 0 i 3) - u1 (ValueIdx.ix3 0 i 1))

theorem sq_col (v : FVec Ideal S100x1 .f32) (i j : Fin 100) : broadcastTo S100x100 v broadcasts_S100x1_S100x100 (ix2 i j) = v (ix2 i 0) :=
  broadcastTo_apply _ _ _ _ fun a => match a with | ⟨0, _⟩ => rfl | ⟨1, _⟩ => rfl
theorem sq_row (v : FVec Ideal S1x100 .f32) (i j : Fin 100) : broadcastTo S100x100 v broadcasts_S1x100_S100x100 (ix2 i j) = v (ix2 0 j) :=
  broadcastTo_apply _ _ _ _ fun a => match a with | ⟨0, _⟩ => rfl | ⟨1, _⟩ => rfl

/-- A sum down the columns. -/
theorem sum_red (src : FVec Ideal S100x100 .f32) (j : Fin 100) :
    multiReduction .add [0] S100 src 0x00000000#32 reduces_S100x100_S100 (.inl rfl) rfl (ix1 j) = ∑ i : Fin 100, src (ix2 i j) := by
  refine (Ideal.multiReduction_add_single src _ _ _ _ _).trans ?_
  exact Finset.sum_congr rfl fun i _ => congrArg src (funext fun a => match a with | ⟨0, _⟩ => rfl | ⟨1, _⟩ => rfl)

theorem row_cast (v : FVec Ideal S100 .f32) (j : Fin 100) : shapeCast S1x100 v shapeCasts_S100_S1x100 (ix2 0 j) = v (ix1 j) :=
  shapeCast_apply _ _ _ _ (by rw [Shape.rowMajor_val_one, Shape.rowMajor_val_two]; show j.val = 0 * 100 + j.val; omega)

theorem pay10_apply (hu : ∀ (k : Fin 4) (j : Fin 100), u0 (ValueIdx.ix3 0 (k.castLE (by omega)) j) = u1 (ValueIdx.ix3 0 j (k.castLE (by omega))))
    (j : Fin 100) : k0_pay10 u0 u1 (ix2 0 j) = ((rk (area1 u1) j : ℝ) : EReal) := by
  classical
  have hcol : ∀ i : Fin 100, mulf (subf (extractStridedSlice S100x1 ![0, 2] (k0_pay9 u1) slices_S100x5_o0_2_S100x1) (extractStridedSlice S100x1 ![0, 0] (k0_pay9 u1) slices_S100x5_o0_0_S100x1))
      (subf (extractStridedSlice S100x1 ![0, 3] (k0_pay9 u1) slices_S100x5_o0_3_S100x1) (extractStridedSlice S100x1 ![0, 1] (k0_pay9 u1) slices_S100x5_o0_1_S100x1)) (ix2 i 0)
      = area1 u1 i := fun i => by
    rw [mulf_apply, subf_apply, subf_apply, u1_col u1 2 (by omega), u1_col u1 0 (by omega), u1_col u1 3 (by omega), u1_col u1 1 (by omega)]
    rfl
  have hrow : mulf (subf (k0_pay6 u0) (k0_pay4 u0)) (subf (k0_pay7 u0) (k0_pay5 u0)) (ix2 0 j) = area1 u1 j := by
    rw [mulf_apply, subf_apply, subf_apply, show k0_pay4 u0 (ix2 0 j) = _ from u0_row u0 0 (by omega) slices_S6x100_o0_0_S1x100 j, show k0_pay6 u0 (ix2 0 j) = _ from u0_row u0 2 (by omega) slices_S6x100_o2_0_S1x100 j,
      show k0_pay5 u0 (ix2 0 j) = _ from u0_row u0 1 (by omega) slices_S6x100_o1_0_S1x100 j, show k0_pay7 u0 (ix2 0 j) = _ from u0_row u0 3 (by omega) slices_S6x100_o3_0_S1x100 j]
    have h0 := hu 0 j
    have h1 := hu 1 j
    have h2 := hu 2 j
    have h3 := hu 3 j
    unfold area1
    exact congrArg₂ (· * ·) (congrArg₂ (· - ·) h2 h0) (congrArg₂ (· - ·) h3 h1)
  unfold k0_pay10
  rw [shapeCast_self]
  refine (row_cast _ j).trans ((sum_red _ j).trans ?_)
  have hterm : ∀ i : Fin 100, ((sitofp .f32 (extui 32 (ori (cmpf .olt
        (broadcastTo S100x100 (mulf (subf (extractStridedSlice S100x1 ![0, 2] (k0_pay9 u1) slices_S100x5_o0_2_S100x1) (extractStridedSlice S100x1 ![0, 0] (k0_pay9 u1) slices_S100x5_o0_0_S100x1))
          (subf (extractStridedSlice S100x1 ![0, 3] (k0_pay9 u1) slices_S100x5_o0_3_S100x1) (extractStridedSlice S100x1 ![0, 1] (k0_pay9 u1) slices_S100x5_o0_1_S100x1))) broadcasts_S100x1_S100x100)
        (broadcastTo S100x100 (mulf (subf (k0_pay6 u0) (k0_pay4 u0)) (subf (k0_pay7 u0) (k0_pay5 u0))) broadcasts_S1x100_S100x100))
      (andi (cmpf .oeq
        (broadcastTo S100x100 (mulf (subf (extractStridedSlice S100x1 ![0, 2] (k0_pay9 u1) slices_S100x5_o0_2_S100x1) (extractStridedSlice S100x1 ![0, 0] (k0_pay9 u1) slices_S100x5_o0_0_S100x1))
          (subf (extractStridedSlice S100x1 ![0, 3] (k0_pay9 u1) slices_S100x5_o0_3_S100x1) (extractStridedSlice S100x1 ![0, 1] (k0_pay9 u1) slices_S100x5_o0_1_S100x1))) broadcasts_S100x1_S100x100)
        (broadcastTo S100x100 (mulf (subf (k0_pay6 u0) (k0_pay4 u0)) (subf (k0_pay7 u0) (k0_pay5 u0))) broadcasts_S1x100_S100x100))
        (cmpi .slt (iota .tc S100x100 32 [0] iota_S100x100_d0_w32) (iota .tc S100x100 32 [1] iota_S100x100_d1_w32)))) natLt_1_32) : FVec Ideal S100x100 .f32)) (ix2 i j)
      = if Before (area1 u1) i j then ((1 : ℝ) : EReal) else ((0 : ℝ) : EReal) := fun i => by
    refine sitofp_bit ?_
    show IntOp.ori (Ideal.cmp .olt (broadcastTo S100x100 _ broadcasts_S100x1_S100x100 (ix2 i j)) (broadcastTo S100x100 _ broadcasts_S1x100_S100x100 (ix2 i j)))
      (IntOp.andi (Ideal.cmp .oeq (broadcastTo S100x100 _ broadcasts_S100x1_S100x100 (ix2 i j)) (broadcastTo S100x100 _ broadcasts_S1x100_S100x100 (ix2 i j)))
        (IntOp.cmpi .slt (iota .tc S100x100 32 [0] iota_S100x100_d0_w32 (ix2 i j)) (iota .tc S100x100 32 [1] iota_S100x100_d1_w32 (ix2 i j)))) = _ ↔ _
    rw [or_iff, and_iff, olt_iff, oeq_iff, sq_col, sq_row, hcol, hrow, iota_single_apply, iota_single_apply]
    have := slt_iff i.val j.val (by omega) (by omega)
    exact or_congr Iff.rfl (and_congr Iff.rfl this)
  refine (Finset.sum_congr rfl fun i _ => hterm i).trans ?_
  unfold rk
  rw [Finset.card_filter]
  induction (Finset.univ : Finset (Fin 100)) using Finset.induction_on with
  | empty => simp
  | insert a s ha ih =>
    rw [Finset.sum_insert ha, Finset.sum_insert ha, ih]
    push_cast
    split <;> simp

/-- The label table: one where a box has the class. -/
theorem pay11_apply (j : Fin 100) (k : Fin 80) :
    k0_pay11 u1 (ix2 j k) = if ((k.val : ℝ) : EReal) = u1 (ValueIdx.ix3 0 j 4) then ((1 : ℝ) : EReal) else ((0 : ℝ) : EReal) := by
  unfold k0_pay11
  rw [shapeCast_self]
  refine (sitofp_bit (oeq_iff _ _)).trans ?_
  have h1 : (sitofp .f32 (iota .tc S100x80 32 [1] iota_S100x80_d1_w32) : FVec Ideal S100x80 .f32) (ix2 j k) = ((k.val : ℝ) : EReal) := by
    rw [sitofp_apply, iota_single_apply]
    exact sitofp_small k.val (by omega)
  have h2 : broadcastTo S100x80 (extractStridedSlice S100x1 ![0, 4] (k0_pay9 u1) slices_S100x5_o0_4_S100x1) broadcasts_S100x1_S100x80 (ix2 j k)
      = u1 (ValueIdx.ix3 0 j 4) :=
    (broadcastTo_apply _ _ _ (ix2 j 0) fun a => match a with | ⟨0, _⟩ => rfl | ⟨1, _⟩ => rfl).trans (u1_col u1 4 (by omega) _ j)
  rw [h1, h2]

end Rows

end Cert.KernelIdeal.Hand

end
-- ==== Proof.RInt.lean ====
/- The locations as the reference counts them: level, side, stride, column and row of a location's number. -/
module

public import proofs.«01_k».proof.Proof.Gen.ReferenceIdeal.Read
public import proofs.«01_k».proof.Proof.Tables
public import proofs.«01_k».proof.Proof.Words

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe
open Cert.Words Cert.Tables

theorem lvl_le (n : ℕ) : lvl n ≤ 4 := by unfold lvl; split_ifs <;> omega
theorem fst_le (n : ℕ) : fst (lvl n) ≤ n := by unfold lvl; split_ifs <;> simp only [fst] <;> omega

theorem sge_word (c n : ℕ) (hc : c < 2 ^ 31) (hn : n < 2 ^ 31) :
    (IntOp.cmpi .sge (BitVec.ofNat 32 n) (BitVec.ofNat 32 c)).setWidth 32 = if c ≤ n then 1#32 else 0#32 := by
  have h := sge_iff n c hn hc
  generalize IntOp.cmpi .sge (BitVec.ofNat 32 n) (BitVec.ofNat 32 c) = v at *
  by_cases hk : c ≤ n
  · rw [if_pos hk, h.2 hk]; decide
  · rw [if_neg hk]
    have : v ≠ 1#1 := fun e => hk (h.1 e)
    clear h; revert this; revert v; decide

theorem msb_small (n : ℕ) (hn : n < 2 ^ 31) : (BitVec.ofNat 32 n).msb = false := by
  rw [BitVec.msb_eq_false_iff_two_mul_lt, BitVec.toNat_ofNat]; omega

theorem nocorner (a s : ℕ) (hs : 0 < s) (hs' : s < 2 ^ 31) : ¬ IntOp.SDivCorner (BitVec.ofNat 32 a) (BitVec.ofNat 32 s) := by
  rintro (h | ⟨-, h⟩)
  · have := congrArg BitVec.toNat h
    simp at this; omega
  · have := congrArg BitVec.toNat h
    simp at this; omega

theorem rem_small (a s : ℕ) (ha : a < 2 ^ 31) (hs : 0 < s) (hs' : s < 2 ^ 31) :
    IntOp.remsi .host (BitVec.ofNat 32 a) (BitVec.ofNat 32 s) = BitVec.ofNat 32 (a % s) := by
  unfold IntOp.remsi
  rw [if_neg (nocorner a s hs hs'), BitVec.srem_eq, msb_small a ha, msb_small s hs']
  apply BitVec.eq_of_toNat_eq
  have : a % s < s := Nat.mod_lt _ hs
  simp only [BitVec.toNat_umod, BitVec.toNat_ofNat]
  rw [Nat.mod_eq_of_lt (a := a) (by omega), Nat.mod_eq_of_lt (a := s) (by omega), Nat.mod_eq_of_lt (a := a % s) (by omega)]

theorem div_small (a s : ℕ) (ha : a < 2 ^ 31) (hs : 0 < s) (hs' : s < 2 ^ 31) :
    IntOp.divsi .host (BitVec.ofNat 32 a) (BitVec.ofNat 32 s) = BitVec.ofNat 32 (a / s) := by
  unfold IntOp.divsi
  rw [if_neg (nocorner a s hs hs'), BitVec.sdiv_eq, msb_small a ha, msb_small s hs']
  apply BitVec.eq_of_toNat_eq
  have : a / s ≤ a := Nat.div_le_self _ _
  simp only [BitVec.udiv_eq, BitVec.toNat_udiv, BitVec.toNat_ofNat]
  rw [Nat.mod_eq_of_lt (a := a) (by omega), Nat.mod_eq_of_lt (a := s) (by omega), Nat.mod_eq_of_lt (a := a / s) (by omega)]

theorem sub_small (a b : ℕ) (ha : a < 2 ^ 31) (hb : b ≤ a) :
    IntOp.subi (BitVec.ofNat 32 a) (BitVec.ofNat 32 b) = BitVec.ofNat 32 (a - b) := by
  show BitVec.ofNat 32 a - BitVec.ofNat 32 b = _
  apply BitVec.eq_of_toNat_eq
  simp only [BitVec.toNat_sub, BitVec.toNat_ofNat]
  omega

/-- The level of a location. -/
theorem v27 (i : S21824.Idx) : val_main_v27 (F := Ideal) i = BitVec.ofNat 32 (lvl (i 0).val) := by
  have hn : (i 0).val < 21824 := (i 0).isLt
  simp only [val_main_v27_apply, val_main_v20_apply, val_main_v13_apply, val_main_v6_apply, val_main_v1_apply, val_main_c_apply,
    val_main_v5_apply, val_main_v4_apply, val_main_v3_apply, val_main_c_1_apply, val_main_v12_apply, val_main_v11_apply, val_main_v10_apply,
    val_main_c_3_apply, val_main_v19_apply, val_main_v18_apply, val_main_v17_apply, val_main_c_5_apply, val_main_v26_apply, val_main_v25_apply,
    val_main_v24_apply, val_main_c_7_apply, val_main_v0_apply]
  generalize (i 0).val = n at *
  rw [sge_word _ _ (by omega) (by omega), sge_word _ _ (by omega) (by omega), sge_word _ _ (by omega) (by omega), sge_word _ _ (by omega) (by omega)]
  unfold lvl
  split_ifs <;> first | omega | decide

/-- The number of the first location of its level. -/
theorem v30 (i : S21824.Idx) : val_main_v30 (F := Ideal) i = BitVec.ofNat 32 (fst (lvl (i 0).val)) := by
  have hn : (i 0).val < 21824 := (i 0).isLt
  simp only [val_main_v30_apply, val_main_v23_apply, val_main_v16_apply, val_main_v9_apply, val_main_v2_apply, val_main_c_0_apply,
    val_main_v8_apply, val_main_v7_apply, val_main_c_2_apply, val_main_v15_apply, val_main_v14_apply, val_main_c_4_apply,
    val_main_v22_apply, val_main_v21_apply, val_main_c_6_apply, val_main_v29_apply, val_main_v28_apply, val_main_c_8_apply,
    val_main_v5_apply, val_main_v4_apply, val_main_v3_apply, val_main_c_1_apply, val_main_v12_apply, val_main_v11_apply, val_main_v10_apply,
    val_main_c_3_apply, val_main_v19_apply, val_main_v18_apply, val_main_v17_apply, val_main_c_5_apply, val_main_v26_apply, val_main_v25_apply,
    val_main_v24_apply, val_main_c_7_apply, val_main_v0_apply]
  generalize (i 0).val = n at *
  rw [sge_word _ _ (by omega) (by omega), sge_word _ _ (by omega) (by omega), sge_word _ _ (by omega) (by omega), sge_word _ _ (by omega) (by omega)]
  unfold lvl
  split_ifs <;> first | omega | decide

/-- The side of its level. -/
theorem v32 (i : S21824.Idx) : val_main_v32 (F := Ideal) i = BitVec.ofNat 32 (side (lvl (i 0).val)) := by
  rw [val_main_v32_apply, v27, val_main_v31_apply, val_main_c_9_apply]
  have h := lvl_le (i 0).val
  generalize lvl (i 0).val = d at *
  interval_cases d <;> decide

/-- The stride of its level. -/
theorem v34 (i : S21824.Idx) : val_main_v34 (F := Ideal) i = BitVec.ofNat 32 (strd (lvl (i 0).val)) := by
  rw [val_main_v34_apply, v27, val_main_v33_apply, val_main_c_10_apply]
  have h := lvl_le (i 0).val
  generalize lvl (i 0).val = d at *
  interval_cases d <;> decide

theorem side_bds (d : ℕ) : 0 < side d ∧ side d ≤ 128 := by unfold side; split <;> omega
theorem strd_bds (d : ℕ) : 0 < strd d ∧ strd d ≤ 128 := by unfold strd; split <;> omega

/-- Its column. -/
theorem v37 (i : S21824.Idx) : val_main_v37 (F := Ideal) i = BitVec.ofNat 32 (xs (i 0).val) := by
  have hn : (i 0).val < 21824 := (i 0).isLt
  have h1 := fst_le (i 0).val
  have h2 := side_bds (lvl (i 0).val)
  rw [val_main_v37_apply, val_main_v36_apply, v30, v32, val_main_v0_apply, sub_small _ _ (by omega) h1,
    rem_small _ _ (by omega) (by omega) (by omega)]
  rfl

/-- Its row. -/
theorem v39 (i : S21824.Idx) : val_main_v39 (F := Ideal) i = BitVec.ofNat 32 (ys (i 0).val) := by
  have hn : (i 0).val < 21824 := (i 0).isLt
  have h1 := fst_le (i 0).val
  have h2 := side_bds (lvl (i 0).val)
  rw [val_main_v39_apply, val_main_v38_apply, v30, v32, val_main_v0_apply, sub_small _ _ (by omega) h1,
    div_small _ _ (by omega) (by omega) (by omega)]
  rfl

theorem xs_lt (n : ℕ) : xs n < 128 := by
  have h2 := side_bds (lvl n)
  have : xs n < side (lvl n) := Nat.mod_lt _ h2.1
  omega
theorem ys_lt (n : ℕ) (hn : n < 21824) : ys n < 21824 := by
  have : ys n ≤ n - fst (lvl n) := Nat.div_le_self _ _
  omega

end Cert.ReferenceIdeal.Hand

end
-- ==== Proof.RCell.lean ====
/- When the reference puts a location inside a box's scaled regions. -/
module

public import proofs.«01_k».proof.Proof.RInt
public import proofs.«01_k».proof.Proof.Spec

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.ShloMosaic.ValueIdx
open Cert.Words Cert.Tables Cert.Spec

variable (x0 : (⟨S8x100, .i32⟩ : BufTy).Contents (Elt Ideal)) (x1 : (⟨S8x100x5, .f32⟩ : BufTy).Contents (Elt Ideal))
variable (b : Fin 8) (j : Fin 100) (l : Fin 21824)

/-- A location lies in a box's region of scale `s`. -/
def In (s : ℕ) (l : ℕ) : Prop :=
  x0 (ix2 b j) = BitVec.ofNat 32 (lvl l)
    ∧ Cell s (lvl l) (x1 (ValueIdx.ix3 b j 0)) (x1 (ValueIdx.ix3 b j 2)) ((xs l : ℝ) : EReal)
    ∧ Cell s (lvl l) (x1 (ValueIdx.ix3 b j 1)) (x1 (ValueIdx.ix3 b j 3)) ((ys l : ℝ) : EReal)

/-! ## The box's corners over the stride -/

theorem corner {c : Fin 5} (k : S8x100x5.Idx) (h0 : (k 0).val = b.val) (h1 : (k 1).val = j.val) (h2 : (k 2).val = c.val) :
    x1 k = x1 (ValueIdx.ix3 b j c) :=
  congrArg x1 (funext fun a => Fin.ext (match a with | ⟨0, _⟩ => h0 | ⟨1, _⟩ => h1 | ⟨2, _⟩ => h2))

theorem v46 : val_main_v46 (F := Ideal) (ValueIdx.ix3 b j l) = ((strd (lvl l.val) : ℝ) : EReal) := by
  rw [val_main_v46_apply, val_main_v44_apply, val_main_v35_apply, v34]
  exact sitofp_small _ (by have := strd_bds (lvl l.val); show strd (lvl l.val) < _; omega)
theorem over (x : EReal) (d : ℕ) : Ideal.div x ((strd d : ℝ) : EReal) = x * (Spec.inv d : ℝ) :=
  Ideal.div_coe (by have := strd_bds d; exact_mod_cast (by omega : strd d ≠ 0)) x

theorem v47 : val_main_v47 (F := Ideal) x1 (ValueIdx.ix3 b j l) = x1 (ValueIdx.ix3 b j 0) * (Spec.inv (lvl l.val) : ℝ) := by
  rw [val_main_v47_apply, v46, val_main_v45_apply, val_main_v43_apply, val_main_v42_apply, val_main_v41_apply, val_main_v40_apply]
  refine (over _ _).trans (congrArg (· * _) (corner x1 b j _ ?_ ?_ ?_))
  · show (b.val * 100 + j.val) / 100 = b.val; omega
  · show (b.val * 100 + j.val) / 1 % 100 = j.val; omega
  · rfl
theorem v54 : val_main_v54 (F := Ideal) x1 (ValueIdx.ix3 b j l) = x1 (ValueIdx.ix3 b j 1) * (Spec.inv (lvl l.val) : ℝ) := by
  rw [val_main_v54_apply, show val_main_v53 (F := Ideal) (ValueIdx.ix3 b j l) = _ from v46 b j l, val_main_v52_apply, val_main_v50_apply, val_main_v49_apply, val_main_v48_apply, val_main_v40_apply]
  refine (over _ _).trans (congrArg (· * _) (corner x1 b j _ ?_ ?_ ?_))
  · show (b.val * 100 + j.val) / 100 = b.val; omega
  · show (b.val * 100 + j.val) / 1 % 100 = j.val; omega
  · rfl
theorem v61 : val_main_v61 (F := Ideal) x1 (ValueIdx.ix3 b j l) = x1 (ValueIdx.ix3 b j 2) * (Spec.inv (lvl l.val) : ℝ) := by
  rw [val_main_v61_apply, show val_main_v60 (F := Ideal) (ValueIdx.ix3 b j l) = _ from v46 b j l, val_main_v59_apply, val_main_v57_apply, val_main_v56_apply, val_main_v55_apply, val_main_v40_apply]
  refine (over _ _).trans (congrArg (· * _) (corner x1 b j _ ?_ ?_ ?_))
  · show (b.val * 100 + j.val) / 100 = b.val; omega
  · show (b.val * 100 + j.val) / 1 % 100 = j.val; omega
  · rfl
theorem v68 : val_main_v68 (F := Ideal) x1 (ValueIdx.ix3 b j l) = x1 (ValueIdx.ix3 b j 3) * (Spec.inv (lvl l.val) : ℝ) := by
  rw [val_main_v68_apply, show val_main_v67 (F := Ideal) (ValueIdx.ix3 b j l) = _ from v46 b j l, val_main_v66_apply, val_main_v64_apply, val_main_v63_apply, val_main_v62_apply, val_main_v40_apply]
  refine (over _ _).trans (congrArg (· * _) (corner x1 b j _ ?_ ?_ ?_))
  · show (b.val * 100 + j.val) / 100 = b.val; omega
  · show (b.val * 100 + j.val) / 1 % 100 = j.val; omega
  · rfl

/-! ## The bounds -/

theorem lo_val (s d : ℕ) (u v : EReal) (w : BitVec 32) (hw : Ideal.ofBits .f32 w = ((scl s : ℝ) : EReal)) :
    min (max (Ideal.liftRound Int.floor ((u * (Spec.inv d : ℝ) + v * (Spec.inv d : ℝ)) * Ideal.ofBits .f32 0x3F000000#32
      - (v * (Spec.inv d : ℝ) - u * (Spec.inv d : ℝ)) * Ideal.ofBits .f32 w * Ideal.ofBits .f32 0x3F000000#32)) (Ideal.ofBits .f32 0x00000000#32))
      (FloatOps.sitofp .f32 (IntOp.subi (BitVec.ofNat 32 (side d)) (BitVec.ofNat 32 1)) : Ideal .f32) = lo s d u v := by
  have := side_bds d
  rw [sub_small _ _ (by omega) (by omega), sitofp_small _ (by omega), hw, w_half, w_zero, min_comm, max_comm, ← Nat.cast_zero (R := ℝ)]
  rfl
theorem hi_val (s d : ℕ) (u v : EReal) (w : BitVec 32) (hw : Ideal.ofBits .f32 w = ((scl s : ℝ) : EReal)) :
    min (max (Ideal.liftRound Int.ceil ((u * (Spec.inv d : ℝ) + v * (Spec.inv d : ℝ)) * Ideal.ofBits .f32 0x3F000000#32
      + (v * (Spec.inv d : ℝ) - u * (Spec.inv d : ℝ)) * Ideal.ofBits .f32 w * Ideal.ofBits .f32 0x3F000000#32)) (Ideal.ofBits .f32 0x3F800000#32))
      (FloatOps.sitofp .f32 (BitVec.ofNat 32 (side d)) : Ideal .f32) = hiF s d u v := by
  have := side_bds d
  rw [sitofp_small _ (by omega), hw, w_half, w_one, min_comm, max_comm]
  unfold hiF ctr half
  rw [Nat.cast_one]

theorem ge_lo (s d : ℕ) (u v : EReal) (x : ℕ) (hx : x < 2 ^ 31) :
    IntOp.cmpi .sge (BitVec.ofNat 32 x) (Ideal.fptosi 32 (lo s d u v)) = 1#1 ↔ lo s d u v ≤ ((x : ℝ) : EReal) := by
  obtain ⟨n, hn, e⟩ := lo_nat s d u v
  have := side_bds d
  rw [e, fptosi_small _ (by omega), sge_iff _ _ hx (by omega), EReal.coe_le_coe_iff, Nat.cast_le]
theorem lt_hi (s d : ℕ) (u v : EReal) (x : ℕ) (hx : x < 2 ^ 31) :
    IntOp.cmpi .slt (BitVec.ofNat 32 x) (IntOp.maxsi (Ideal.fptosi 32 (hiF s d u v)) (IntOp.addi (Ideal.fptosi 32 (lo s d u v)) (BitVec.ofNat 32 1))) = 1#1
      ↔ ((x : ℝ) : EReal) < Spec.hi s d u v := by
  obtain ⟨n, hn, e⟩ := lo_nat s d u v
  obtain ⟨k, hk, e'⟩ := hiF_nat s d u v
  have := side_bds d
  have hadd : IntOp.addi (BitVec.ofNat 32 n) (BitVec.ofNat 32 1) = BitVec.ofNat 32 (n + 1) := (BitVec.ofNat_add _ _).symm
  have hhi : Spec.hi s d u v = ((max k (n + 1) : ℕ) : ℝ) := by
    unfold Spec.hi
    rw [e, e', ← EReal.coe_one, ← EReal.coe_add, ← coe_max]
    push_cast; rfl
  rw [hhi, e, e', fptosi_small _ (by omega), fptosi_small _ (by omega), hadd, maxsi_small _ _ (by omega) (by omega), slt_iff _ _ hx (by omega),
    EReal.coe_lt_coe_iff, Nat.cast_lt]

theorem v100 : val_main_v100 (F := Ideal) x1 (ValueIdx.ix3 b j l) = lo 1 (lvl l.val) (x1 (ValueIdx.ix3 b j 0)) (x1 (ValueIdx.ix3 b j 2)) := by
  rw [val_main_v100_apply, val_main_v98_apply, val_main_v96_apply, val_main_v95_apply, val_main_v81_apply, val_main_v79_apply, val_main_v89_apply,
    val_main_v87_apply, val_main_v85_apply, v47, v61, val_main_v99_apply, val_main_v78_apply, val_main_v77_apply, val_main_v74_apply, v32]
  exact lo_val 1 (lvl l.val) _ _ 0x3F000000#32 w_half
theorem v107 : val_main_v107 (F := Ideal) x1 (ValueIdx.ix3 b j l) = lo 1 (lvl l.val) (x1 (ValueIdx.ix3 b j 1)) (x1 (ValueIdx.ix3 b j 3)) := by
  rw [val_main_v107_apply, val_main_v105_apply, val_main_v103_apply, val_main_v102_apply, val_main_v84_apply, val_main_v82_apply, val_main_v94_apply,
    val_main_v92_apply, val_main_v90_apply, v54, v68, val_main_v106_apply, val_main_v78_apply, val_main_v77_apply, val_main_v74_apply, v32]
  exact lo_val 1 (lvl l.val) _ _ 0x3F000000#32 w_half
theorem v114 : val_main_v114 (F := Ideal) x1 (ValueIdx.ix3 b j l) = hiF 1 (lvl l.val) (x1 (ValueIdx.ix3 b j 0)) (x1 (ValueIdx.ix3 b j 2)) := by
  rw [val_main_v114_apply, val_main_v112_apply, val_main_v110_apply, val_main_v109_apply, val_main_v81_apply, val_main_v79_apply, val_main_v89_apply,
    val_main_v87_apply, val_main_v85_apply, v47, v61, val_main_v113_apply, val_main_v75_apply, val_main_v74_apply, v32]
  exact hi_val 1 (lvl l.val) _ _ 0x3F000000#32 w_half
theorem v121 : val_main_v121 (F := Ideal) x1 (ValueIdx.ix3 b j l) = hiF 1 (lvl l.val) (x1 (ValueIdx.ix3 b j 1)) (x1 (ValueIdx.ix3 b j 3)) := by
  rw [val_main_v121_apply, val_main_v119_apply, val_main_v117_apply, val_main_v116_apply, val_main_v84_apply, val_main_v82_apply, val_main_v94_apply,
    val_main_v92_apply, val_main_v90_apply, v54, v68, val_main_v120_apply, val_main_v75_apply, val_main_v74_apply, v32]
  exact hi_val 1 (lvl l.val) _ _ 0x3F000000#32 w_half
theorem v171 : val_main_v171 (F := Ideal) x1 (ValueIdx.ix3 b j l) = lo 0 (lvl l.val) (x1 (ValueIdx.ix3 b j 0)) (x1 (ValueIdx.ix3 b j 2)) := by
  rw [val_main_v171_apply, val_main_v169_apply, val_main_v167_apply, val_main_v166_apply, val_main_v152_apply, val_main_v150_apply, val_main_v160_apply,
    val_main_v158_apply, val_main_v156_apply, v47, v61, val_main_v170_apply, val_main_v149_apply, val_main_v148_apply, val_main_v145_apply, v32]
  exact lo_val 0 (lvl l.val) _ _ 0x3E4CCCCD#32 w_fifth
theorem v178 : val_main_v178 (F := Ideal) x1 (ValueIdx.ix3 b j l) = lo 0 (lvl l.val) (x1 (ValueIdx.ix3 b j 1)) (x1 (ValueIdx.ix3 b j 3)) := by
  rw [val_main_v178_apply, val_main_v176_apply, val_main_v174_apply, val_main_v173_apply, val_main_v155_apply, val_main_v153_apply, val_main_v165_apply,
    val_main_v163_apply, val_main_v161_apply, v54, v68, val_main_v177_apply, val_main_v149_apply, val_main_v148_apply, val_main_v145_apply, v32]
  exact lo_val 0 (lvl l.val) _ _ 0x3E4CCCCD#32 w_fifth
theorem v185 : val_main_v185 (F := Ideal) x1 (ValueIdx.ix3 b j l) = hiF 0 (lvl l.val) (x1 (ValueIdx.ix3 b j 0)) (x1 (ValueIdx.ix3 b j 2)) := by
  rw [val_main_v185_apply, val_main_v183_apply, val_main_v181_apply, val_main_v180_apply, val_main_v152_apply, val_main_v150_apply, val_main_v160_apply,
    val_main_v158_apply, val_main_v156_apply, v47, v61, val_main_v184_apply, val_main_v146_apply, val_main_v145_apply, v32]
  exact hi_val 0 (lvl l.val) _ _ 0x3E4CCCCD#32 w_fifth
theorem v192 : val_main_v192 (F := Ideal) x1 (ValueIdx.ix3 b j l) = hiF 0 (lvl l.val) (x1 (ValueIdx.ix3 b j 1)) (x1 (ValueIdx.ix3 b j 3)) := by
  rw [val_main_v192_apply, val_main_v190_apply, val_main_v188_apply, val_main_v187_apply, val_main_v155_apply, val_main_v153_apply, val_main_v165_apply,
    val_main_v163_apply, val_main_v161_apply, v54, v68, val_main_v191_apply, val_main_v146_apply, val_main_v145_apply, v32]
  exact hi_val 0 (lvl l.val) _ _ 0x3E4CCCCD#32 w_fifth

/-! ## The bits -/

theorem v73 : val_main_v73 (F := Ideal) x0 (ValueIdx.ix3 b j l) = 1#1 ↔ x0 (ix2 b j) = BitVec.ofNat 32 (lvl l.val) := by
  rw [val_main_v73_apply, eq_iff, val_main_v72_apply, val_main_v70_apply, v27, val_main_v71_apply, val_main_v69_apply]
  have : idx_main_v69 (idx_main_v71 (ValueIdx.ix3 b j l)) = ix2 b j := funext fun a => match a with | ⟨0, _⟩ => rfl | ⟨1, _⟩ => rfl
  rw [this]

theorem xs_small : xs l.val < 2 ^ 31 := by have := xs_lt l.val; omega
theorem ys_small : ys l.val < 2 ^ 31 := by have := ys_lt l.val l.isLt; omega

theorem v131 : val_main_v131 (F := Ideal) x1 (ValueIdx.ix3 b j l) = 1#1 ↔ lo 1 (lvl l.val) (x1 (ValueIdx.ix3 b j 0)) (x1 (ValueIdx.ix3 b j 2)) ≤ ((xs l.val : ℝ) : EReal) := by
  rw [val_main_v131_apply, val_main_v130_apply, val_main_v129_apply, v37, val_main_v101_apply, v100]
  exact ge_lo 1 (lvl l.val) (x1 (ValueIdx.ix3 b j 0)) (x1 (ValueIdx.ix3 b j 2)) (xs l.val) (xs_small l)
theorem v135 : val_main_v135 (F := Ideal) x1 (ValueIdx.ix3 b j l) = 1#1 ↔ ((xs l.val : ℝ) : EReal) < Spec.hi 1 (lvl l.val) (x1 (ValueIdx.ix3 b j 0)) (x1 (ValueIdx.ix3 b j 2)) := by
  rw [val_main_v135_apply, val_main_v134_apply, val_main_v133_apply, v37, val_main_v125_apply, val_main_v115_apply, v114, val_main_v124_apply, val_main_v101_apply, v100]
  exact lt_hi 1 (lvl l.val) (x1 (ValueIdx.ix3 b j 0)) (x1 (ValueIdx.ix3 b j 2)) (xs l.val) (xs_small l)
theorem v139 : val_main_v139 (F := Ideal) x1 (ValueIdx.ix3 b j l) = 1#1 ↔ lo 1 (lvl l.val) (x1 (ValueIdx.ix3 b j 1)) (x1 (ValueIdx.ix3 b j 3)) ≤ ((ys l.val : ℝ) : EReal) := by
  rw [val_main_v139_apply, val_main_v138_apply, val_main_v137_apply, v39, val_main_v108_apply, v107]
  exact ge_lo 1 (lvl l.val) (x1 (ValueIdx.ix3 b j 1)) (x1 (ValueIdx.ix3 b j 3)) (ys l.val) (ys_small l)
theorem v143 : val_main_v143 (F := Ideal) x1 (ValueIdx.ix3 b j l) = 1#1 ↔ ((ys l.val : ℝ) : EReal) < Spec.hi 1 (lvl l.val) (x1 (ValueIdx.ix3 b j 1)) (x1 (ValueIdx.ix3 b j 3)) := by
  rw [val_main_v143_apply, val_main_v142_apply, val_main_v141_apply, v39, val_main_v128_apply, val_main_v122_apply, v121, val_main_v127_apply, val_main_v108_apply, v107]
  exact lt_hi 1 (lvl l.val) (x1 (ValueIdx.ix3 b j 1)) (x1 (ValueIdx.ix3 b j 3)) (ys l.val) (ys_small l)
theorem v202 : val_main_v202 (F := Ideal) x1 (ValueIdx.ix3 b j l) = 1#1 ↔ lo 0 (lvl l.val) (x1 (ValueIdx.ix3 b j 0)) (x1 (ValueIdx.ix3 b j 2)) ≤ ((xs l.val : ℝ) : EReal) := by
  rw [val_main_v202_apply, val_main_v201_apply, val_main_v200_apply, v37, val_main_v172_apply, v171]
  exact ge_lo 0 (lvl l.val) (x1 (ValueIdx.ix3 b j 0)) (x1 (ValueIdx.ix3 b j 2)) (xs l.val) (xs_small l)
theorem v206 : val_main_v206 (F := Ideal) x1 (ValueIdx.ix3 b j l) = 1#1 ↔ ((xs l.val : ℝ) : EReal) < Spec.hi 0 (lvl l.val) (x1 (ValueIdx.ix3 b j 0)) (x1 (ValueIdx.ix3 b j 2)) := by
  rw [val_main_v206_apply, val_main_v205_apply, val_main_v204_apply, v37, val_main_v196_apply, val_main_v186_apply, v185, val_main_v195_apply, val_main_v172_apply, v171]
  exact lt_hi 0 (lvl l.val) (x1 (ValueIdx.ix3 b j 0)) (x1 (ValueIdx.ix3 b j 2)) (xs l.val) (xs_small l)
theorem v210 : val_main_v210 (F := Ideal) x1 (ValueIdx.ix3 b j l) = 1#1 ↔ lo 0 (lvl l.val) (x1 (ValueIdx.ix3 b j 1)) (x1 (ValueIdx.ix3 b j 3)) ≤ ((ys l.val : ℝ) : EReal) := by
  rw [val_main_v210_apply, val_main_v209_apply, val_main_v208_apply, v39, val_main_v179_apply, v178]
  exact ge_lo 0 (lvl l.val) (x1 (ValueIdx.ix3 b j 1)) (x1 (ValueIdx.ix3 b j 3)) (ys l.val) (ys_small l)
theorem v214 : val_main_v214 (F := Ideal) x1 (ValueIdx.ix3 b j l) = 1#1 ↔ ((ys l.val : ℝ) : EReal) < Spec.hi 0 (lvl l.val) (x1 (ValueIdx.ix3 b j 1)) (x1 (ValueIdx.ix3 b j 3)) := by
  rw [val_main_v214_apply, val_main_v213_apply, val_main_v212_apply, v39, val_main_v199_apply, val_main_v193_apply, v192, val_main_v198_apply, val_main_v179_apply, v178]
  exact lt_hi 0 (lvl l.val) (x1 (ValueIdx.ix3 b j 1)) (x1 (ValueIdx.ix3 b j 3)) (ys l.val) (ys_small l)

theorem v144 : val_main_v144 (F := Ideal) x0 x1 (ValueIdx.ix3 b j l) = 1#1 ↔ In x0 x1 b j 1 l.val := by
  rw [val_main_v144_apply, and_iff, val_main_v140_apply, and_iff, val_main_v136_apply, and_iff, val_main_v132_apply, and_iff, v73,
    v131, v135, v139, v143]
  unfold In Cell
  tauto

theorem v215 : val_main_v215 (F := Ideal) x0 x1 (ValueIdx.ix3 b j l) = 1#1 ↔ In x0 x1 b j 0 l.val := by
  rw [val_main_v215_apply, and_iff, val_main_v211_apply, and_iff, val_main_v207_apply, and_iff, val_main_v203_apply, and_iff, v73,
    v202, v206, v210, v214]
  unfold In Cell
  tauto

end Cert.ReferenceIdeal.Hand

end
-- ==== Proof.RSel.lean ====
/- The box the reference chooses for a location, and its five results read at an index. -/
module

public import proofs.«01_k».proof.Proof.RCell
public import Idealize.ShloMosaic.Lib.Routing.OpsOrder

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.ShloMosaic.ValueIdx
open Cert.Words Cert.Tables Cert.Spec

variable (x0 : (⟨S8x100, .i32⟩ : BufTy).Contents (Elt Ideal)) (x1 : (⟨S8x100x5, .f32⟩ : BufTy).Contents (Elt Ideal))
variable (b : Fin 8) (j : Fin 100) (l : Fin 21824)

/-- A box's area. -/
def area : EReal :=
  (x1 (ValueIdx.ix3 b j 2) - x1 (ValueIdx.ix3 b j 0)) * (x1 (ValueIdx.ix3 b j 3) - x1 (ValueIdx.ix3 b j 1))

theorem v42 : val_main_v224 (F := Ideal) x1 (ix2 b j) = x1 (ValueIdx.ix3 b j 0) := by
  rw [val_main_v224_apply, val_main_v223_apply, val_main_v40_apply]
  refine corner x1 b j _ ?_ ?_ rfl
  · show (b.val * 100 + j.val) / 100 = b.val; omega
  · show (b.val * 100 + j.val) / 1 % 100 = j.val; omega
theorem v229 : val_main_v229 (F := Ideal) x1 (ix2 b j) = x1 (ValueIdx.ix3 b j 1) := by
  rw [val_main_v229_apply, val_main_v228_apply, val_main_v40_apply]
  refine corner x1 b j _ ?_ ?_ rfl
  · show (b.val * 100 + j.val) / 100 = b.val; omega
  · show (b.val * 100 + j.val) / 1 % 100 = j.val; omega
theorem v222 : val_main_v222 (F := Ideal) x1 (ix2 b j) = x1 (ValueIdx.ix3 b j 2) := by
  rw [val_main_v222_apply, val_main_v221_apply, val_main_v40_apply]
  refine corner x1 b j _ ?_ ?_ rfl
  · show (b.val * 100 + j.val) / 100 = b.val; omega
  · show (b.val * 100 + j.val) / 1 % 100 = j.val; omega
theorem v227 : val_main_v227 (F := Ideal) x1 (ix2 b j) = x1 (ValueIdx.ix3 b j 3) := by
  rw [val_main_v227_apply, val_main_v226_apply, val_main_v40_apply]
  refine corner x1 b j _ ?_ ?_ rfl
  · show (b.val * 100 + j.val) / 100 = b.val; omega
  · show (b.val * 100 + j.val) / 1 % 100 = j.val; omega

theorem v233 : val_main_v233 (F := Ideal) x1 (ValueIdx.ix3 b j l) = area x1 b j := by
  rw [val_main_v233_apply, val_main_v232_apply, val_main_v231_apply, val_main_v225_apply, val_main_v230_apply,
    show idx_main_v232 (idx_main_v233 (ValueIdx.ix3 b j l)) = ix2 b j from funext fun a => match a with | ⟨0, _⟩ => rfl | ⟨1, _⟩ => rfl,
    v42, v229, v222, v227]
  rfl

/-- The boxes whose inner region holds the location. -/
abbrev Pos (l : ℕ) (j : Fin 100) : Prop := In x0 x1 b j 0 l
/-- The boxes whose outer region holds it. -/
abbrev Ign (l : ℕ) (j : Fin 100) : Prop := In x0 x1 b j 1 l

theorem v235 : val_main_v235 (F := Ideal) x0 x1 (ValueIdx.ix3 b j l) = areaOf (area x1 b) (Pos x0 x1 b l.val) j := by
  classical
  rw [val_main_v235_apply, select_iff (v215 x0 x1 b j l), v233, val_main_v234_apply, val_main_cst_39_apply]
  unfold areaOf
  exact if_congr Iff.rfl rfl w_1e7

theorem red : S8x100x21824.Reduces [1] S8x21824 := by decide
theorem red_lift (k : Fin 100) : red.lift (ix2 b l) k = ValueIdx.ix3 b k l :=
  funext fun a => match a with | ⟨0, _⟩ => rfl | ⟨1, _⟩ => rfl | ⟨2, _⟩ => rfl

theorem v236 : IsLeast (Set.range (areaOf (area x1 b) (Pos x0 x1 b l.val))) (val_main_v236 (F := Ideal) x0 x1 (ix2 b l)) := by
  have e : val_main_v236 (F := Ideal) x0 x1 (ix2 b l) = (Finset.univ : Finset (Fin 100)).fold min ⊤ (areaOf (area x1 b) (Pos x0 x1 b l.val)) := by
    refine (Host.reduce_eq_fold_single FloatOps.minimumf _ _ _ red _ _).trans ?_
    show Finset.fold min (Ideal.ofBits .f32 0x7F800000#32) _ _ = _
    rw [w_top]
    refine congrArg (fun f => Finset.fold min ⊤ f Finset.univ) (funext fun (k : Fin 100) => ?_)
    exact (congrArg _ (red_lift b l k)).trans (v235 x0 x1 b k l)
  rw [e]; exact fold_min_least _

open Classical in
theorem v299 : IsGreatest (Set.range fun j : Fin 100 => if Pos x0 x1 b l.val j then ((2 : ℝ) : EReal) else if Ign x0 x1 b l.val j then ((0 : ℝ) : EReal) else ((-1 : ℝ) : EReal))
    (val_main_v299 (F := Ideal) x0 x1 (ix2 b l)) := by
  have e : val_main_v299 (F := Ideal) x0 x1 (ix2 b l) = (Finset.univ : Finset (Fin 100)).fold max ⊥ (fun j : Fin 100 => if Pos x0 x1 b l.val j then ((2 : ℝ) : EReal) else if Ign x0 x1 b l.val j then ((0 : ℝ) : EReal) else ((-1 : ℝ) : EReal)) := by
    refine (Host.reduce_eq_fold_single FloatOps.maximumf _ _ _ red _ _).trans ?_
    show Finset.fold max (Ideal.ofBits .f32 0xFF800000#32) _ _ = _
    rw [w_bot]
    refine congrArg (fun f => Finset.fold max ⊥ f Finset.univ) (funext fun (k : Fin 100) => ?_)
    refine (congrArg (val_main_v220 (F := Ideal) x0 x1) (red_lift b l k)).trans ?_
    rw [val_main_v220_apply, select_iff (v215 x0 x1 b k l), val_main_v219_apply, select_iff (v144 x0 x1 b k l), val_main_v216_apply, val_main_v217_apply, val_main_v218_apply]
    refine if_congr Iff.rfl w_two (if_congr Iff.rfl ?_ w_neg)
    exact w_zero.trans (by simp)
  rw [e]; exact fold_max_greatest _

/-- The reference's mask value is 2 exactly where a box's inner region holds the location. -/
theorem v299_two : val_main_v299 (F := Ideal) x0 x1 (ix2 b l) = ((2 : ℝ) : EReal) ↔ ∃ j, Pos x0 x1 b l.val j := by
  classical
  obtain ⟨⟨k, hk⟩, hle⟩ := v299 x0 x1 b l
  constructor
  · intro h
    rw [h] at hk
    refine ⟨k, ?_⟩
    by_contra hP
    simp only [hP, if_false] at hk
    split at hk
    · have := EReal.coe_eq_coe_iff.1 hk; norm_num at this
    · have := EReal.coe_eq_coe_iff.1 hk; norm_num at this
  · rintro ⟨i, hi⟩
    have h1 := hle ⟨i, rfl⟩
    simp only [hi, if_true] at h1
    refine le_antisymm ?_ h1
    rw [← hk]
    dsimp only
    split
    · exact le_rfl
    · split
      · exact EReal.coe_le_coe_iff.2 (by norm_num)
      · exact EReal.coe_le_coe_iff.2 (by norm_num)
/-- It is −1 exactly where no region holds it. -/
theorem v299_neg : val_main_v299 (F := Ideal) x0 x1 (ix2 b l) = ((-1 : ℝ) : EReal) ↔ ∀ j, ¬ Pos x0 x1 b l.val j ∧ ¬ Ign x0 x1 b l.val j := by
  classical
  obtain ⟨⟨k, hk⟩, hle⟩ := v299 x0 x1 b l
  constructor
  · intro h i
    have h1 := hle ⟨i, rfl⟩
    rw [h] at h1
    dsimp only at h1
    constructor
    · intro hP
      rw [if_pos hP] at h1
      have := EReal.coe_le_coe_iff.1 h1; norm_num at this
    · intro hI
      split at h1
      · have := EReal.coe_le_coe_iff.1 h1; norm_num at this
      · have := EReal.coe_le_coe_iff.1 h1; norm_num at this
  · intro h
    rw [← hk]
    dsimp only
    rw [if_neg (h k).1, if_neg (h k).2]

theorem v301 : val_main_v301 (F := Ideal) x0 x1 (ix2 b l) = 1#1 ↔ ∃ j, Pos x0 x1 b l.val j := by
  rw [val_main_v301_apply, ← v299_two, val_main_v300_apply, val_main_cst_47_apply]
  exact (oeq_iff _ _).trans (by rw [show (FloatOps.ofBits .f32 0x40000000#32 : Ideal .f32) = _ from w_two])
theorem v306 : val_main_v306 (F := Ideal) x0 x1 (ix2 b l) = 1#1 ↔ ∃ j, Pos x0 x1 b l.val j := v301 x0 x1 b l
theorem v303 : val_main_v303 (F := Ideal) x0 x1 (ix2 b l) = 1#1 ↔ ∀ j, ¬ Pos x0 x1 b l.val j ∧ ¬ Ign x0 x1 b l.val j := by
  rw [val_main_v303_apply, ← v299_neg, val_main_v302_apply, val_main_cst_48_apply]
  exact (oeq_iff _ _).trans (by rw [show (FloatOps.ofBits .f32 0xBF800000#32 : Ideal .f32) = _ from w_neg])

/-- The second result: whether the location counts for the classes. -/
theorem v304 : val_main_v304 (F := Ideal) x0 x1 (ix2 b l) = 1#1
    ↔ (∃ j, Pos x0 x1 b l.val j) ∨ ∀ j, ¬ Pos x0 x1 b l.val j ∧ ¬ Ign x0 x1 b l.val j := by
  rw [val_main_v304_apply, or_iff, v301, v303]

open Classical in
/-- The third result: how many locations of an image lie in an inner region. -/
theorem v308 : val_main_v308 (F := Ideal) x0 x1 (ix1 b) = ∑ l : Fin 21824, if ∃ j, Pos x0 x1 b l.val j then ((1 : ℝ) : EReal) else ((0 : ℝ) : EReal) := by
  rw [val_main_v308_apply, show (val_main_cst_50 (F := Ideal)) (Shape.Idx.first h_S_) = 0 from w_zero, zero_add]
  refine Finset.sum_congr rfl fun l _ => ?_
  have ei : idx_main_v308 (ix1 b) l = ix2 b l := funext fun a => match a with | ⟨0, _⟩ => rfl | ⟨1, _⟩ => rfl
  rw [val_main_v307_apply, ei]
  exact uitofp_bit (v306 x0 x1 b l)

/-- The fifth result: whether the location lies in an inner region. -/
theorem v309 : val_main_v309 (F := Ideal) x0 x1 (ix2 b l) = 1#1 ↔ ∃ j, Pos x0 x1 b l.val j := by
  unfold val_main_v309
  rw [Host.reduce_eq_fold_single IntOp.ori _ _ _ red]
  refine (Routing.fold_ori _ _).trans ?_
  constructor
  · rintro ⟨k, -, h⟩
    exact ⟨k, (v215 x0 x1 b k l).1 ((congrArg (val_main_v215 (F := Ideal) x0 x1) (red_lift b l k)).symm.trans h)⟩
  · rintro ⟨k, h⟩
    exact ⟨k, Finset.mem_univ _, (congrArg (val_main_v215 (F := Ideal) x0 x1) (red_lift b l k)).trans ((v215 x0 x1 b k l).2 h)⟩

/-! ## The first box of least area -/

theorem fold_minsi {ι : Type} (s : Finset ι) (f : ι → ℕ) (hf : ∀ i, f i < 2 ^ 31) :
    s.fold IntOp.minsi (BitVec.ofNat 32 2147483647) (fun i => BitVec.ofNat 32 (f i)) = BitVec.ofNat 32 (s.fold min 2147483647 f)
      ∧ s.fold min 2147483647 f < 2 ^ 31 := by
  classical
  induction s using Finset.induction_on with
  | empty => simp
  | insert a s ha ih =>
    rw [Finset.fold_insert ha, Finset.fold_insert ha, ih.1, minsi_small _ _ (hf a) ih.2]
    exact ⟨rfl, lt_of_le_of_lt (min_le_left _ _) (hf a)⟩

theorem fold_nat_least {n : ℕ} (f : Fin (n + 1) → ℕ) (m : ℕ) (hf : ∀ i, f i ≤ m) : IsLeast (Set.range f) (Finset.univ.fold min m f) := by
  refine ⟨?_, ?_⟩
  · rcases (Finset.fold_min_le (s := Finset.univ) (f := f) (b := m) (Finset.univ.fold min m f)).1 le_rfl with h | ⟨x, hx, h⟩
    · exact ⟨0, le_antisymm ((hf 0).trans h) ((Finset.le_fold_min _).1 le_rfl |>.2 0 (Finset.mem_univ 0))⟩
    · exact ⟨x, le_antisymm h ((Finset.le_fold_min _).1 le_rfl |>.2 x (Finset.mem_univ x))⟩
  · rintro _ ⟨x, rfl⟩
    exact (Finset.le_fold_min _).1 le_rfl |>.2 x (Finset.mem_univ x)

theorem v242 : val_main_v242 (F := Ideal) x0 x1 (ValueIdx.ix3 b j l)
    = BitVec.ofNat 32 (idxOf (area x1 b) (Pos x0 x1 b l.val) (val_main_v236 (F := Ideal) x0 x1 (ix2 b l)) j) := by
  classical
  have hb : val_main_v241 (F := Ideal) x0 x1 (ValueIdx.ix3 b j l) = 1#1
      ↔ areaOf (area x1 b) (Pos x0 x1 b l.val) j = val_main_v236 (F := Ideal) x0 x1 (ix2 b l) := by
    rw [val_main_v241_apply, v235, val_main_v240_apply, val_main_v239_apply]
    refine (oeq_iff _ _).trans ?_
    rw [show idx_main_v239 (idx_main_v240 (ValueIdx.ix3 b j l)) = ix2 b l from funext fun a => match a with | ⟨0, _⟩ => rfl | ⟨1, _⟩ => rfl]
  rw [val_main_v242_apply, select_iff hb, val_main_v237_apply, val_main_v238_apply, val_main_c_41_apply]
  unfold idxOf
  split <;> rfl

/-- The number of the box chosen. -/
theorem v243 : ∃ n : Fin 100, val_main_v243 (F := Ideal) x0 x1 (ix2 b l) = BitVec.ofNat 32 n.val
    ∧ IsLeast (Set.range (idxOf (area x1 b) (Pos x0 x1 b l.val) (val_main_v236 (F := Ideal) x0 x1 (ix2 b l)))) n.val := by
  classical
  have hf : ∀ i : Fin 100, idxOf (area x1 b) (Pos x0 x1 b l.val) (val_main_v236 (F := Ideal) x0 x1 (ix2 b l)) i ≤ 100 := fun i => by
    unfold idxOf; split <;> omega
  have e : val_main_v243 (F := Ideal) x0 x1 (ix2 b l)
      = (Finset.univ : Finset (Fin 100)).fold IntOp.minsi (BitVec.ofNat 32 2147483647)
        (fun i => BitVec.ofNat 32 (idxOf (area x1 b) (Pos x0 x1 b l.val) (val_main_v236 (F := Ideal) x0 x1 (ix2 b l)) i)) := by
    refine (Host.reduce_eq_fold_single IntOp.minsi _ _ _ red _ _).trans ?_
    refine congrArg (fun f => Finset.fold IntOp.minsi (BitVec.ofNat 32 2147483647) f Finset.univ) (funext fun (k : Fin 100) => ?_)
    exact (congrArg (val_main_v242 (F := Ideal) x0 x1) (red_lift b l k)).trans (v242 x0 x1 b k l)
  have hn := fold_nat_least (idxOf (area x1 b) (Pos x0 x1 b l.val) (val_main_v236 (F := Ideal) x0 x1 (ix2 b l))) 2147483647 (fun i => (hf i).trans (by norm_num))
  exact ⟨⟨_, idx_lt (v236 x0 x1 b l) hn⟩, e.trans (fold_minsi _ _ fun i => lt_of_le_of_lt (hf i) (by norm_num)).1, hn⟩

/-! ## What is read off the chosen box -/

theorem gather_bit {α : Type} (x : S8x100x21824.Idx → α) (idx : IVec S8x1x21824x1 32) (n : Fin 100) (h : idx (ValueIdx.ix4 b 0 l 0) = BitVec.ofNat 32 n.val) :
    Host.gather gather_S8x100x21824_S8x1x21824x1_S8x1x21824_n_1_02_02_1_3_111 x idx (ValueIdx.ix3 b 0 l) = x (ValueIdx.ix3 b n l) := by
  have hsi : gather_S8x100x21824_S8x1x21824x1_S8x1x21824_n_1_02_02_1_3_111.siIdx (ValueIdx.ix3 b 0 l) ⟨0, Nat.one_pos⟩ = ValueIdx.ix4 b 0 l 0 :=
    funext fun a => match a with
      | ⟨0, _⟩ => rfl | ⟨1, _⟩ => rfl | ⟨2, _⟩ => rfl | ⟨3, _⟩ => rfl
  unfold Host.gather
  refine congrArg x (funext fun a => Fin.ext ?_)
  match a with
  | ⟨0, _⟩ => show 0 + b.val + 0 = b.val; omega
  | ⟨1, _⟩ =>
    show min (idx (gather_S8x100x21824_S8x1x21824x1_S8x1x21824_n_1_02_02_1_3_111.siIdx (ValueIdx.ix3 b 0 l) ⟨0, Nat.one_pos⟩)).toInt.toNat (100 - 1) + 0 + 0 = n.val
    rw [hsi, h, toInt_small _ (by omega)]
    omega
  | ⟨2, _⟩ => show 0 + l.val + 0 = l.val; omega

theorem gather_box {α : Type} (x : S8x100x5.Idx → α) (idx : IVec S8x21824x1 32) (e : Fin 5) (n : Fin 100) (h : idx (ValueIdx.ix3 b l 0) = BitVec.ofNat 32 n.val) :
    Host.gather gather_S8x100x5_S8x21824x1_S8x21824x5_2_1_0_0_1_2_115 x idx (ValueIdx.ix3 b l e) = x (ValueIdx.ix3 b n e) := by
  have hsi : gather_S8x100x5_S8x21824x1_S8x21824x5_2_1_0_0_1_2_115.siIdx (ValueIdx.ix3 b l e) ⟨0, Nat.one_pos⟩ = ValueIdx.ix3 b l 0 :=
    funext fun a => match a with
      | ⟨0, _⟩ => rfl | ⟨1, _⟩ => rfl | ⟨2, _⟩ => rfl
  unfold Host.gather
  refine congrArg x (funext fun a => Fin.ext ?_)
  match a with
  | ⟨0, _⟩ => show 0 + b.val + 0 = b.val; omega
  | ⟨1, _⟩ =>
    show min (idx (gather_S8x100x5_S8x21824x1_S8x21824x5_2_1_0_0_1_2_115.siIdx (ValueIdx.ix3 b l e) ⟨0, Nat.one_pos⟩)).toInt.toNat (100 - 1) + 0 + 0 = n.val
    rw [hsi, h, toInt_small _ (by omega)]
    omega
  | ⟨2, _⟩ => show 0 + 0 + e.val = e.val; omega

section Chosen
variable (n : Fin 100) (hn : val_main_v243 (F := Ideal) x0 x1 (ix2 b l) = BitVec.ofNat 32 n.val)
include hn

theorem nonneg_word : ¬ IntOp.cmpi .slt (BitVec.ofNat 32 n.val) (BitVec.ofNat 32 0) = 1#1 := fun h => by
  have := (slt_iff n.val 0 (by omega) (by omega)).1 h; omega

open Classical in
theorem v247 : val_main_v247 (F := Ideal) x0 x1 (ix2 b l) = if Pos x0 x1 b l.val n then ((1 : ℝ) : EReal) else ((0 : ℝ) : EReal) := by
  rw [val_main_v247_apply, val_main_v246_apply]
  refine uitofp_bit (Iff.trans ?_ (v215 x0 x1 b n l))
  have e : idx_main_v246 (ix2 b l) = ValueIdx.ix3 b 0 l := funext fun a => Fin.ext (match a with
    | ⟨0, _⟩ => by show (b.val * 21824 + l.val) / 21824 = b.val; omega
    | ⟨1, _⟩ => rfl
    | ⟨2, _⟩ => by show (b.val * 21824 + l.val) % 21824 = l.val; omega)
  rw [e]
  unfold val_main_v245
  rw [gather_bit b l _ _ n]
  rw [val_main_call0_v5_apply]
  have e2 : idx_main_call0_v5 (ValueIdx.ix4 b 0 l 0) = ValueIdx.ix3 b 0 l := funext fun a => Fin.ext (match a with
    | ⟨0, _⟩ => by show (((b.val * 1 + 0) * 21824 + l.val) * 1 + 0) / 21824 = b.val; omega
    | ⟨1, _⟩ => by first | rfl | (show _ % _ = 0; omega)
    | ⟨2, _⟩ => by show (((b.val * 1 + 0) * 21824 + l.val) * 1 + 0) % 21824 = l.val; omega)
  rw [e2]
  have e3 : val_main_v244 (F := Ideal) x0 x1 (ValueIdx.ix3 b 0 l) = BitVec.ofNat 32 n.val := by
    have ei : idx_main_v244 (ValueIdx.ix3 b 0 l) = ix2 b l := funext fun a => match a with | ⟨0, _⟩ => rfl | ⟨1, _⟩ => rfl
    rw [val_main_v244_apply, ei, hn]
  rw [val_main_call0_v4_apply, val_main_call0_v1_apply, e3]
  exact if_neg (nonneg_word x0 x1 b l n hn)

theorem v250 (e : Fin 5) : val_main_v250 (F := Ideal) x0 x1 (ValueIdx.ix3 b l e) = x1 (ValueIdx.ix3 b n e) := by
  unfold val_main_v250
  refine gather_box b l _ _ e n ?_
  have e3 : val_main_v249 (F := Ideal) x0 x1 (ValueIdx.ix3 b l 0) = BitVec.ofNat 32 n.val := by
    have ei : idx_main_v249 (ValueIdx.ix3 b l 0) = ix2 b l := funext fun a => match a with | ⟨0, _⟩ => rfl | ⟨1, _⟩ => rfl
    rw [val_main_v249_apply, ei, hn]
  rw [val_main_call1_v4_apply, val_main_call1_v1_apply, e3]
  exact if_neg (nonneg_word x0 x1 b l n hn)

theorem boxed (k : S8x21824x5.Idx) (c : Fin 5) (h0 : (k 0).val = b.val) (h1 : (k 1).val = l.val) (h2 : (k 2).val = c.val) :
    val_main_v250 (F := Ideal) x0 x1 k = x1 (ValueIdx.ix3 b n c) :=
  (congrArg (val_main_v250 (F := Ideal) x0 x1) (show k = ValueIdx.ix3 b l c from funext fun a => Fin.ext (match a with
    | ⟨0, _⟩ => h0 | ⟨1, _⟩ => h1 | ⟨2, _⟩ => h2))).trans (v250 x0 x1 b l n hn c)

open Classical in
/-- The first result: the classes. -/
theorem v263 (k : Fin 80) : val_main_v263 (F := Ideal) x0 x1 (ValueIdx.ix3 b l k)
    = (if Ideal.fptosi 32 (x1 (ValueIdx.ix3 b n 4)) = BitVec.ofNat 32 k.val then ((1 : ℝ) : EReal) else ((0 : ℝ) : EReal))
      * (if Pos x0 x1 b l.val n then ((1 : ℝ) : EReal) else ((0 : ℝ) : EReal)) := by
  have h1 : val_main_v262 (F := Ideal) x0 x1 (ValueIdx.ix3 b l k) = if Pos x0 x1 b l.val n then ((1 : ℝ) : EReal) else ((0 : ℝ) : EReal) := by
    rw [val_main_v262_apply, val_main_v248_apply]
    exact (congrArg (val_main_v247 (F := Ideal) x0 x1) (funext fun a => match a with | ⟨0, _⟩ => rfl | ⟨1, _⟩ => rfl)).trans (v247 x0 x1 b l n hn)
  have h2 : val_main_v260 (F := Ideal) x0 x1 (ValueIdx.ix3 b l k) = 1#1 ↔ Ideal.fptosi 32 (x1 (ValueIdx.ix3 b n 4)) = BitVec.ofNat 32 k.val := by
    rw [val_main_v260_apply, eq_iff, val_main_v258_apply, val_main_v256_apply, val_main_v253_apply, val_main_v252_apply, val_main_v251_apply,
      boxed x0 x1 b l n hn _ 4 (by show (b.val * 21824 + l.val) / 21824 = b.val; omega) (by show (b.val * 21824 + l.val) / 1 % 21824 = l.val; omega) rfl,
      val_main_v259_apply, val_main_v257_apply, val_main_v255_apply]
    rfl
  rw [val_main_v263_apply, h1, val_main_v261_apply, uitofp_bit h2]
  rfl

end Chosen

/-- The centre of a location, across. -/
theorem centre (x d : ℕ) (hx : x < 2 ^ 31) :
    ((FloatOps.sitofp .f32 (BitVec.ofNat 32 x) : Ideal .f32) + Ideal.ofBits .f32 0x3F000000#32 : EReal) * (FloatOps.sitofp .f32 (BitVec.ofNat 32 (strd d)) : Ideal .f32)
      = (((2 * x + 1) * (strd d / 2) : ℕ) : ℝ) := by
  have hs := strd_bds d
  have hev : ∃ h, strd d = 2 * h := ⟨strd d / 2, by unfold strd; split <;> rfl⟩
  obtain ⟨h, e⟩ := hev
  rw [sitofp_small _ hx, sitofp_small _ (by omega), w_half, ← EReal.coe_add, ← EReal.coe_mul, EReal.coe_eq_coe_iff, e, Nat.mul_div_cancel_left _ (by omega)]
  push_cast; ring

theorem v276 : val_main_v276 (F := Ideal) (ix2 b l) = ((entry l.val 2 : ℝ) : EReal) := by
  rw [val_main_v276_apply, val_main_v268_apply, val_main_v267_apply, val_main_v266_apply, val_main_v264_apply, v37, val_main_v35_apply, v34]
  exact centre (xs l.val) (lvl l.val) (xs_small l)
theorem v280 : val_main_v280 (F := Ideal) (ix2 b l) = ((entry l.val 3 : ℝ) : EReal) := by
  rw [val_main_v280_apply, val_main_v273_apply, val_main_v272_apply, val_main_v271_apply, val_main_v269_apply, v39, val_main_v35_apply, v34]
  exact centre (ys l.val) (lvl l.val) (ys_small l)

section Box
variable (n : Fin 100) (hn : val_main_v243 (F := Ideal) x0 x1 (ix2 b l) = BitVec.ofNat 32 n.val)
include hn

theorem v277 : val_main_v277 (F := Ideal) x0 x1 (ix2 b l) = ((entry l.val 2 : ℝ) : EReal) - x1 (ValueIdx.ix3 b n 0) := by
  rw [val_main_v277_apply, show val_main_v276 (F := Ideal) (ix2 b l) = _ from v276 b l, val_main_v275_apply, val_main_v274_apply, val_main_v254_apply,
    boxed x0 x1 b l n hn _ 0 (by show (b.val * 21824 + l.val) / 21824 = b.val; omega) (by show (b.val * 21824 + l.val) / 1 % 21824 = l.val; omega) rfl]
  rfl
theorem v281 : val_main_v281 (F := Ideal) x0 x1 (ix2 b l) = ((entry l.val 3 : ℝ) : EReal) - x1 (ValueIdx.ix3 b n 1) := by
  rw [val_main_v281_apply, show val_main_v280 (F := Ideal) (ix2 b l) = _ from v280 b l, val_main_v279_apply, val_main_v278_apply, val_main_v254_apply,
    boxed x0 x1 b l n hn _ 1 (by show (b.val * 21824 + l.val) / 21824 = b.val; omega) (by show (b.val * 21824 + l.val) / 1 % 21824 = l.val; omega) rfl]
  rfl
theorem v285 : val_main_v285 (F := Ideal) x0 x1 (ix2 b l) = x1 (ValueIdx.ix3 b n 2) - ((entry l.val 2 : ℝ) : EReal) := by
  rw [val_main_v285_apply, show val_main_v284 (F := Ideal) (ix2 b l) = _ from v276 b l, val_main_v283_apply, val_main_v282_apply, val_main_v254_apply,
    boxed x0 x1 b l n hn _ 2 (by show (b.val * 21824 + l.val) / 21824 = b.val; omega) (by show (b.val * 21824 + l.val) / 1 % 21824 = l.val; omega) rfl]
  rfl
theorem v289 : val_main_v289 (F := Ideal) x0 x1 (ix2 b l) = x1 (ValueIdx.ix3 b n 3) - ((entry l.val 3 : ℝ) : EReal) := by
  rw [val_main_v289_apply, show val_main_v288 (F := Ideal) (ix2 b l) = _ from v280 b l, val_main_v287_apply, val_main_v286_apply, val_main_v254_apply,
    boxed x0 x1 b l n hn _ 3 (by show (b.val * 21824 + l.val) / 21824 = b.val; omega) (by show (b.val * 21824 + l.val) / 1 % 21824 = l.val; omega) rfl]
  rfl

/-- The four distances to the chosen box's sides. -/
theorem v294 (k : Fin 4) : val_main_v294 (F := Ideal) x0 x1 (ValueIdx.ix3 b l k)
    = if k.val < 2 then ((entry l.val (2 + k.val % 2) : ℝ) : EReal) - x1 (ValueIdx.ix3 b n (k.castLE (by omega)))
      else x1 (ValueIdx.ix3 b n (k.castLE (by omega))) - ((entry l.val (2 + k.val % 2) : ℝ) : EReal) := by
  unfold val_main_v294
  match k with
  | ⟨0, _⟩ =>
    refine (concatenate_apply_piece (t := S8x21824x4) 2 _ _ _ 0 (by show 0 < 4; decide) S8x21824x1 _ rfl rfl 0 rfl (ValueIdx.ix3 b l 0)
      (fun a ha => match a with | ⟨0, _⟩ => rfl | ⟨1, _⟩ => rfl | ⟨2, _⟩ => absurd rfl ha) rfl).trans ?_
    have ei : idx_main_v290 (ValueIdx.ix3 b l 0) = ix2 b l := funext fun a => match a with | ⟨0, _⟩ => rfl | ⟨1, _⟩ => rfl
    rw [val_main_v290_apply, ei, v277 x0 x1 b l n hn]
    rfl
  | ⟨1, _⟩ =>
    refine (concatenate_apply_piece (t := S8x21824x4) 2 _ _ _ 1 (by show 1 < 4; decide) S8x21824x1 _ rfl rfl 1 rfl (ValueIdx.ix3 b l 0)
      (fun a ha => match a with | ⟨0, _⟩ => rfl | ⟨1, _⟩ => rfl | ⟨2, _⟩ => absurd rfl ha) rfl).trans ?_
    have ei : idx_main_v291 (ValueIdx.ix3 b l 0) = ix2 b l := funext fun a => match a with | ⟨0, _⟩ => rfl | ⟨1, _⟩ => rfl
    rw [val_main_v291_apply, ei, v281 x0 x1 b l n hn]
    rfl
  | ⟨2, _⟩ =>
    refine (concatenate_apply_piece (t := S8x21824x4) 2 _ _ _ 2 (by show 2 < 4; decide) S8x21824x1 _ rfl rfl 2 rfl (ValueIdx.ix3 b l 0)
      (fun a ha => match a with | ⟨0, _⟩ => rfl | ⟨1, _⟩ => rfl | ⟨2, _⟩ => absurd rfl ha) rfl).trans ?_
    have ei : idx_main_v292 (ValueIdx.ix3 b l 0) = ix2 b l := funext fun a => match a with | ⟨0, _⟩ => rfl | ⟨1, _⟩ => rfl
    rw [val_main_v292_apply, ei, v285 x0 x1 b l n hn]
    rw [if_neg (by show ¬ (2 < 2); omega)]
    refine congrArg₂ (· - ·) rfl (congrArg (fun i : ℕ => ((entry l.val i : ℝ) : EReal)) ?_)
    show 2 = 2 + 2 % 2
    omega
  | ⟨3, _⟩ =>
    refine (concatenate_apply_piece (t := S8x21824x4) 2 _ _ _ 3 (by show 3 < 4; decide) S8x21824x1 _ rfl rfl 3 rfl (ValueIdx.ix3 b l 0)
      (fun a ha => match a with | ⟨0, _⟩ => rfl | ⟨1, _⟩ => rfl | ⟨2, _⟩ => absurd rfl ha) rfl).trans ?_
    have ei : idx_main_v293 (ValueIdx.ix3 b l 0) = ix2 b l := funext fun a => match a with | ⟨0, _⟩ => rfl | ⟨1, _⟩ => rfl
    rw [val_main_v293_apply, ei, v289 x0 x1 b l n hn]
    rw [if_neg (by show ¬ (3 < 2); omega)]
    refine congrArg₂ (· - ·) rfl (congrArg (fun i : ℕ => ((entry l.val i : ℝ) : EReal)) ?_)
    show 3 = 2 + 3 % 2
    omega

open Classical in
/-- The fourth result: the distances over four where the chosen box holds the location. -/
theorem v298 (k : Fin 4) : val_main_v298 (F := Ideal) x0 x1 (ValueIdx.ix3 b l k)
    = (if k.val < 2 then ((entry l.val (2 + k.val % 2) : ℝ) : EReal) - x1 (ValueIdx.ix3 b n (k.castLE (by omega)))
      else x1 (ValueIdx.ix3 b n (k.castLE (by omega))) - ((entry l.val (2 + k.val % 2) : ℝ) : EReal)) * ((1 / 4 : ℝ) : EReal)
      * (if Pos x0 x1 b l.val n then ((1 : ℝ) : EReal) else ((0 : ℝ) : EReal)) := by
  have h1 : val_main_v297 (F := Ideal) x0 x1 (ValueIdx.ix3 b l k) = if Pos x0 x1 b l.val n then ((1 : ℝ) : EReal) else ((0 : ℝ) : EReal) := by
    have ei : idx_main_v248 (idx_main_v297 (ValueIdx.ix3 b l k)) = ix2 b l := funext fun a => match a with | ⟨0, _⟩ => rfl | ⟨1, _⟩ => rfl
    rw [val_main_v297_apply, val_main_v248_apply, ei, v247 x0 x1 b l n hn]
  rw [val_main_v298_apply, h1, val_main_v296_apply, v294 x0 x1 b l n hn, val_main_v295_apply, val_main_cst_45_apply,
    show (FloatOps.ofBits .f32 0x40800000#32 : Ideal .f32) = ((4 : ℝ) : EReal) from w_four]
  exact congrArg (· * _) (Ideal.div_coe (by norm_num) _)

end Box

end Cert.ReferenceIdeal.Hand

end
-- ==== Proof.TabLit.lean ====
/- The two constant tables of the kernel in closed form: the level of every tile, and every location's cell and centre. -/
module

public import proofs.«01_k».proof.KernelIdeal
public import proofs.«01_k».proof.Proof.Tables

@[expose] public section

set_option maxRecDepth 16384

noncomputable section

namespace Cert.Tables

open Idealize.ShloMosaic

/-- The table of levels. -/
theorem lit1_eq : ∀ i : Fin 350, (Cert.KernelIdeal.lit1 i).toNat = lvl (i.val * 64) := by decide +kernel

/-- One word of the table of locations is right. -/
def good (i : ℕ) : Bool :=
  if i < 87296 then isNat (Cert.KernelIdeal.lit0t i) (entry (i / 4) (i % 4)) else decide (Cert.KernelIdeal.lit0t i = 0xBF800000#32)

/-- Twenty-five tiles of the table from tile `o` on are right. -/
def goodFrom (o : ℕ) : Prop := ∀ a : Fin 25, ∀ b : Fin 256, good ((o + a.val) * 256 + b.val) = true

instance (o : ℕ) : Decidable (goodFrom o) := by unfold goodFrom; infer_instance

end Cert.Tables

end
-- ==== Proof.TabA.lean ====
/- A quarter of the table of locations, checked tile by tile. -/
module

public import proofs.«01_k».proof.Proof.TabLit

@[expose] public section

set_option maxRecDepth 16384

noncomputable section

namespace Cert.Tables

open Idealize.ShloMosaic

theorem good_0 : goodFrom 0 := by decide +kernel
theorem good_25 : goodFrom 25 := by decide +kernel
theorem good_50 : goodFrom 50 := by decide +kernel
theorem good_75 : goodFrom 75 := by decide +kernel

end Cert.Tables

end
-- ==== Proof.TabB.lean ====
/- A quarter of the table of locations, checked tile by tile. -/
module

public import proofs.«01_k».proof.Proof.TabLit

@[expose] public section

set_option maxRecDepth 16384

noncomputable section

namespace Cert.Tables

open Idealize.ShloMosaic

theorem good_100 : goodFrom 100 := by decide +kernel
theorem good_125 : goodFrom 125 := by decide +kernel
theorem good_150 : goodFrom 150 := by decide +kernel
theorem good_175 : goodFrom 175 := by decide +kernel

end Cert.Tables

end
-- ==== Proof.TabC.lean ====
/- A quarter of the table of locations, checked tile by tile. -/
module

public import proofs.«01_k».proof.Proof.TabLit

@[expose] public section

set_option maxRecDepth 16384

noncomputable section

namespace Cert.Tables

open Idealize.ShloMosaic

theorem good_200 : goodFrom 200 := by decide +kernel
theorem good_225 : goodFrom 225 := by decide +kernel
theorem good_250 : goodFrom 250 := by decide +kernel

end Cert.Tables

end
-- ==== Proof.TabD.lean ====
/- A quarter of the table of locations, checked tile by tile. -/
module

public import proofs.«01_k».proof.Proof.TabLit

@[expose] public section

set_option maxRecDepth 16384

noncomputable section

namespace Cert.Tables

open Idealize.ShloMosaic

theorem good_275 : goodFrom 275 := by decide +kernel
theorem good_300 : goodFrom 300 := by decide +kernel
theorem good_325 : goodFrom 325 := by decide +kernel

end Cert.Tables

end
-- ==== Proof.TabAll.lean ====
/- The whole table of locations in closed form. -/
module

public import proofs.«01_k».proof.Proof.TabA
public import proofs.«01_k».proof.Proof.TabB
public import proofs.«01_k».proof.Proof.TabC
public import proofs.«01_k».proof.Proof.TabD

@[expose] public section

set_option maxRecDepth 16384

noncomputable section

namespace Cert.Tables

open Idealize.ShloMosaic

theorem lit0_good (i : ℕ) (hi : i < 89600) : good i = true := by
  have key : ∀ o, goodFrom o → o * 256 ≤ i → i < (o + 25) * 256 → good i = true := fun o h h1 h2 => by
    have := h ⟨i / 256 - o, by omega⟩ ⟨i % 256, by omega⟩
    rw [show (o + (i / 256 - o)) * 256 + i % 256 = i by omega] at this
    exact this
  by_cases c1 : i < 44800
  · by_cases c2 : i < 25600
    · by_cases c3 : i < 12800
      · by_cases c4 : i < 6400
        · exact key 0 good_0 (by omega) (by omega)
        · exact key 25 good_25 (by omega) (by omega)
      · by_cases c4 : i < 19200
        · exact key 50 good_50 (by omega) (by omega)
        · exact key 75 good_75 (by omega) (by omega)
    · by_cases c3 : i < 32000
      · exact key 100 good_100 (by omega) (by omega)
      · by_cases c4 : i < 38400
        · exact key 125 good_125 (by omega) (by omega)
        · exact key 150 good_150 (by omega) (by omega)
  · by_cases c2 : i < 70400
    · by_cases c3 : i < 57600
      · by_cases c4 : i < 51200
        · exact key 175 good_175 (by omega) (by omega)
        · exact key 200 good_200 (by omega) (by omega)
      · by_cases c4 : i < 64000
        · exact key 225 good_225 (by omega) (by omega)
        · exact key 250 good_250 (by omega) (by omega)
    · by_cases c3 : i < 76800
      · exact key 275 good_275 (by omega) (by omega)
      · by_cases c4 : i < 83200
        · exact key 300 good_300 (by omega) (by omega)
        · exact key 325 good_325 (by omega) (by omega)

theorem pad_word : Ideal.ofBits .f32 0xBF800000#32 = ((-1 : ℝ) : EReal) := by
  simp [Ideal.ofBits, Ideal.ieee]; norm_num
  rw [← EReal.coe_mul]; norm_num

theorem lit0_valid (i : Fin 89600) (h : i.val < 87296) :
    Ideal.ofBits .f32 (Cert.KernelIdeal.lit0 i) = ((entry (i.val / 4) (i.val % 4) : ℝ) : EReal) := by
  have h1 := lit0_good i.val i.isLt
  unfold good at h1
  rw [if_pos h] at h1
  exact ofBits_of_isNat _ _ h1

theorem lit0_pad (i : Fin 89600) (h : 87296 ≤ i.val) :
    Ideal.ofBits .f32 (Cert.KernelIdeal.lit0 i) = ((-1 : ℝ) : EReal) := by
  have h1 := lit0_good i.val i.isLt
  unfold good at h1
  rw [if_neg (by omega)] at h1
  have h2 := of_decide_eq_true h1
  show Ideal.ofBits .f32 (Cert.KernelIdeal.lit0t i.val) = _
  rw [h2]
  exact pad_word

end Cert.Tables

end
-- ==== Proof.KVal.lean ====
/- What the kernel's tiles read, and the box a location chooses, in terms of the two arguments. -/
module

public import proofs.«01_k».proof.Proof.KRows
public import proofs.«01_k».proof.Proof.RSel
public import proofs.«01_k».proof.Proof.TabAll
public import proofs.«01_k».proof.Proof.IFinal

@[expose] public section

set_option maxRecDepth 16384

noncomputable section

namespace Cert.KernelIdeal.Hand

open Cert.KernelIdeal Cert.KernelIdeal.Gen Cert.KernelIdeal.Kit Idealize.ShloMosaic Idealize.ShloMosaic.TcCoe Idealize.ShloMosaic.ValueIdx Idealize.ShloMosaic.Tactic
open Cert.Words Cert.Tables Cert.Spec
open Cert.ReferenceIdeal.Hand (Pos Ign In area)

variable (m : (ℓ : Loc nD τ sig) → Buf (Elt Ideal) ℓ) (c : Dev nD) (b : Fin 8)

/-- The boxes' levels. -/
abbrev lv0 : S8x100.Idx → BitVec 32 := m ((c : Thread nD τ).loc main_arg0)
/-- The boxes. -/
abbrev bx0 : S8x100x5.Idx → EReal := m ((c : Thread nD τ).loc main_arg1)

theorem V_v3 : V m c main_v3 = concatenate S8x6x100 1
    [⟨S8x5x100, transpose S8x5x100 [0, 2, 1] (bx0 m c) transposes_S8x100x5_S8x5x100_0_2_1⟩,
     ⟨S8x1x100, (sitofp .f32 (broadcastInDim S8x1x100 ![0, 2] bcast_S8x100_S8x1x100_0_2 (lv0 m c)) : FVec Ideal S8x1x100 .f32)⟩]
    concatenates_S8x5x100_S8x1x100_S8x6x100_d1 := by
  show StableHlo.after (List.flatten [hostOps0]) (fun b => m (c, b)) (Proc.devRef .tc main_v3) = _
  simp only [List.flatten_cons, List.flatten_nil, List.append_nil]
  after_results
theorem V_cst : V m c main_cst = fun i => Ideal.ofBits .f32 (lit0 (S25x14x64x4.rowMajor i)) := by
  show StableHlo.after (List.flatten [hostOps0]) (fun b => m (c, b)) (Proc.devRef .tc main_cst) = _
  simp only [List.flatten_cons, List.flatten_nil, List.append_nil]
  after_results
  rfl

theorem X1_at (j : Fin 100) (k : Fin 5) : X1 m c b (ValueIdx.ix3 0 j k) = bx0 m c (ValueIdx.ix3 b j k) := by
  unfold X1
  rw [V_main_arg1]
theorem X0_at (j : Fin 100) (k : Fin 5) : X0 m c b (ValueIdx.ix3 0 (k.castLE (by omega)) j) = bx0 m c (ValueIdx.ix3 b j k) := by
  unfold X0
  rw [V_v3]
  refine (concatenate_apply_piece (t := S8x6x100) 1 _ _ _ 0 (by show 0 < 2; decide) S8x5x100 _ rfl rfl 0 rfl (ValueIdx.ix3 b k j)
    (fun a ha => match a with | ⟨0, _⟩ => rfl | ⟨1, _⟩ => absurd rfl ha | ⟨2, _⟩ => rfl)
    (by show 0 + k.val = k.val; omega)).trans ?_
  exact transpose_apply _ _ _ _ _ fun a => match a with | ⟨0, _⟩ => rfl | ⟨1, _⟩ => rfl | ⟨2, _⟩ => rfl
theorem X0_lvl (j : Fin 100) : X0 m c b (ValueIdx.ix3 0 5 j) = (((lv0 m c (ValueIdx.ix2 b j)).toInt : ℝ) : EReal) := by
  unfold X0
  rw [V_v3]
  refine (concatenate_apply_piece (t := S8x6x100) 1 _ _ _ 1 (by show 1 < 2; decide) S8x1x100 _ rfl rfl 5 rfl (ValueIdx.ix3 b 0 j)
    (fun a ha => match a with | ⟨0, _⟩ => rfl | ⟨1, _⟩ => absurd rfl ha | ⟨2, _⟩ => rfl) rfl).trans ?_
  show (((lv0 m c _).toInt : ℝ) : EReal) = _
  exact congrArg (fun i => (((lv0 m c i).toInt : ℝ) : EReal)) (funext fun a => match a with | ⟨0, _⟩ => rfl | ⟨1, _⟩ => rfl)

theorem lvl_word (w : BitVec 32) (d : ℕ) (hd : d ≤ 4) : ((w.toInt : ℝ) : EReal) = ((d : ℝ) : EReal) ↔ w = BitVec.ofNat 32 d := by
  rw [EReal.coe_eq_coe_iff]
  constructor
  · intro h
    have : w.toInt = (d : ℤ) := by exact_mod_cast h
    exact BitVec.eq_of_toInt_eq (this.trans (toInt_small d (by omega)).symm)
  · rintro rfl
    rw [toInt_small d (by omega)]; simp

variable (g : Fin 25) (k : Fin 14) (r : Fin 64) (l : ℕ)

theorem X2_at (q : Fin 4) : metaAt (X2 m c g) k (ValueIdx.ix4 0 0 r q)
    = Ideal.ofBits .f32 (lit0 ⟨((g.val * 14 + k.val) * 64 + r.val) * 4 + q.val, by omega⟩) := by
  show X2 m c g (ValueIdx.ix4 0 k r q) = _
  unfold X2
  rw [V_cst]
  exact congrArg (fun i => Ideal.ofBits .f32 (lit0 i)) (Fin.ext (Shape.rowMajor_val_four _))

theorem meta_at (e : (g.val * 14 + k.val) * 64 + r.val = l) (hl : l < 21824) (q : Fin 4) :
    metaAt (X2 m c g) k (ValueIdx.ix4 0 0 r q) = ((entry l q.val : ℝ) : EReal) := by
  subst e
  rw [X2_at, lit0_valid _ (by show ((g.val * 14 + k.val) * 64 + r.val) * 4 + q.val < 87296; omega)]
  show ((entry ((((g.val * 14 + k.val) * 64 + r.val) * 4 + q.val) / 4) ((((g.val * 14 + k.val) * 64 + r.val) * 4 + q.val) % 4) : ℝ) : EReal) = _
  rw [show (((g.val * 14 + k.val) * 64 + r.val) * 4 + q.val) / 4 = (g.val * 14 + k.val) * 64 + r.val by omega,
    show (((g.val * 14 + k.val) * 64 + r.val) * 4 + q.val) % 4 = q.val by omega]
theorem meta_pad (hl : 21824 ≤ (g.val * 14 + k.val) * 64 + r.val) (q : Fin 4) :
    metaAt (X2 m c g) k (ValueIdx.ix4 0 0 r q) = ((-1 : ℝ) : EReal) := by
  rw [X2_at, lit0_pad _ (by show 87296 ≤ ((g.val * 14 + k.val) * 64 + r.val) * 4 + q.val; omega)]

theorem Wt_eq (e : (g.val * 14 + k.val) * 64 + r.val = l) : Wt g k = lvl l := by
  subst e
  rw [lvl_tile _ _ r.isLt]
  exact lit1_eq _

/-- The four rows of bounds a tile uses for the regions of scale `s`. -/
abbrev rws (s : ℕ) : Vec Ideal S4x100 .f32 := rowsB (BN m c b) (Wt g k * 4 + 20 * s)

theorem rws_at (s : ℕ) (hs : s < 2) (i : Fin 4) (j : Fin 100) :
    rws m c b g k s (ValueIdx.ix2 i j) = bndRow (X0 m c b) s (Wt g k) i.val (ValueIdx.ix2 0 j) := bnd_rows _ _ s _ hs (Wt_le g k) i j

/-- The kernel's test of a location against a box's region. -/
theorem ins_at (s : ℕ) (hs : s < 2) (e : (g.val * 14 + k.val) * 64 + r.val = l) (hl : l < 21824) (j : Fin 100) :
    Ins (rws m c b g k s) (metaAt (X2 m c g) k) r j ↔ In (lv0 m c) (bx0 m c) b j s l := by
  have h0 := X0_at m c b j 0
  have h1 := X0_at m c b j 1
  have h2 := X0_at m c b j 2
  have h3 := X0_at m c b j 3
  have hw := Wt_le g k
  unfold Ins In
  rw [rws_at m c b g k s hs, rws_at m c b g k s hs, rws_at m c b g k s hs, rws_at m c b g k s hs,
    meta_at m c g k r l e hl 0, meta_at m c g k r l e hl 1]
  show ((((bndRow (F := Ideal) _ s _ 0 _ : EReal) ≤ ((xs l : ℝ) : EReal) ∧ ((xs l : ℝ) : EReal) < (bndRow (F := Ideal) _ s _ 2 _ : EReal)) ∧ (bndRow (F := Ideal) _ s _ 1 _ : EReal) ≤ ((ys l : ℝ) : EReal))
    ∧ ((ys l : ℝ) : EReal) < (bndRow (F := Ideal) _ s _ 3 _ : EReal)) ↔ _
  rw [bndRow_0 _ s _ hw, bndRow_1, bndRow_2, bndRow_3, X0_lvl]
  rw [show X0 m c b (ValueIdx.ix3 0 0 j) = _ from h0, show X0 m c b (ValueIdx.ix3 0 1 j) = _ from h1,
    show X0 m c b (ValueIdx.ix3 0 2 j) = _ from h2, show X0 m c b (ValueIdx.ix3 0 3 j) = _ from h3, Wt_eq g k r l e]
  have hd : lvl l ≤ 4 := Wt_eq g k r l e ▸ hw
  by_cases hc : lv0 m c (ValueIdx.ix2 b j) = BitVec.ofNat 32 (lvl l)
  · rw [if_pos ((lvl_word _ _ hd).2 hc)]
    exact ⟨fun h => ⟨hc, ⟨h.1.1.1, h.1.1.2⟩, h.1.2, h.2⟩, fun h => ⟨⟨⟨h.2.1.1, h.2.1.2⟩, h.2.2.1⟩, h.2.2.2⟩⟩
  · rw [if_neg fun h => hc ((lvl_word _ _ hd).1 h)]
    refine ⟨fun h => ?_, fun h => absurd h.1 hc⟩
    have hx : xs l < 128 := Cert.ReferenceIdeal.Hand.xs_lt l
    have := h.1.1.1
    have h2 : (1000000000 : ℝ) ≤ xs l := EReal.coe_le_coe_iff.1 this
    have h3 : (xs l : ℝ) < 128 := by exact_mod_cast hx
    linarith

/-- A padding row lies in no region. -/
theorem ins_pad (s : ℕ) (hs : s < 2) (hl : 21824 ≤ (g.val * 14 + k.val) * 64 + r.val) (j : Fin 100) :
    ¬ Ins (rws m c b g k s) (metaAt (X2 m c g) k) r j := by
  unfold Ins
  rw [rws_at m c b g k s hs 1, meta_pad m c g k r hl 1]
  show ¬ ((_ ∧ bndRow (F := Ideal) _ s _ 1 _ ≤ ((-1 : ℝ) : EReal)) ∧ _)
  rw [bndRow_1]
  rintro ⟨⟨_, h⟩, _⟩
  have := (lo_nonneg _ _ _ _).trans h
  have h2 : (0 : ℝ) ≤ -1 := by exact_mod_cast this
  norm_num at h2

/-- The least rank at a location of a tile. -/
abbrev sel : EReal := tSel (rankOf (BN m c b)) (rws m c b g k 0) (rws m c b g k 1) (metaAt (X2 m c g) k) (ValueIdx.ix2 r 0)

theorem area_eq : area1 (X1 m c b) = area (bx0 m c) b := by
  funext j
  unfold area1 area
  rw [X1_at, X1_at, X1_at, X1_at]

theorem rank_at (j : Fin 100) : rankOf (BN m c b) (ValueIdx.ix2 0 j) = ((rk (area (bx0 m c) b) j : ℝ) : EReal) := by
  refine (pay10_apply (X0 m c b) (X1 m c b) (fun i j => ?_) j).trans (by rw [area_eq])
  exact (X0_at m c b j (i.castLE (by omega))).trans (X1_at m c b j (i.castLE (by omega))).symm

theorem sel_at (e : (g.val * 14 + k.val) * 64 + r.val = l) (hl : l < 21824) :
    IsLeast (Set.range (key (area (bx0 m c) b) (Pos (lv0 m c) (bx0 m c) b l) (Ign (lv0 m c) (bx0 m c) b l))) (sel m c b g k r) := by
  classical
  have h := tSel_least (rankOf (BN m c b)) (rws m c b g k 0) (rws m c b g k 1) (metaAt (X2 m c g) k) r
  have hk : tKey (rankOf (BN m c b)) (rws m c b g k 0) (rws m c b g k 1) (metaAt (X2 m c g) k) r
      = key (area (bx0 m c) b) (Pos (lv0 m c) (bx0 m c) b l) (Ign (lv0 m c) (bx0 m c) b l) := by
    funext j
    unfold tKey key
    rw [rank_at]
    simp only [ins_at m c b g k r l 0 (by omega) e hl, ins_at m c b g k r l 1 (by omega) e hl]
  rw [hk] at h
  exact h

theorem sel_pad (hl : 21824 ≤ (g.val * 14 + k.val) * 64 + r.val) : sel m c b g k r = ((1000000000 : ℝ) : EReal) := by
  classical
  obtain ⟨⟨j, hj⟩, _⟩ := tSel_least (rankOf (BN m c b)) (rws m c b g k 0) (rws m c b g k 1) (metaAt (X2 m c g) k) r
  refine hj.symm.trans ?_
  unfold tKey
  rw [if_neg (ins_pad m c b g k r 1 (by omega) hl j)]

/-- The widths and heights are not negative. -/
def Ord : Prop := ∀ j, 0 ≤ bx0 m c (ValueIdx.ix3 b j 2) - bx0 m c (ValueIdx.ix3 b j 0) ∧ 0 ≤ bx0 m c (ValueIdx.ix3 b j 3) - bx0 m c (ValueIdx.ix3 b j 1)

theorem pos_ign (ho : Ord m c b) (j : Fin 100) (h : Pos (lv0 m c) (bx0 m c) b l j) : Ign (lv0 m c) (bx0 m c) b l j :=
  ⟨h.1, cell_mono _ _ _ _ (ho j).1 h.2.1, cell_mono _ _ _ _ (ho j).2 h.2.2⟩

theorem sel_cases (ho : Ord m c b) (e : (g.val * 14 + k.val) * 64 + r.val = l) (hl : l < 21824) :
    (∃ s, Chosen (area (bx0 m c) b) (Pos (lv0 m c) (bx0 m c) b l) s ∧ sel m c b g k r = ((rk (area (bx0 m c) b) s : ℝ) : EReal))
    ∨ ((∀ j, ¬ Pos (lv0 m c) (bx0 m c) b l j) ∧ (∃ j, Ign (lv0 m c) (bx0 m c) b l j) ∧ sel m c b g k r = ((1000 : ℝ) : EReal))
    ∨ ((∀ j, ¬ Ign (lv0 m c) (bx0 m c) b l j) ∧ (∀ j, ¬ Pos (lv0 m c) (bx0 m c) b l j) ∧ sel m c b g k r = ((1000000000 : ℝ) : EReal)) :=
  least_key (pos_ign m c b l ho) (sel_at m c b g k r l e hl)

end Cert.KernelIdeal.Hand

end
-- ==== Proof.KOut.lean ====
/- What a tile's targets are at a location, by the box the location chooses. -/
module

public import proofs.«01_k».proof.Proof.KVal

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx
open Cert.Words Cert.Tables Cert.Spec
open Cert.ReferenceIdeal.Hand (Pos Ign In area)

variable (m : (ℓ : Loc nD τ sig) → Buf (Elt Ideal) ℓ) (c : Dev nD) (b : Fin 8)
variable (g : Fin 25) (k : Fin 14) (r : Fin 64) (l : ℕ)

/-- One where a box is the one a location chooses. -/
abbrev one (j : Fin 100) : EReal := tOne (rankOf (BN m c b)) (rws m c b g k 0) (rws m c b g k 1) (metaAt (X2 m c g) k) (ValueIdx.ix2 r j)
/-- One where a location lies in an inner region. -/
abbrev pos : EReal := tPos (rankOf (BN m c b)) (rws m c b g k 0) (rws m c b g k 1) (metaAt (X2 m c g) k) (ValueIdx.ix2 r 0)

theorem one_at (s : Fin 100) (h : sel m c b g k r = ((rk (area (bx0 m c) b) s : ℝ) : EReal)) (j : Fin 100) :
    one m c b g k r j = if j = s then ((1 : ℝ) : EReal) else ((0 : ℝ) : EReal) := by
  refine (tOne_apply _ _ _ _ r j).trans ?_
  rw [rank_at]
  refine if_congr ?_ rfl rfl
  rw [show tSel _ _ _ _ _ = _ from h, EReal.coe_eq_coe_iff, Nat.cast_inj]
  exact ⟨fun h => rk_inj h, fun h => by rw [h]⟩

variable (ho : Ord m c b) (e : (g.val * 14 + k.val) * 64 + r.val = l) (hl : l < 21824)
include ho e hl

open Classical in
theorem pos_at : pos m c b g k r = if ∃ j, Pos (lv0 m c) (bx0 m c) b l j then ((1 : ℝ) : EReal) else ((0 : ℝ) : EReal) := by
  refine (tPos_apply _ _ _ _ r).trans (if_congr ?_ rfl rfl)
  rcases sel_cases m c b g k r l ho e hl with ⟨s, hs, h⟩ | ⟨hn, _, h⟩ | ⟨_, hn, h⟩
  · rw [show tSel _ _ _ _ _ = _ from h]
    exact ⟨fun _ => ⟨s, hs.1⟩, fun _ => rk_coe_lt s⟩
  · rw [show tSel _ _ _ _ _ = _ from h]
    exact ⟨fun h => absurd h (lt_irrefl _), fun ⟨j, hj⟩ => absurd hj (hn j)⟩
  · rw [show tSel _ _ _ _ _ = _ from h]
    refine ⟨fun h => ?_, fun ⟨j, hj⟩ => absurd hj (hn j)⟩
    have := EReal.coe_lt_coe_iff.1 h
    norm_num at this

theorem chosen_of (h : ∃ j, Pos (lv0 m c) (bx0 m c) b l j) :
    ∃ s, Chosen (area (bx0 m c) b) (Pos (lv0 m c) (bx0 m c) b l) s ∧ sel m c b g k r = ((rk (area (bx0 m c) b) s : ℝ) : EReal) := by
  obtain ⟨j, hj⟩ := h
  rcases sel_cases m c b g k r l ho e hl with h | ⟨hn, _⟩ | ⟨_, hn, _⟩
  · exact h
  · exact absurd hj (hn j)
  · exact absurd hj (hn j)

/-- A sum over the boxes picks the chosen one. -/
theorem pick (s : Fin 100) (h : sel m c b g k r = ((rk (area (bx0 m c) b) s : ℝ) : EReal)) (f : Fin 100 → EReal) :
    ∑ j : Fin 100, one m c b g k r j * f j = f s := by
  rw [Finset.sum_eq_single s]
  · rw [one_at m c b g k r s h, if_pos rfl, EReal.coe_one, one_mul]
  · intro j _ hj
    rw [one_at m c b g k r s h, if_neg hj, EReal.coe_zero, zero_mul]
  · intro h; exact absurd (Finset.mem_univ s) h

theorem cls_some (s : Fin 100) (hs : Chosen (area (bx0 m c) b) (Pos (lv0 m c) (bx0 m c) b l) s)
    (h : sel m c b g k r = ((rk (area (bx0 m c) b) s : ℝ) : EReal)) (q : Fin 80) :
    clsAt (BN m c b) (LN m c b) (X2 m c g) (Wt g) k (ValueIdx.ix3 0 r q)
      = if ((q.val : ℝ) : EReal) = bx0 m c (ValueIdx.ix3 b s 4) then ((1 : ℝ) : EReal) else ((0 : ℝ) : EReal) := by
  refine (tCls_apply (rankOf (BN m c b)) (rws m c b g k 0) (rws m c b g k 1) (metaAt (X2 m c g) k) (LN m c b) r q).trans ?_
  have hp : pos m c b g k r = 1 := by
    classical
    rw [pos_at m c b g k r l ho e hl, if_pos ⟨s, hs.1⟩, EReal.coe_one]
  refine Eq.trans (Finset.sum_congr rfl fun j _ => ?_) ((pick m c b g k r l ho e hl s h fun j => LN m c b (ValueIdx.ix2 j q)).trans ?_)
  · show one m c b g k r j * pos m c b g k r * _ = _
    rw [hp, mul_one]
  · show k0_pay11 (X1 m c b) (ValueIdx.ix2 s q) = _
    rw [pay11_apply, X1_at]

theorem cls_none (h : ¬ ∃ j, Pos (lv0 m c) (bx0 m c) b l j) (q : Fin 80) :
    clsAt (BN m c b) (LN m c b) (X2 m c g) (Wt g) k (ValueIdx.ix3 0 r q) = 0 := by
  refine (tCls_apply (rankOf (BN m c b)) (rws m c b g k 0) (rws m c b g k 1) (metaAt (X2 m c g) k) (LN m c b) r q).trans ?_
  have hp : pos m c b g k r = 0 := by
    classical
    rw [pos_at m c b g k r l ho e hl, if_neg h, EReal.coe_zero]
  refine Finset.sum_eq_zero fun j _ => ?_
  show one m c b g k r j * pos m c b g k r * _ = 0
  rw [hp, mul_zero, zero_mul]

theorem ltrb_some (s : Fin 100) (hs : Chosen (area (bx0 m c) b) (Pos (lv0 m c) (bx0 m c) b l) s)
    (h : sel m c b g k r = ((rk (area (bx0 m c) b) s : ℝ) : EReal)) (q : Fin 4) :
    auxAt (BN m c b) (X1 m c b) (X2 m c g) (Wt g) k (ValueIdx.ix3 0 r (q.castLE (by omega)))
      = (((entry l (2 + q.val % 2) : ℝ) : EReal) - bx0 m c (ValueIdx.ix3 b s (q.castLE (by omega))))
          * (if q.val < 2 then ((1 : ℝ) : EReal) else ((-1 : ℝ) : EReal)) * ((1 / 4 : ℝ) : EReal) := by
  refine (tAux_ltrb (rankOf (BN m c b)) (X1 m c b) (rws m c b g k 0) (rws m c b g k 1) (metaAt (X2 m c g) k) r q).trans ?_
  have hp : pos m c b g k r = 1 := by
    classical
    rw [pos_at m c b g k r l ho e hl, if_pos ⟨s, hs.1⟩, EReal.coe_one]
  have hsum := pick m c b g k r l ho e hl s h fun j => X1 m c b (ValueIdx.ix3 0 j (q.castLE (by omega)))
  rw [meta_at m c g k r l e hl]
  rw [show tPos _ _ _ _ _ = _ from hp, one_mul]
  refine congrArg (fun z => (_ - z) * _ * _) (hsum.trans ?_)
  exact X1_at m c b s _

theorem ltrb_none (h : ¬ ∃ j, Pos (lv0 m c) (bx0 m c) b l j) (q : Fin 4) :
    auxAt (BN m c b) (X1 m c b) (X2 m c g) (Wt g) k (ValueIdx.ix3 0 r (q.castLE (by omega))) = 0 := by
  refine (tAux_ltrb (rankOf (BN m c b)) (X1 m c b) (rws m c b g k 0) (rws m c b g k 1) (metaAt (X2 m c g) k) r q).trans ?_
  have hp : pos m c b g k r = 0 := by
    classical
    rw [pos_at m c b g k r l ho e hl, if_neg h, EReal.coe_zero]
  rw [show tPos _ _ _ _ _ = _ from hp, zero_mul, mul_zero]

/-- The mask of the classes. -/
theorem mask_at : auxAt (BN m c b) (X1 m c b) (X2 m c g) (Wt g) k (ValueIdx.ix3 0 r 4) ≠ 0
    ↔ (∃ j, Pos (lv0 m c) (bx0 m c) b l j) ∨ ∀ j, ¬ Pos (lv0 m c) (bx0 m c) b l j ∧ ¬ Ign (lv0 m c) (bx0 m c) b l j := by
  have e1 : auxAt (BN m c b) (X1 m c b) (X2 m c g) (Wt g) k (ValueIdx.ix3 0 r 4)
      = ((1 : ℝ) : EReal) - (if sel m c b g k r = ((1000 : ℝ) : EReal) then ((1 : ℝ) : EReal) else ((0 : ℝ) : EReal)) :=
    tAux_cls (rankOf (BN m c b)) (X1 m c b) (rws m c b g k 0) (rws m c b g k 1) (metaAt (X2 m c g) k) r
  have one_ne : ((1 : ℝ) : EReal) - ((0 : ℝ) : EReal) ≠ 0 := by
    rw [← EReal.coe_sub, sub_zero]; simp
  rcases sel_cases m c b g k r l ho e hl with ⟨s, hs, h⟩ | ⟨hn, ⟨i, hi⟩, h⟩ | ⟨hi, hn, h⟩
  · rw [e1, h, if_neg (ne_of_lt (rk_coe_lt s))]
    exact ⟨fun _ => .inl ⟨s, hs.1⟩, fun _ => one_ne⟩
  · rw [e1, h, if_pos rfl]
    refine ⟨fun h => absurd (by rw [← EReal.coe_sub, sub_self, EReal.coe_zero]) h, fun h => ?_⟩
    rcases h with ⟨j, hj⟩ | h
    · exact absurd hj (hn j)
    · exact absurd hi (h i).2
  · rw [e1, h, if_neg (fun h => by rw [EReal.coe_eq_coe_iff] at h; norm_num at h)]
    exact ⟨fun _ => .inr fun j => ⟨hn j, hi j⟩, fun _ => one_ne⟩

/-- The mask of the boxes. -/
theorem posmask_at : auxAt (BN m c b) (X1 m c b) (X2 m c g) (Wt g) k (ValueIdx.ix3 0 r 5) ≠ 0 ↔ ∃ j, Pos (lv0 m c) (bx0 m c) b l j := by
  classical
  have e1 : auxAt (BN m c b) (X1 m c b) (X2 m c g) (Wt g) k (ValueIdx.ix3 0 r 5) = pos m c b g k r :=
    tAux_pos (rankOf (BN m c b)) (X1 m c b) (rws m c b g k 0) (rws m c b g k 1) (metaAt (X2 m c g) k) r
  rw [e1, pos_at m c b g k r l ho e hl]
  by_cases h : ∃ j, Pos (lv0 m c) (bx0 m c) b l j
  · rw [if_pos h]; exact ⟨fun _ => h, fun _ => by simp⟩
  · rw [if_neg h]; exact ⟨fun h' => absurd EReal.coe_zero h', fun h' => absurd h' h⟩

end Cert.KernelIdeal.Hand

end
-- ==== Proof.KSum.lean ====
/- The kernel's count of an image: over all the tiles it is the count over the locations. -/
module

public import proofs.«01_k».proof.Proof.KOut

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx
open Cert.Words Cert.Tables Cert.Spec
open Cert.ReferenceIdeal.Hand (Pos Ign In area)

/-- A sum over two coordinates is a sum over the number they make. -/
theorem sum_two (A B : ℕ) (f : ℕ → EReal) : ∑ i : Fin A, ∑ j : Fin B, f (i.val * B + j.val) = ∑ n ∈ Finset.range (A * B), f n := by
  induction A with
  | zero => simp
  | succ A ih =>
    rw [Fin.sum_univ_castSucc, show (A + 1) * B = A * B + B by ring, Finset.sum_range_add]
    refine congrArg₂ (· + ·) ih ?_
    exact (Finset.sum_range fun j => f (A * B + j)).symm

/-- The column of tiles' rows, summed. -/
theorem sum_col (v : FVec Ideal S64x1 .f32) (y : S1x1x1.Idx) :
    k0_pay1 (shapeCast S1x64x1 v shapeCasts_S64x1_S1x64x1) y = ∑ r : Fin 64, v (ValueIdx.ix2 r 0) := by
  have hr : ∀ j : S1.Idx, multiReduction .add [1, 2] S1 (shapeCast S1x64x1 v shapeCasts_S64x1_S1x64x1) 0x00000000#32 reduces_S1x64x1_S1 (.inl rfl) rfl j
      = ∑ r : Fin 64, v (ValueIdx.ix2 r 0) := fun j => by
    refine (Ideal.multiReduction_add_total _ _ _ (by decide) _ _ j).trans ?_
    let eq : S1x64x1.Idx ≃ Fin 64 :=
      { toFun := fun i => i 1
        invFun := fun r => ValueIdx.ix3 0 r 0
        left_inv := fun i => funext fun a => match a with
          | ⟨0, _⟩ => Fin.ext (by have h : (i 0).val < 1 := (i 0).isLt; show 0 = (i 0).val; omega)
          | ⟨1, _⟩ => rfl
          | ⟨2, _⟩ => Fin.ext (by have h : (i 2).val < 1 := (i 2).isLt; show 0 = (i 2).val; omega)
        right_inv := fun r => rfl }
    refine Fintype.sum_equiv eq _ _ fun i => ?_
    refine shapeCast_apply _ _ _ _ ?_
    rw [Shape.rowMajor_val_two, Shape.rowMajor_val_three]
    have h0 : (i 0).val < 1 := (i 0).isLt
    have h2 : (i 2).val < 1 := (i 2).isLt
    show (i 1).val * 1 + 0 = ((i 0).val * 64 + (i 1).val) * 1 + (i 2).val
    omega
  have hs : ∀ i : S1x1x1.Idx, ∃ j, shapeCast S1x1x1 (multiReduction .add [1, 2] S1 (shapeCast S1x64x1 v shapeCasts_S64x1_S1x64x1) 0x00000000#32 reduces_S1x64x1_S1 (.inl rfl) rfl) shapeCasts_S1_S1x1x1 i
      = multiReduction .add [1, 2] S1 (shapeCast S1x64x1 v shapeCasts_S64x1_S1x64x1) 0x00000000#32 reduces_S1x64x1_S1 (.inl rfl) rfl j := fun i => ⟨_, rfl⟩
  obtain ⟨j, hj⟩ := hs _
  exact hj.trans (hr j)

variable (m : (ℓ : Loc nD τ sig) → Buf (Elt Ideal) ℓ) (c : Dev nD) (b : Fin 8)

/-- A tile's rows, summed over the fourteen tiles. -/
theorem posSum_at (B : Vec Ideal S48x100 .f32) (x2 : Vec Ideal S1x14x64x4 .f32) (W : Fin 14 → ℕ) (r : Fin 64) :
    posSum B x2 W (ValueIdx.ix2 r 0) = ∑ k : Fin 14, posAt B x2 W k (ValueIdx.ix2 r 0) := by
  simp only [Fin.sum_univ_castSucc, Fin.sum_univ_zero]
  refine Eq.trans ?_ (congrArg (fun z => z + _ + _ + _ + _ + _ + _ + _ + _ + _ + _ + _ + _ + _ + _) w_zero)
  rfl

/-- One at a location in an inner region, zero at the others and past the last location. -/
def hit (n : ℕ) : EReal := by
  classical
  exact if n < 21824 ∧ ∃ j, Pos (lv0 m c) (bx0 m c) b n j then ((1 : ℝ) : EReal) else ((0 : ℝ) : EReal)

variable (ho : Ord m c b)
include ho

theorem hit_at (g : Fin 25) (k : Fin 14) (r : Fin 64) :
    posAt (BN m c b) (X2 m c g) (Wt g) k (ValueIdx.ix2 r 0) = hit m c b ((g.val * 14 + k.val) * 64 + r.val) := by
  classical
  show pos m c b g k r = _
  unfold hit
  by_cases hl : (g.val * 14 + k.val) * 64 + r.val < 21824
  · rw [pos_at m c b g k r _ ho rfl hl]
    exact if_congr ⟨fun h => ⟨hl, h⟩, fun h => h.2⟩ rfl rfl
  · rw [if_neg fun h => hl h.1]
    refine (tPos_apply _ _ _ _ r).trans (if_neg ?_)
    rw [show tSel _ _ _ _ _ = _ from sel_pad m c b g k r (by omega)]
    intro h
    have := EReal.coe_lt_coe_iff.1 h
    norm_num at this

/-- A group's part of the count. -/
theorem part_at (g : Fin 25) : ∑ r : Fin 64, posSum (BN m c b) (X2 m c g) (Wt g) (ValueIdx.ix2 r 0)
    = ∑ i : Fin (14 * 64), hit m c b (g.val * (14 * 64) + i.val) := by
  rw [← Finset.sum_range fun n => hit m c b (g.val * (14 * 64) + n), ← sum_two 14 64 fun n => hit m c b (g.val * (14 * 64) + n), Finset.sum_comm]
  refine Finset.sum_congr rfl fun r _ => ?_
  rw [posSum_at]
  refine Finset.sum_congr rfl fun k _ => ?_
  rw [hit_at m c b ho]
  exact congrArg _ (by ring)

theorem cnt_at (n : ℕ) (y : S1x1x1.Idx) : cnt m c b n y
    = ∑ i ∈ Finset.range (n + 1), ∑ r : Fin 64, posSum (BN m c b) (X2 m c (grpN i)) (Wt (grpN i)) (ValueIdx.ix2 r 0) := by
  induction n generalizing y with
  | zero =>
    rw [Finset.sum_range_one]
    exact sum_col _ y
  | succ n ih =>
    rw [Finset.sum_range_succ, ← ih y]
    show (shapeCast S1x1x1 (cnt m c b n) shapeCasts_S1x1x1_S1x1x1 y : EReal) + k0_pay1 (F := Ideal) _ y = _
    rw [shapeCast_self, sum_col]

open Classical in
/-- The count of an image. -/
theorem count_at (y : S1x1x1.Idx) : cnt m c b 24 y
    = ∑ l : Fin 21824, if ∃ j, Pos (lv0 m c) (bx0 m c) b l.val j then ((1 : ℝ) : EReal) else ((0 : ℝ) : EReal) := by
  rw [cnt_at m c b ho, Finset.sum_range]
  have h1 : ∀ i : Fin (24 + 1), ∑ r : Fin 64, posSum (BN m c b) (X2 m c (grpN i.val)) (Wt (grpN i.val)) (ValueIdx.ix2 r 0)
      = ∑ j : Fin (14 * 64), hit m c b (i.val * (14 * 64) + j.val) := fun i => by
    rw [part_at m c b ho]
    have : (grpN i.val).val = i.val := Nat.mod_eq_of_lt i.isLt
    rw [this]
  rw [Finset.sum_congr rfl fun i _ => h1 i, sum_two (24 + 1) (14 * 64), show (24 + 1) * (14 * 64) = 21824 + 576 by norm_num, Finset.sum_range_add]
  have h2 : ∑ n ∈ Finset.range 576, hit m c b (21824 + n) = 0 := Finset.sum_eq_zero fun n _ => by
    unfold hit
    rw [if_neg fun h => by omega, EReal.coe_zero]
  rw [h2, add_zero, Finset.sum_range]
  refine Finset.sum_congr rfl fun l _ => ?_
  unfold hit
  exact if_congr ⟨fun h => h.2, fun h => ⟨l.isLt, h⟩⟩ rfl rfl

end Cert.KernelIdeal.Hand

end
-- ==== Proof.Same.lean ====
/- The kernel's five results are the reference's. -/
module

public import proofs.«01_k».proof.Proof.KSum

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx
open Cert.Words Cert.Tables Cert.Spec
open Cert.ReferenceIdeal.Hand (Pos Ign In area)
open Cert.ReferenceIdeal.Read (val_main_v263 val_main_v304 val_main_v308 val_main_v298 val_main_v309 val_main_v243 val_main_v236)

/-- A whole label is a class number exactly when its integer is. -/
theorem label_iff (x : EReal) (h : x = Ideal.liftRound Int.floor x) (q : Fin 80) :
    ((q.val : ℝ) : EReal) = x ↔ Ideal.fptosi 32 x = BitVec.ofNat 32 q.val := by
  have hq := q.isLt
  constructor
  · rintro rfl
    exact fptosi_small _ (by omega)
  · intro e
    have hz : ∀ z : ℤ, -(2 ^ 31) ≤ z → z ≤ 2 ^ 31 - 1 → BitVec.ofInt 32 z = BitVec.ofNat 32 q.val → z = q.val := fun z h1 h2 e => by
      have := congrArg BitVec.toInt e
      rw [toInt_small _ (by omega), BitVec.toInt_ofInt, Int.bmod_eq_of_le (by omega) (by omega)] at this
      exact this
    unfold Ideal.fptosi at e
    induction x with
    | bot =>
      have := hz (-(2 ^ (32 - 1) : ℕ)) (by norm_num) (by norm_num) e
      norm_num at this; omega
    | top =>
      have := hz ((2 ^ (32 - 1) : ℕ) - 1) (by norm_num) (by norm_num) e
      norm_num at this; omega
    | coe r =>
      have hr : r = (⌊r⌋ : ℝ) := EReal.coe_eq_coe_iff.1 h
      generalize ⌊r⌋ = z at hr
      subst hr
      have e1 : Ideal.toIntClamped (-(2 ^ (32 - 1) : ℕ)) ((2 ^ (32 - 1) : ℕ) - 1) (((z : ℝ)) : EReal) = max (-(2 ^ 31)) (min (2 ^ 31 - 1) z) := by
        show max _ (min _ (if (0 : ℝ) ≤ (z : ℝ) then ⌊(z : ℝ)⌋ else ⌈(z : ℝ)⌉)) = _
        rw [Int.floor_intCast, Int.ceil_intCast, ite_self]
        norm_num
      rw [e1] at e
      have := hz _ (by omega) (by omega) e
      have hz2 : z = q.val := by omega
      rw [hz2]; simp

/-- Turning a difference from a location's coordinate round. -/
theorem turn (a : ℝ) (x : EReal) : ((a : EReal) - x) * ((-1 : ℝ) : EReal) = x - a := by
  rw [EReal.coe_neg, EReal.coe_one, mul_neg, mul_one, EReal.neg_sub (.inl (EReal.coe_ne_bot a)) (.inl (EReal.coe_ne_top a)), add_comm]
  exact (sub_eq_add_neg _ _).symm

variable (m : (ℓ : Loc nD τ sig) → Buf (Elt Ideal) ℓ) (c : Dev nD) (b : Fin 8) (l : Fin 21824)

/-- The group, the tile and the row of a location. -/
abbrev gOf : Fin 25 := ⟨l.val / 896, by omega⟩
abbrev kOf : Fin 14 := ⟨l.val % 896 / 64, by omega⟩
abbrev rOf : Fin 64 := ⟨l.val % 896 % 64, by omega⟩

theorem place : ((gOf l).val * 14 + (kOf l).val) * 64 + (rOf l).val = l.val := by
  show (l.val / 896 * 14 + l.val % 896 / 64) * 64 + l.val % 896 % 64 = l.val
  omega

theorem R3_at (q : Fin 80) : R3 m c (ValueIdx.ix3 b l q)
    = clsAt (BN m c b) (LN m c b) (X2 m c (gOf l)) (Wt (gOf l)) (kOf l) (ValueIdx.ix3 0 (rOf l) q) := rfl
theorem R4_at (q : Fin 8) : R4 m c (ValueIdx.ix3 b l q)
    = auxAt (BN m c b) (X1 m c b) (X2 m c (gOf l)) (Wt (gOf l)) (kOf l) (ValueIdx.ix3 0 (rOf l) q) := rfl

theorem slice4 (A : Vec Ideal S8x21824x8 .f32) (o : Fin 8) (h : S8x21824x8.Slices ![0, 0, o.val] S8x21824x1) :
    shapeCast S8x21824 (extractStridedSlice S8x21824x1 ![0, 0, o.val] A h) shapeCasts_S8x21824x1_S8x21824 (ValueIdx.ix2 b l) = A (ValueIdx.ix3 b l o) := by
  refine (shapeCast_apply _ _ _ (ValueIdx.ix3 b l 0) ?_).trans ?_
  · rw [Shape.rowMajor_val_two, Shape.rowMajor_val_three]
    show (b.val * 21824 + l.val) * 1 + 0 = b.val * 21824 + l.val
    omega
  · exact extractStridedSlice_apply _ _ _ _ _ fun a => match a with
      | ⟨0, _⟩ => by show b.val = 0 + b.val; omega
      | ⟨1, _⟩ => by show l.val = 0 + l.val; omega
      | ⟨2, _⟩ => by show o.val = o.val + 0; omega

theorem H8_at (A : Vec Ideal S8x21824x8 .f32) : H8 A (ValueIdx.ix2 b l) = 1#1 ↔ A (ValueIdx.ix3 b l 4) ≠ (0 : EReal) := by
  have h := slice4 b l A 4 slices_S8x21824x8_S8x21824x1_0_0_4
  show Ideal.cmp .une (shapeCast S8x21824 (extractStridedSlice S8x21824x1 ![0, 0, 4] A slices_S8x21824x8_S8x21824x1_0_0_4) shapeCasts_S8x21824x1_S8x21824 (ValueIdx.ix2 b l))
    (Ideal.ofBits .f32 0x00000000#32) = 1#1 ↔ _
  rw [une_iff, w_zero]
  exact iff_of_eq (congrArg (fun z : EReal => z ≠ 0) h)
theorem H14_at (A : Vec Ideal S8x21824x8 .f32) : H14 A (ValueIdx.ix2 b l) = 1#1 ↔ A (ValueIdx.ix3 b l 5) ≠ (0 : EReal) := by
  have h := slice4 b l A 5 slices_S8x21824x8_S8x21824x1_0_0_5
  show Ideal.cmp .une (shapeCast S8x21824 (extractStridedSlice S8x21824x1 ![0, 0, 5] A slices_S8x21824x8_S8x21824x1_0_0_5) shapeCasts_S8x21824x1_S8x21824 (ValueIdx.ix2 b l))
    (Ideal.ofBits .f32 0x00000000#32) = 1#1 ↔ _
  rw [une_iff, w_zero]
  exact iff_of_eq (congrArg (fun z : EReal => z ≠ 0) h)
theorem H10_at (A : Vec Ideal S8x21824x8 .f32) (q : Fin 4) : H10 A (ValueIdx.ix3 b l q) = A (ValueIdx.ix3 b l (q.castLE (by omega))) :=
  extractStridedSlice_apply _ _ _ _ _ fun a => match a with
    | ⟨0, _⟩ => by show b.val = 0 + b.val; omega
    | ⟨1, _⟩ => by show l.val = 0 + l.val; omega
    | ⟨2, _⟩ => by show q.val = 0 + q.val; omega

/-- What the claim asks of an image's boxes. -/
structure Tame : Prop where
  ord : Ord m c b
  small : ∀ j, area (bx0 m c) b j < ((10000000 : ℝ) : EReal)
  whole : ∀ j, bx0 m c (ValueIdx.ix3 b j 4) = Ideal.liftRound Int.floor (bx0 m c (ValueIdx.ix3 b j 4))

/-- The second result. -/
theorem same_mask (h : ∀ b, Tame m c b) : H8 (R4 m c) = val_main_v304 (F := Ideal) (lv0 m c) (bx0 m c) := by
  funext i
  obtain ⟨b, l, rfl⟩ : ∃ b l, i = ValueIdx.ix2 b l := ⟨i 0, i 1, ValueIdx.eq_ix2 i⟩
  refine bit_ext ((H8_at b l _).trans ?_)
  rw [R4_at, mask_at m c b (gOf l) (kOf l) (rOf l) l.val (h b).ord (place l) l.isLt]
  exact (Cert.ReferenceIdeal.Hand.v304 (lv0 m c) (bx0 m c) b l).symm
/-- The fifth result. -/
theorem same_pos (h : ∀ b, Tame m c b) : H14 (R4 m c) = val_main_v309 (F := Ideal) (lv0 m c) (bx0 m c) := by
  funext i
  obtain ⟨b, l, rfl⟩ : ∃ b l, i = ValueIdx.ix2 b l := ⟨i 0, i 1, ValueIdx.eq_ix2 i⟩
  refine bit_ext ((H14_at b l _).trans ?_)
  rw [R4_at, posmask_at m c b (gOf l) (kOf l) (rOf l) l.val (h b).ord (place l) l.isLt]
  exact (Cert.ReferenceIdeal.Hand.v309 (lv0 m c) (bx0 m c) b l).symm

/-- The third result. -/
theorem same_count (h : ∀ b, Tame m c b) : H9 (R5 m c) = val_main_v308 (F := Ideal) (lv0 m c) (bx0 m c) := by
  classical
  funext i
  obtain ⟨b, rfl⟩ : ∃ b, i = ValueIdx.ix1 b := ⟨i 0, ValueIdx.eq_ix1 i⟩
  refine Eq.trans ?_ (Cert.ReferenceIdeal.Hand.v308 (lv0 m c) (bx0 m c) b).symm
  refine (shapeCast_apply _ _ _ (ValueIdx.ix3 b 0 0) ?_).trans ?_
  · rw [Shape.rowMajor_val_one, Shape.rowMajor_val_three]
    show (b.val * 1 + 0) * 1 + 0 = b.val
    omega
  · exact count_at m c b (h b).ord _

/-- The first result. -/
theorem same_cls (h : ∀ b, Tame m c b) : R3 m c = val_main_v263 (F := Ideal) (lv0 m c) (bx0 m c) := by
  classical
  funext i
  obtain ⟨b, l, q, rfl⟩ : ∃ b l q, i = ValueIdx.ix3 b l q := ⟨i 0, i 1, i 2, ValueIdx.eq_ix3 i⟩
  obtain ⟨n, hn, hleast⟩ := Cert.ReferenceIdeal.Hand.v243 (lv0 m c) (bx0 m c) b l
  refine Eq.trans (R3_at m c b l q) (Eq.trans ?_ (Cert.ReferenceIdeal.Hand.v263 (lv0 m c) (bx0 m c) b l n hn q).symm)
  by_cases hp : ∃ j, Pos (lv0 m c) (bx0 m c) b l.val j
  · obtain ⟨s, hs, hsel⟩ := chosen_of m c b (gOf l) (kOf l) (rOf l) l.val (h b).ord (place l) l.isLt hp
    have hns : n = s := Fin.ext (least_idx (h b).small hs (Cert.ReferenceIdeal.Hand.v236 (lv0 m c) (bx0 m c) b l) hleast)
    subst hns
    rw [cls_some m c b (gOf l) (kOf l) (rOf l) l.val (h b).ord (place l) l.isLt n hs hsel, if_pos hs.1, EReal.coe_one, mul_one]
    exact if_congr (label_iff _ ((h b).whole n) q) rfl rfl
  · rw [cls_none m c b (gOf l) (kOf l) (rOf l) l.val (h b).ord (place l) l.isLt hp, if_neg fun hn => hp ⟨n, hn⟩, EReal.coe_zero, mul_zero]

/-- The fourth result. -/
theorem same_regr (h : ∀ b, Tame m c b) : H10 (R4 m c) = val_main_v298 (F := Ideal) (lv0 m c) (bx0 m c) := by
  classical
  funext i
  obtain ⟨b, l, q, rfl⟩ : ∃ b l q, i = ValueIdx.ix3 b l q := ⟨i 0, i 1, i 2, ValueIdx.eq_ix3 i⟩
  obtain ⟨n, hn, hleast⟩ := Cert.ReferenceIdeal.Hand.v243 (lv0 m c) (bx0 m c) b l
  refine Eq.trans ((H10_at b l _ q).trans (R4_at m c b l _)) (Eq.trans ?_ (Cert.ReferenceIdeal.Hand.v298 (lv0 m c) (bx0 m c) b l n hn q).symm)
  by_cases hp : ∃ j, Pos (lv0 m c) (bx0 m c) b l.val j
  · obtain ⟨s, hs, hsel⟩ := chosen_of m c b (gOf l) (kOf l) (rOf l) l.val (h b).ord (place l) l.isLt hp
    have hns : n = s := Fin.ext (least_idx (h b).small hs (Cert.ReferenceIdeal.Hand.v236 (lv0 m c) (bx0 m c) b l) hleast)
    subst hns
    rw [ltrb_some m c b (gOf l) (kOf l) (rOf l) l.val (h b).ord (place l) l.isLt n hs hsel q, if_pos hs.1, EReal.coe_one, mul_one]
    refine congrArg (fun z : EReal => z * ((1 / 4 : ℝ) : EReal)) ?_
    by_cases hq : q.val < 2
    · rw [if_pos hq, if_pos hq, mul_one]
    · rw [if_neg hq, if_neg hq]
      exact turn _ _
  · rw [ltrb_none m c b (gOf l) (kOf l) (rOf l) l.val (h b).ord (place l) l.isLt hp q, if_neg fun hn => hp ⟨n, hn⟩, EReal.coe_zero, mul_zero]

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_boxes_tame
public import proofs.«01_k».proof.Proof.KFrame
public import proofs.«01_k».proof.Proof.KTable
public import proofs.«01_k».proof.Proof.IFinal
public import proofs.«01_k».proof.Proof.Pre
public import proofs.«01_k».proof.Proof.Same
public import Idealize.ShloMosaic.Adequacy
public import Idealize.ShloMosaic.Init

@[expose] public section

noncomputable section

namespace Cert.Proof

open Idealize.ShloMosaic Idealize.SL.Sem

theorem frame_k : Cert.quiescent_Kernel := fun m ρ _ =>
  Cert.Kernel.Kit.frame m ρ (Cert.Kernel.Hand.ok m) (Cert.Kernel.Hand.hyps m)

/-- The ideal kernel's run with its results left out. -/
theorem frame_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2.2.2.2.2, h.2⟩) (Cert.KernelIdeal.Hand.results m ρ)

theorem frame_i : Cert.quiescent_KernelIdeal := fun m ρ _ => frame_run m ρ
theorem frame_i_pre : Cert.quiescent_KernelIdeal_pre_boxes_tame := fun m ρ _ => frame_run m ρ

theorem frame_r : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)
theorem frame_r_pre : Cert.quiescent_ReferenceIdeal_pre_boxes_tame := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The precondition, box by box. -/
theorem tame (m : (ℓ : Loc Cert.KernelIdeal.nD Cert.KernelIdeal.τ Cert.KernelIdeal.sig) → Buf (Elt Ideal) ℓ)
    (h : Cert.Pre_KernelIdeal_boxes_tame m) (c : Dev Cert.KernelIdeal.nD) (b : Fin 8) : Cert.KernelIdeal.Hand.Tame m c b where
  ord j := (Cert.Pre_boxes_tame.Hand.box_of _ _ _ b j (h c)).1
  small j := (Cert.Pre_boxes_tame.Hand.box_of _ _ _ b j (h c)).2.1
  whole j := (Cert.Pre_boxes_tame.Hand.box_of _ _ _ b j (h c)).2.2

open Cert.ReferenceIdeal.Read in
theorem algebraic : Cert.algebraic_KernelIdeal_ReferenceIdeal_pre_boxes_tame := by
  intro m g m' g' hpre hargs
  have ht := fun c b => tame m hpre c b
  refine ⟨fun c => Cert.KernelIdeal.Hand.R3 m c, fun c => Cert.KernelIdeal.Hand.H8 (Cert.KernelIdeal.Hand.R4 m c),
    fun c => Cert.KernelIdeal.Hand.H9 (Cert.KernelIdeal.Hand.R5 m c), fun c => Cert.KernelIdeal.Hand.H10 (Cert.KernelIdeal.Hand.R4 m c),
    fun c => Cert.KernelIdeal.Hand.H14 (Cert.KernelIdeal.Hand.R4 m c),
    (θ_run Cert.KernelIdeal.defs _ _).mono (fun _ h => h.1) (Cert.KernelIdeal.Hand.results m g),
    (θ_run Cert.ReferenceIdeal.defs _ _).mono (fun r h c => ?_) (Cert.ReferenceIdeal.Value.run (F := Ideal) m' g')⟩
  obtain ⟨h0, h1, h2, h3, h4, h5⟩ := h c
  have e0 : StableHlo.launchContents m' c (Proc.devRef .tc Cert.ReferenceIdeal.main_arg0) = Cert.KernelIdeal.Hand.lv0 m c := (hargs c).1
  have e1 : StableHlo.launchContents m' c (Proc.devRef .tc Cert.ReferenceIdeal.main_arg1) = Cert.KernelIdeal.Hand.bx0 m c := (hargs c).2.1
  refine ⟨h0.trans ?_, h1.trans ?_, h2.trans ?_, h3.trans ?_, h4.trans ?_, h5⟩
  · exact (val_main_v263_eq _).trans ((congrArg₂ val_main_v263 e0 e1).trans (Cert.KernelIdeal.Hand.same_cls m c (ht c)).symm)
  · exact (val_main_v304_eq _).trans ((congrArg₂ val_main_v304 e0 e1).trans (Cert.KernelIdeal.Hand.same_mask m c (ht c)).symm)
  · exact (val_main_v308_eq _).trans ((congrArg₂ val_main_v308 e0 e1).trans (Cert.KernelIdeal.Hand.same_count m c (ht c)).symm)
  · exact (val_main_v298_eq _).trans ((congrArg₂ val_main_v298 e0 e1).trans (Cert.KernelIdeal.Hand.same_regr m c (ht c)).symm)
  · exact (val_main_v309_eq _).trans ((congrArg₂ val_main_v309 e0 e1).trans (Cert.KernelIdeal.Hand.same_pos m c (ht c)).symm)

theorem claim : Cert.Claim := ⟨Cert.Kernel.Gen.facts, Cert.KernelIdeal.Gen.facts, Cert.ReferenceIdeal.Gen.facts, Cert.Pre_boxes_tame.Gen.facts,
  frame_k, frame_i, frame_i_pre, frame_r, frame_r_pre, trivial, algebraic⟩

end Cert.Proof

end
